-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_handed_over [hPre_handed_over : Cert.Pre_handed_over.Facts] (m : (ℓ : Loc Cert.KernelIdeal.nD Cert.KernelIdeal.τ Cert.KernelIdeal.sig) → Buf (Elt Ideal) ℓ) : Prop :=
  ∀ c : Dev Cert.KernelIdeal.nD,
    (Cert.Pre_handed_over.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_handed_over [hPre_handed_over : Cert.Pre_handed_over.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_handed_over.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_handed_over [hKernelIdeal : Cert.KernelIdeal.Facts] [hPre_handed_over : Cert.Pre_handed_over.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_handed_over m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_handed_over [hReferenceIdeal : Cert.ReferenceIdeal.Facts] [hPre_handed_over : Cert.Pre_handed_over.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_handed_over m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel_KernelIdeal : Prop :=
  True

def algebraic_KernelIdeal_ReferenceIdeal_pre_handed_over [hKernelIdeal : Cert.KernelIdeal.Facts] [hReferenceIdeal : Cert.ReferenceIdeal.Facts] [hPre_handed_over : Cert.Pre_handed_over.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_handed_over m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v49_0)) (v1 : (c : Dev Cert.Kernel4Ideal.nD) → Buf (Elt Ideal) ((c.tc : Thread Cert.Kernel4Ideal.nD Cert.Kernel4Ideal.τ).loc Cert.Kernel4Ideal.main_v49_1)) (v2 : (c : Dev Cert.Kernel4Ideal.nD) → Buf (Elt Ideal) ((c.tc : Thread Cert.Kernel4Ideal.nD Cert.Kernel4Ideal.τ).loc Cert.Kernel4Ideal.main_v49_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v49_0) = v0 c
          ∧ r.2.mem ((c.tc : Thread Cert.Kernel4Ideal.nD Cert.Kernel4Ideal.τ).loc Cert.Kernel4Ideal.main_v49_1) = v1 c
          ∧ r.2.mem ((c.tc : Thread Cert.Kernel4Ideal.nD Cert.Kernel4Ideal.τ).loc Cert.Kernel4Ideal.main_v49_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v70) = v0 c
          ∧ r.2.mem ((c.tc : Thread Cert.Reference4Ideal.nD Cert.Reference4Ideal.τ).loc Cert.Reference4Ideal.main_v96) = v1 c
          ∧ r.2.mem ((c.tc : Thread Cert.Reference4Ideal.nD Cert.Reference4Ideal.τ).loc Cert.Reference4Ideal.main_v102) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_v19) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_handed_over : Cert.Pre_handed_over.Facts),
    quiescent_Kernel (hKernel := hKernel)
    ∧ quiescent_KernelIdeal (hKernelIdeal := hKernelIdeal)
    ∧ quiescent_KernelIdeal_pre_handed_over (hKernelIdeal := hKernelIdeal) (hPre_handed_over := hPre_handed_over)
    ∧ quiescent_ReferenceIdeal (hReferenceIdeal := hReferenceIdeal)
    ∧ quiescent_ReferenceIdeal_pre_handed_over (hReferenceIdeal := hReferenceIdeal) (hPre_handed_over := hPre_handed_over)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_handed_over (hKernelIdeal := hKernelIdeal) (hReferenceIdeal := hReferenceIdeal) (hPre_handed_over := hPre_handed_over)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_handed_over.lean ====
abbrev S16384x768 : Shape := ⟨2, ![16384, 768]⟩
abbrev S480x16384 : Shape := ⟨2, ![480, 16384]⟩
abbrev S_ : Shape := ⟨0, ![]⟩
abbrev S6x80x16384 : Shape := ⟨3, ![6, 80, 16384]⟩
abbrev S6x1x16384 : Shape := ⟨3, ![6, 1, 16384]⟩
abbrev S6x16384 : Shape := ⟨2, ![6, 16384]⟩

class Facts : Prop where
  bitsLt_bf16_f32 : FTy.bits .bf16 < FTy.bits .f32
  bcast_S_S16384x768 : S_.BroadcastsInDim S16384x768 (![] : Fin 0 → Fin S16384x768.rank)
  reducesTo_S16384x768_S_d0_1 : S16384x768.ReducesTo [0, 1] S_
  h_S_ : 0 < S_.numel
  shapeCasts_S480x16384_S6x80x16384 : S480x16384.ShapeCasts S6x80x16384
  slices_S6x80x16384_S6x1x16384_0_64_0 : S6x80x16384.Slices ![0, 64, 0] S6x1x16384
  shapeCasts_S6x1x16384_S6x16384 : S6x1x16384.ShapeCasts S6x16384
  bcast_S_S6x16384 : S_.BroadcastsInDim S6x16384 (![] : Fin 0 → Fin S6x16384.rank)
  reducesTo_S6x16384_S_d0_1 : S6x16384.ReducesTo [0, 1] S_

variable [Facts]

def fn_part1 {F : FTy → Type} [FloatOps F] (main_v10 : IVec S_ 1) (main_v17 : IVec S_ 1) : IVec S_ 1 :=
  let main_v18 : IVec S_ 1 := andi main_v10 main_v17
  main_v18

def fn {F : FTy → Type} [FloatOps F] (main_arg0 : FVec F S16384x768 .bf16) (main_arg1 : FVec F S16384x768 .bf16) (main_arg2 : FVec F S480x16384 .bf16) : IVec S_ 1 :=
  let main_v0 : FVec F S16384x768 .f32 := (extf .f32 · bitsLt_bf16_f32) main_arg0
  let main_v1 : FVec F S16384x768 .f32 := Host.absf main_v0
  let main_cst : FVec F S_ .f32 := constant S_ .f32 0x7F800000#32
  let main_v2 : FVec F S16384x768 .f32 := broadcastInDim S16384x768 ![] bcast_S_S16384x768 main_cst
  let main_v3 : IVec S16384x768 1 := cmpf .olt main_v1 main_v2
  let main_c : IVec S_ 1 := constantI S_ 1 1#1
  let main_v4 : IVec S_ 1 := (fun x v => Host.reduce IntOp.andi x v reducesTo_S16384x768_S_d0_1 h_S_) main_v3 main_c
  let main_v5 : FVec F S16384x768 .f32 := (extf .f32 · bitsLt_bf16_f32) main_arg1
  let main_v6 : FVec F S16384x768 .f32 := Host.absf main_v5
  let main_cst_0 : FVec F S_ .f32 := constant S_ .f32 0x7F800000#32
  let main_v7 : FVec F S16384x768 .f32 := broadcastInDim S16384x768 ![] bcast_S_S16384x768 main_cst_0
  let main_v8 : IVec S16384x768 1 := cmpf .olt main_v6 main_v7
  let main_c_1 : IVec S_ 1 := constantI S_ 1 1#1
  let main_v9 : IVec S_ 1 := (fun x v => Host.reduce IntOp.andi x v reducesTo_S16384x768_S_d0_1 h_S_) main_v8 main_c_1
  let main_v10 : IVec S_ 1 := andi main_v4 main_v9
  let main_v11 : FVec F S480x16384 .f32 := (extf .f32 · bitsLt_bf16_f32) main_arg2
  let main_v12 : FVec F S6x80x16384 .f32 := shapeCast S6x80x16384 main_v11 shapeCasts_S480x16384_S6x80x16384
  let main_v13 : FVec F S6x1x16384 .f32 := (extractStridedSlice S6x1x16384 ![0, 64, 0] · slices_S6x80x16384_S6x1x16384_0_64_0) main_v12
  let main_v14 : FVec F S6x16384 .f32 := shapeCast S6x16384 main_v13 shapeCasts_S6x1x16384_S6x16384
  let main_cst_2 : FVec F S_ .f32 := constant S_ .f32 0x3F800000#32
  let main_v15 : FVec F S6x16384 .f32 := broadcastInDim S6x16384 ![] bcast_S_S6x16384 main_cst_2
  let main_v16 : IVec S6x16384 1 := cmpf .oeq main_v14 main_v15
  let main_c_3 : IVec S_ 1 := constantI S_ 1 1#1
  let main_v17 : IVec S_ 1 := (fun x v => Host.reduce IntOp.andi x v reducesTo_S6x16384_S_d0_1 h_S_) main_v16 main_c_3
  fn_part1 (F := F) main_v10 main_v17
-- ==== Kernel.lean ====
abbrev S16384x768 : Shape := ⟨2, ![16384, 768]⟩
abbrev S480x16384 : Shape := ⟨2, ![480, 16384]⟩
abbrev S272 : Shape := ⟨1, ![272]⟩
abbrev S16384x384 : Shape := ⟨2, ![16384, 384]⟩
abbrev S1024x768 : Shape := ⟨2, ![1024, 768]⟩
abbrev S1 : Shape := ⟨1, ![1]⟩
abbrev S512x768 : Shape := ⟨2, ![512, 768]⟩
abbrev S480x512 : Shape := ⟨2, ![480, 512]⟩
abbrev S1024x384 : Shape := ⟨2, ![1024, 384]⟩
abbrev S6x1x1024 : Shape := ⟨3, ![6, 1, 1024]⟩
abbrev S6x80x1024 : Shape := ⟨3, ![6, 80, 1024]⟩
abbrev S512x128 : Shape := ⟨2, ![512, 128]⟩
abbrev S512x512 : Shape := ⟨2, ![512, 512]⟩
abbrev S1x1x512 : Shape := ⟨3, ![1, 1, 512]⟩
abbrev S1x512 : Shape := ⟨2, ![1, 512]⟩
abbrev S512 : Shape := ⟨1, ![512]⟩
abbrev S80x512 : Shape := ⟨2, ![80, 512]⟩
abbrev S1x80x512 : Shape := ⟨3, ![1, 80, 512]⟩
abbrev S1x80x1024 : Shape := ⟨3, ![1, 80, 1024]⟩
abbrev S80x1024 : Shape := ⟨2, ![80, 1024]⟩
abbrev S64x1024 : Shape := ⟨2, ![64, 1024]⟩
abbrev S1x1024 : Shape := ⟨2, ![1, 1024]⟩
abbrev S1024x64 : Shape := ⟨2, ![1024, 64]⟩

abbrev nBuf : Space → Nat
  | .hbm => 4
  | .vmem => 10
  | .smem => 2
  | _ => 0

abbrev bufTy : (tb : Table) → Fin (tcTables nBuf tb) → BufTy
  | .hbm, ⟨0, _⟩ => ⟨S16384x768, .bf16⟩
  | .hbm, ⟨1, _⟩ => ⟨S16384x768, .bf16⟩
  | .hbm, ⟨2, _⟩ => ⟨S480x16384, .bf16⟩
  | .hbm, ⟨3, _⟩ => ⟨S16384x384, .f32⟩
  | .local _ .vmem, ⟨0, _⟩ => ⟨S1024x768, .bf16⟩
  | .local _ .vmem, ⟨1, _⟩ => ⟨S1024x768, .bf16⟩
  | .local _ .vmem, ⟨2, _⟩ => ⟨S512x768, .bf16⟩
  | .local _ .vmem, ⟨3, _⟩ => ⟨S512x768, .bf16⟩
  | .local _ .vmem, ⟨4, _⟩ => ⟨S480x512, .bf16⟩
  | .local _ .vmem, ⟨5, _⟩ => ⟨S480x512, .bf16⟩
  | .local _ .vmem, ⟨6, _⟩ => ⟨S1024x384, .f32⟩
  | .local _ .vmem, ⟨7, _⟩ => ⟨S1024x384, .f32⟩
  | .local _ .vmem, ⟨8, _⟩ => ⟨S6x1x1024, .f32⟩
  | .local _ .vmem, ⟨9, _⟩ => ⟨S6x80x1024, .f32⟩
  | .local _ .smem, ⟨0, _⟩ => ⟨S272, .i32⟩
  | .local _ .smem, ⟨1, _⟩ => ⟨S272, .i32⟩
  | _, _ => ⟨S16384x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![272], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond5 (v1 : BitVec 32) (v3 : BitVec 32) : BitVec 1 :=
  let c2_i32 : BitVec 32 := 2#32
  let v4 : BitVec 32 := Scalar.muli v1 c2_i32
  let c2_i32_5 : BitVec 32 := 2#32
  let v19 : BitVec 32 := Scalar.addi v4 c2_i32_5
  let c1_i32_6 : BitVec 32 := 1#32
  let v20 : BitVec 32 := Scalar.subi v19 c1_i32_6
  let v21 : BitVec 1 := Scalar.cmpi .eq v3 v20
  let v22 : BitVec 32 := Scalar.extui v21
  let c0_i32_7 : BitVec 32 := 0#32
  let v23 : BitVec 1 := Scalar.cmpi .ne v22 c0_i32_7
  v23

def cc0_transform_0 (k0_off1_inb : ∀ i : grid0.Coords, ∀ a, (k0_off1 i) a + S1.size a ≤ S272.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S272) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S272.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S272) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S272.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S272) ![v0.toNat] S1.size (k0_off1_inb i)) numel1_S1
  let c0_i32 : BitVec 32 := 0#32
  let c0_i32_0 : BitVec 32 := 0#32
  ![c0_i32.toNat, v1.toNat]

def cc0_transform_3 (k0_off1_inb : ∀ i : grid0.Coords, ∀ a, (k0_off1 i) a + S1.size a ≤ S272.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S272) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S480x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16384x768 : Shape := ⟨2, ![16384, 768]⟩
abbrev S480x16384 : Shape := ⟨2, ![480, 16384]⟩
abbrev S16384x6x128 : Shape := ⟨3, ![16384, 6, 128]⟩
abbrev S6x80x16384 : Shape := ⟨3, ![6, 80, 16384]⟩
abbrev S6x64x16384 : Shape := ⟨3, ![6, 64, 16384]⟩
abbrev S16384 : Shape := ⟨1, ![16384]⟩
abbrev S6x16384x16384 : Shape := ⟨3, ![6, 16384, 16384]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩
abbrev S6x16384 : Shape := ⟨2, ![6, 16384]⟩
abbrev S6x16384x1 : Shape := ⟨3, ![6, 16384, 1]⟩
abbrev S16384x6x64 : Shape := ⟨3, ![16384, 6, 64]⟩
abbrev S16384x384 : Shape := ⟨2, ![16384, 384]⟩

abbrev nBuf : Space → Nat
  | .hbm => 43
  | .vmem => 0
  | .smem => 0
  | _ => 0

abbrev bufTy : (tb : Table) → Fin (tcTables nBuf tb) → BufTy
  | .hbm, ⟨0, _⟩ => ⟨S16384x768, .bf16⟩
  | .hbm, ⟨1, _⟩ => ⟨S16384x768, .bf16⟩
  | .hbm, ⟨2, _⟩ => ⟨S480x16384, .bf16⟩
  | .hbm, ⟨3, _⟩ => ⟨S16384x768, .f32⟩
  | .hbm, ⟨4, _⟩ => ⟨S16384x6x128, .f32⟩
  | .hbm, ⟨5, _⟩ => ⟨S16384x768, .f32⟩
  | .hbm, ⟨6, _⟩ => ⟨S16384x6x128, .f32⟩
  | .hbm, ⟨7, _⟩ => ⟨S480x16384, .f32⟩
  | .hbm, ⟨8, _⟩ => ⟨S6x80x16384, .f32⟩
  | .hbm, ⟨9, _⟩ => ⟨S6x64x16384, .f32⟩
  | .hbm, ⟨10, _⟩ => ⟨S16384, .f32⟩
  | .hbm, ⟨11, _⟩ => ⟨S6x16384x16384, .f32⟩
  | .hbm, ⟨12, _⟩ => ⟨S_, .f32⟩
  | .hbm, ⟨13, _⟩ => ⟨S_, .f32⟩
  | .hbm, ⟨14, _⟩ => ⟨S6x16384x16384, .f32⟩
  | .hbm, ⟨15, _⟩ => ⟨S6x16384x16384, .f32⟩
  | .hbm, ⟨16, _⟩ => ⟨S1x16384, .f32⟩
  | .hbm, ⟨17, _⟩ => ⟨S16384x1, .f32⟩
  | .hbm, ⟨18, _⟩ => ⟨S16384x16384, .f32⟩
  | .hbm, ⟨19, _⟩ => ⟨S16384x16384, .f32⟩
  | .hbm, ⟨20, _⟩ => ⟨S16384x16384, .i1⟩
  | .hbm, ⟨21, _⟩ => ⟨S_, .f32⟩
  | .hbm, ⟨22, _⟩ => ⟨S_, .f32⟩
  | .hbm, ⟨23, _⟩ => ⟨S6x16384x16384, .i1⟩
  | .hbm, ⟨24, _⟩ => ⟨S6x16384x16384, .f32⟩
  | .hbm, ⟨25, _⟩ => ⟨S6x16384x16384, .f32⟩
  | .hbm, ⟨26, _⟩ => ⟨S_, .f32⟩
  | .hbm, ⟨27, _⟩ => ⟨S6x16384, .f32⟩
  | .hbm, ⟨28, _⟩ => ⟨S_, .f32⟩
  | .hbm, ⟨29, _⟩ => ⟨S6x16384, .f32⟩
  | .hbm, ⟨30, _⟩ => ⟨S6x16384, .f32⟩
  | .hbm, ⟨31, _⟩ => ⟨S6x16384x1, .f32⟩
  | .hbm, ⟨32, _⟩ => ⟨S6x16384x16384, .f32⟩
  | .hbm, ⟨33, _⟩ => ⟨S6x16384x16384, .f32⟩
  | .hbm, ⟨34, _⟩ => ⟨S6x16384x16384, .f32⟩
  | .hbm, ⟨35, _⟩ => ⟨S_, .f32⟩
  | .hbm, ⟨36, _⟩ => ⟨S6x16384, .f32⟩
  | .hbm, ⟨37, _⟩ => ⟨S6x16384x1, .f32⟩
  | .hbm, ⟨38, _⟩ => ⟨S6x16384x16384, .f32⟩
  | .hbm, ⟨39, _⟩ => ⟨S6x16384x16384, .f32⟩
  | .hbm, ⟨40, _⟩ => ⟨S6x64x16384, .f32⟩
  | .hbm, ⟨41, _⟩ => ⟨S16384x6x64, .f32⟩
  | .hbm, ⟨42, _⟩ => ⟨S16384x384, .f32⟩
  | _, _ => ⟨S16384x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x2816 : Shape := ⟨2, ![1024, 2816]⟩
abbrev S1x1024 : Shape := ⟨2, ![1, 1024]⟩
abbrev S16384x2816 : Shape := ⟨2, ![16384, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .bf16⟩
  | .hbm, ⟨3, _⟩ => ⟨S1x1024, .f32⟩
  | .hbm, ⟨4, _⟩ => ⟨S16384x2816, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S512x2816, .f32⟩
  | .local _ .vmem, ⟨5, _⟩ => ⟨S512x2816, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel2Ideal.lean ====
abbrev S16384x1024 : Shape := ⟨2, ![16384, 1024]⟩
abbrev S1024 : Shape := ⟨1, ![1024]⟩
abbrev S1024x2816 : Shape := ⟨2, ![1024, 2816]⟩
abbrev S1x1024 : Shape := ⟨2, ![1, 1024]⟩
abbrev S16384x2816 : Shape := ⟨2, ![16384, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .bf16⟩
  | .hbm, ⟨3, _⟩ => ⟨S1x1024, .f32⟩
  | .hbm, ⟨4, _⟩ => ⟨S16384x2816, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S512x2816, .f32⟩
  | .local _ .vmem, ⟨5, _⟩ => ⟨S512x2816, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S16384x1024 : Shape := ⟨2, ![16384, 1024]⟩
abbrev S1024 : Shape := ⟨1, ![1024]⟩
abbrev S1024x2816 : Shape := ⟨2, ![1024, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S1024x2816, .f32⟩
  | .hbm, ⟨20, _⟩ => ⟨S16384x2816, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel3.lean ====
abbrev S16384x1024 : Shape := ⟨2, ![16384, 1024]⟩
abbrev S16384x256 : Shape := ⟨2, ![16384, 256]⟩
abbrev S16384x384 : Shape := ⟨2, ![16384, 384]⟩
abbrev S16384x2816 : Shape := ⟨2, ![16384, 2816]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512x256 : Shape := ⟨2, ![512, 256]⟩
abbrev S512x384 : Shape := ⟨2, ![512, 384]⟩
abbrev S256x1024 : Shape := ⟨2, ![256, 1024]⟩
abbrev S384x1024 : Shape := ⟨2, ![384, 1024]⟩
abbrev S512 : Shape := ⟨1, ![512]⟩
abbrev S512x1 : Shape := ⟨2, ![512, 1]⟩

abbrev nBuf : Space → Nat
  | .hbm => 10
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x384, .f32⟩
  | .hbm, ⟨3, _⟩ => ⟨S16384x384, .f32⟩
  | .hbm, ⟨4, _⟩ => ⟨S16384x2816, .f32⟩
  | .hbm, ⟨5, _⟩ => ⟨S1024x1024, .bf16⟩
  | .hbm, ⟨6, _⟩ => ⟨S1024, .f32⟩
  | .hbm, ⟨7, _⟩ => ⟨S1x1024, .f32⟩
  | .hbm, ⟨8, _⟩ => ⟨S16384x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S1024x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel3Ideal.lean ====
abbrev S16384x1024 : Shape := ⟨2, ![16384, 1024]⟩
abbrev S16384x256 : Shape := ⟨2, ![16384, 256]⟩
abbrev S16384x384 : Shape := ⟨2, ![16384, 384]⟩
abbrev S16384x2816 : Shape := ⟨2, ![16384, 2816]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512x256 : Shape := ⟨2, ![512, 256]⟩
abbrev S512x384 : Shape := ⟨2, ![512, 384]⟩
abbrev S256x1024 : Shape := ⟨2, ![256, 1024]⟩
abbrev S384x1024 : Shape := ⟨2, ![384, 1024]⟩
abbrev S512 : Shape := ⟨1, ![512]⟩
abbrev S512x1 : Shape := ⟨2, ![512, 1]⟩

abbrev nBuf : Space → Nat
  | .hbm => 10
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x384, .f32⟩
  | .hbm, ⟨3, _⟩ => ⟨S16384x384, .f32⟩
  | .hbm, ⟨4, _⟩ => ⟨S16384x2816, .f32⟩
  | .hbm, ⟨5, _⟩ => ⟨S1024x1024, .bf16⟩
  | .hbm, ⟨6, _⟩ => ⟨S1024, .f32⟩
  | .hbm, ⟨7, _⟩ => ⟨S1x1024, .f32⟩
  | .hbm, ⟨8, _⟩ => ⟨S16384x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S1024x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S16384x1024 : Shape := ⟨2, ![16384, 1024]⟩
abbrev S16384x256 : Shape := ⟨2, ![16384, 256]⟩
abbrev S16384x384 : Shape := ⟨2, ![16384, 384]⟩
abbrev S16384x2816 : Shape := ⟨2, ![16384, 2816]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x384, .f32⟩
  | .hbm, ⟨3, _⟩ => ⟨S16384x384, .f32⟩
  | .hbm, ⟨4, _⟩ => ⟨S16384x2816, .f32⟩
  | .hbm, ⟨5, _⟩ => ⟨S1024x1024, .bf16⟩
  | .hbm, ⟨6, _⟩ => ⟨S1024, .f32⟩
  | .hbm, ⟨7, _⟩ => ⟨S16384x384, .f32⟩
  | .hbm, ⟨8, _⟩ => ⟨S16384x384, .f32⟩
  | .hbm, ⟨9, _⟩ => ⟨S16384x384, .f32⟩
  | .hbm, ⟨10, _⟩ => ⟨S_, .f32⟩
  | .hbm, ⟨11, _⟩ => ⟨S16384x384, .f32⟩
  | .hbm, ⟨12, _⟩ => ⟨S16384x384, .f32⟩
  | .hbm, ⟨13, _⟩ => ⟨S_, .f32⟩
  | .hbm, ⟨14, _⟩ => ⟨S16384x384, .f32⟩
  | .hbm, ⟨15, _⟩ => ⟨S16384x384, .f32⟩
  | .hbm, ⟨16, _⟩ => ⟨S16384x384, .f32⟩
  | .hbm, ⟨17, _⟩ => ⟨S16384x384, .f32⟩
  | .hbm, ⟨18, _⟩ => ⟨S16384x1024, .f32⟩
  | .hbm, ⟨19, _⟩ => ⟨S1024x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩

abbrev nD : Nat := 1
abbrev τ : Topo := Topo.v7x

variable {F : FTy → Type} [FloatOps F]
-- ==== Kernel4.lean ====
abbrev S1024x2816 : Shape := ⟨2, ![1024, 2816]⟩
abbrev S256 : Shape := ⟨1, ![256]⟩
abbrev S256x768 : Shape := ⟨2, ![256, 768]⟩
abbrev S6x128x384 : Shape := ⟨3, ![6, 128, 384]⟩
abbrev S8 : Shape := ⟨1, ![8]⟩
abbrev S_ : Shape := ⟨0, ![]⟩
abbrev S16 : Shape := ⟨1, ![16]⟩
abbrev S8x1 : Shape := ⟨2, ![8, 1]⟩
abbrev S1x16 : Shape := ⟨2, ![1, 16]⟩
abbrev S8x16 : Shape := ⟨2, ![8, 16]⟩
abbrev S8x32 : Shape := ⟨2, ![8, 32]⟩
abbrev S1x8x1x32 : Shape := ⟨4, ![1, 8, 1, 32]⟩
abbrev S1x8x6x32 : Shape := ⟨4, ![1, 8, 6, 32]⟩
abbrev S8x192 : Shape := ⟨2, ![8, 192]⟩
abbrev S8x256 : Shape := ⟨2, ![8, 256]⟩
abbrev S8x64 : Shape := ⟨2, ![8, 64]⟩
abbrev S8x128 : Shape := ⟨2, ![8, 128]⟩
abbrev S1x8x1x128 : Shape := ⟨4, ![1, 8, 1, 128]⟩
abbrev S128x8x1x128 : Shape := ⟨4, ![128, 8, 1, 128]⟩
abbrev S1024x128 : Shape := ⟨2, ![1024, 128]⟩
abbrev S1x256 : Shape := ⟨2, ![1, 256]⟩
abbrev S1024x256 : Shape := ⟨2, ![1024, 256]⟩
abbrev S1024x32 : Shape := ⟨2, ![1024, 32]⟩
abbrev S1024x2304 : Shape := ⟨2, ![1024, 2304]⟩
abbrev S512x256 : Shape := ⟨2, ![512, 256]⟩
abbrev S512x128 : Shape := ⟨2, ![512, 128]⟩
abbrev S512x32 : Shape := ⟨2, ![512, 32]⟩
abbrev S512x2304 : Shape := ⟨2, ![512, 2304]⟩
abbrev S512 : Shape := ⟨1, ![512]⟩
abbrev S512x1 : Shape := ⟨2, ![512, 1]⟩
abbrev S512x768 : Shape := ⟨2, ![512, 768]⟩
abbrev S1x128x384 : Shape := ⟨3, ![1, 128, 384]⟩
abbrev S128x384 : Shape := ⟨2, ![128, 384]⟩
abbrev S512x384 : Shape := ⟨2, ![512, 384]⟩

abbrev nBuf : Space → Nat
  | .hbm => 72
  | .vmem => 24
  | .smem => 0
  | _ => 0

abbrev bufTy : (tb : Table) → Fin (tcTables nBuf tb) → BufTy
  | .hbm, ⟨0, _⟩ => ⟨S1024x2816, .f32⟩
  | .hbm, ⟨1, _⟩ => ⟨S256, .f32⟩
  | .hbm, ⟨2, _⟩ => ⟨S256, .f32⟩
  | .hbm, ⟨3, _⟩ => ⟨S256x768, .bf16⟩
  | .hbm, ⟨4, _⟩ => ⟨S6x128x384, .bf16⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S8x1, .f32⟩
  | .hbm, ⟨18, _⟩ => ⟨S1x16, .f32⟩
  | .hbm, ⟨19, _⟩ => ⟨S8x16, .f32⟩
  | .hbm, ⟨20, _⟩ => ⟨S8x16, .f32⟩
  | .hbm, ⟨21, _⟩ => ⟨S8x16, .f32⟩
  | .hbm, ⟨22, _⟩ => ⟨S8x16, .f32⟩
  | .hbm, ⟨23, _⟩ => ⟨S8x16, .f32⟩
  | .hbm, ⟨24, _⟩ => ⟨S8x32, .f32⟩
  | .hbm, ⟨25, _⟩ => ⟨S8x16, .f32⟩
  | .hbm, ⟨26, _⟩ => ⟨S8x32, .f32⟩
  | .hbm, ⟨27, _⟩ => ⟨S1x8x1x32, .f32⟩
  | .hbm, ⟨28, _⟩ => ⟨S1x8x6x32, .f32⟩
  | .hbm, ⟨29, _⟩ => ⟨S8x192, .f32⟩
  | .hbm, ⟨30, _⟩ => ⟨S_, .i32⟩
  | .hbm, ⟨31, _⟩ => ⟨S_, .f32⟩
  | .hbm, ⟨32, _⟩ => ⟨S8x256, .f32⟩
  | .hbm, ⟨33, _⟩ => ⟨S1x8x1x32, .f32⟩
  | .hbm, ⟨34, _⟩ => ⟨S1x8x6x32, .f32⟩
  | .hbm, ⟨35, _⟩ => ⟨S8x192, .f32⟩
  | .hbm, ⟨36, _⟩ => ⟨S_, .i32⟩
  | .hbm, ⟨37, _⟩ => ⟨S_, .f32⟩
  | .hbm, ⟨38, _⟩ => ⟨S8x256, .f32⟩
  | .hbm, ⟨39, _⟩ => ⟨S_, .f32⟩
  | .hbm, ⟨40, _⟩ => ⟨S8x64, .f32⟩
  | .hbm, ⟨41, _⟩ => ⟨S_, .f32⟩
  | .hbm, ⟨42, _⟩ => ⟨S8x32, .f32⟩
  | .hbm, ⟨43, _⟩ => ⟨S8x128, .f32⟩
  | .hbm, ⟨44, _⟩ => ⟨S_, .f32⟩
  | .hbm, ⟨45, _⟩ => ⟨S8x64, .f32⟩
  | .hbm, ⟨46, _⟩ => ⟨S_, .f32⟩
  | .hbm, ⟨47, _⟩ => ⟨S8x32, .f32⟩
  | .hbm, ⟨48, _⟩ => ⟨S8x128, .f32⟩
  | .hbm, ⟨49, _⟩ => ⟨S_, .i32⟩
  | .hbm, ⟨50, _⟩ => ⟨S_, .f32⟩
  | .hbm, ⟨51, _⟩ => ⟨S8x128, .f32⟩
  | .hbm, ⟨52, _⟩ => ⟨S_, .i32⟩
  | .hbm, ⟨53, _⟩ => ⟨S_, .f32⟩
  | .hbm, ⟨54, _⟩ => ⟨S8x128, .f32⟩
  | .hbm, ⟨55, _⟩ => ⟨S1x8x1x128, .f32⟩
  | .hbm, ⟨56, _⟩ => ⟨S128x8x1x128, .f32⟩
  | .hbm, ⟨57, _⟩ => ⟨S1024x128, .f32⟩
  | .hbm, ⟨58, _⟩ => ⟨S1x8x1x128, .f32⟩
  | .hbm, ⟨59, _⟩ => ⟨S128x8x1x128, .f32⟩
  | .hbm, ⟨60, _⟩ => ⟨S1024x128, .f32⟩
  | .hbm, ⟨61, _⟩ => ⟨S1x8x1x128, .f32⟩
  | .hbm, ⟨62, _⟩ => ⟨S128x8x1x128, .f32⟩
  | .hbm, ⟨63, _⟩ => ⟨S1024x128, .f32⟩
  | .hbm, ⟨64, _⟩ => ⟨S1x8x1x128, .f32⟩
  | .hbm, ⟨65, _⟩ => ⟨S128x8x1x128, .f32⟩
  | .hbm, ⟨66, _⟩ => ⟨S1024x128, .f32⟩
  | .hbm, ⟨67, _⟩ => ⟨S1x256, .f32⟩
  | .hbm, ⟨68, _⟩ => ⟨S1x256, .f32⟩
  | .hbm, ⟨69, _⟩ => ⟨S1024x256, .f32⟩
  | .hbm, ⟨70, _⟩ => ⟨S1024x32, .f32⟩
  | .hbm, ⟨71, _⟩ => ⟨S1024x2304, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x128, .f32⟩
  | .local _ .vmem, ⟨5, _⟩ => ⟨S512x128, .f32⟩
  | .local _ .vmem, ⟨6, _⟩ => ⟨S1x256, .f32⟩
  | .local _ .vmem, ⟨7, _⟩ => ⟨S1x256, .f32⟩
  | .local _ .vmem, ⟨8, _⟩ => ⟨S256x768, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S6x128x384, .bf16⟩
  | .local _ .vmem, ⟨18, _⟩ => ⟨S512x256, .f32⟩
  | .local _ .vmem, ⟨19, _⟩ => ⟨S512x256, .f32⟩
  | .local _ .vmem, ⟨20, _⟩ => ⟨S512x32, .f32⟩
  | .local _ .vmem, ⟨21, _⟩ => ⟨S512x32, .f32⟩
  | .local _ .vmem, ⟨22, _⟩ => ⟨S512x2304, .bf16⟩
  | .local _ .vmem, ⟨23, _⟩ => ⟨S512x2304, .bf16⟩
  | _, _ => ⟨S1024x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_call0_v0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_2 : Ref sig .tc := ⟨.hbm, 36, rfl⟩
abbrev main_call1_v0 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_call2_v0 : Ref sig .tc := ⟨.hbm, 50, rfl⟩
abbrev main_v33 : Ref sig .tc := ⟨.hbm, 51, rfl⟩
abbrev main_c_8 : Ref sig .tc := ⟨.hbm, 52, rfl⟩
abbrev main_call3_v0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49_0 : Ref sig .tc := ⟨.hbm, 69, rfl⟩
abbrev main_v49_1 : Ref sig .tc := ⟨.hbm, 70, rfl⟩
abbrev main_v49_2 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S6x128x384 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2304 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S1024x2816 : Shape := ⟨2, ![1024, 2816]⟩
abbrev S256 : Shape := ⟨1, ![256]⟩
abbrev S256x768 : Shape := ⟨2, ![256, 768]⟩
abbrev S6x128x384 : Shape := ⟨3, ![6, 128, 384]⟩
abbrev S8 : Shape := ⟨1, ![8]⟩
abbrev S_ : Shape := ⟨0, ![]⟩
abbrev S1x8 : Shape := ⟨2, ![1, 8]⟩
abbrev S128x8 : Shape := ⟨2, ![128, 8]⟩
abbrev S1024 : Shape := ⟨1, ![1024]⟩
abbrev S1024x256 : Shape := ⟨2, ![1024, 256]⟩
abbrev S1024x32 : Shape := ⟨2, ![1024, 32]⟩
abbrev S1024x1 : Shape := ⟨2, ![1024, 1]⟩
abbrev S1x256 : Shape := ⟨2, ![1, 256]⟩
abbrev S1024x768 : Shape := ⟨2, ![1024, 768]⟩
abbrev S1024x6x128 : Shape := ⟨3, ![1024, 6, 128]⟩
abbrev S1024x6x32 : Shape := ⟨3, ![1024, 6, 32]⟩
abbrev S16 : Shape := ⟨1, ![16]⟩
abbrev S1x16 : Shape := ⟨2, ![1, 16]⟩
abbrev S1024x16 : Shape := ⟨2, ![1024, 16]⟩
abbrev S1024x1x16 : Shape := ⟨3, ![1024, 1, 16]⟩
abbrev S1024x6x16 : Shape := ⟨3, ![1024, 6, 16]⟩
abbrev S1024x6x64 : Shape := ⟨3, ![1024, 6, 64]⟩
abbrev S1024x6x96 : Shape := ⟨3, ![1024, 6, 96]⟩
abbrev S1024x1x32 : Shape := ⟨3, ![1024, 1, 32]⟩
abbrev S6x96x384 : Shape := ⟨3, ![6, 96, 384]⟩
abbrev S6x384x1024 : Shape := ⟨3, ![6, 384, 1024]⟩
abbrev S1024x6x384 : Shape := ⟨3, ![1024, 6, 384]⟩
abbrev S1024x2304 : Shape := ⟨2, ![1024, 2304]⟩

abbrev nBuf : Space → Nat
  | .hbm => 120
  | .vmem => 0
  | .smem => 0
  | _ => 0

abbrev bufTy : (tb : Table) → Fin (tcTables nBuf tb) → BufTy
  | .hbm, ⟨0, _⟩ => ⟨S1024x2816, .f32⟩
  | .hbm, ⟨1, _⟩ => ⟨S256, .f32⟩
  | .hbm, ⟨2, _⟩ => ⟨S256, .f32⟩
  | .hbm, ⟨3, _⟩ => ⟨S256x768, .bf16⟩
  | .hbm, ⟨4, _⟩ => ⟨S6x128x384, .bf16⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S1x8, .f32⟩
  | .hbm, ⟨10, _⟩ => ⟨S128x8, .f32⟩
  | .hbm, ⟨11, _⟩ => ⟨S1024, .f32⟩
  | .hbm, ⟨12, _⟩ => ⟨S1024x256, .f32⟩
  | .hbm, ⟨13, _⟩ => ⟨S1024x256, .f32⟩
  | .hbm, ⟨14, _⟩ => ⟨S1024x32, .f32⟩
  | .hbm, ⟨15, _⟩ => ⟨S1024x256, .f32⟩
  | .hbm, ⟨16, _⟩ => ⟨S_, .f32⟩
  | .hbm, ⟨17, _⟩ => ⟨S1024, .f32⟩
  | .hbm, ⟨18, _⟩ => ⟨S1024x1, .f32⟩
  | .hbm, ⟨19, _⟩ => ⟨S_, .f32⟩
  | .hbm, ⟨20, _⟩ => ⟨S1024x1, .f32⟩
  | .hbm, ⟨21, _⟩ => ⟨S1024x1, .f32⟩
  | .hbm, ⟨22, _⟩ => ⟨S_, .f32⟩
  | .hbm, ⟨23, _⟩ => ⟨S1024x1, .f32⟩
  | .hbm, ⟨24, _⟩ => ⟨S1024x1, .f32⟩
  | .hbm, ⟨25, _⟩ => ⟨S1024x1, .f32⟩
  | .hbm, ⟨26, _⟩ => ⟨S1024x256, .f32⟩
  | .hbm, ⟨27, _⟩ => ⟨S1024x256, .f32⟩
  | .hbm, ⟨28, _⟩ => ⟨S1x256, .f32⟩
  | .hbm, ⟨29, _⟩ => ⟨S1024x256, .f32⟩
  | .hbm, ⟨30, _⟩ => ⟨S1024x256, .f32⟩
  | .hbm, ⟨31, _⟩ => ⟨S256x768, .f32⟩
  | .hbm, ⟨32, _⟩ => ⟨S1024x768, .f32⟩
  | .hbm, ⟨33, _⟩ => ⟨S1024x6x128, .f32⟩
  | .hbm, ⟨34, _⟩ => ⟨S1024x6x32, .f32⟩
  | .hbm, ⟨35, _⟩ => ⟨S16, .f32⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S_, .f32⟩
  | .hbm, ⟨41, _⟩ => ⟨S16, .f32⟩
  | .hbm, ⟨42, _⟩ => ⟨S16, .f32⟩
  | .hbm, ⟨43, _⟩ => ⟨S1024x1, .f32⟩
  | .hbm, ⟨44, _⟩ => ⟨S1x16, .f32⟩
  | .hbm, ⟨45, _⟩ => ⟨S1024x16, .f32⟩
  | .hbm, ⟨46, _⟩ => ⟨S1024x16, .f32⟩
  | .hbm, ⟨47, _⟩ => ⟨S1024x16, .f32⟩
  | .hbm, ⟨48, _⟩ => ⟨S1024x16, .f32⟩
  | .hbm, ⟨49, _⟩ => ⟨S1024x1x16, .f32⟩
  | .hbm, ⟨50, _⟩ => ⟨S1024x16, .f32⟩
  | .hbm, ⟨51, _⟩ => ⟨S1024x1x16, .f32⟩
  | .hbm, ⟨52, _⟩ => ⟨S1024x6x16, .f32⟩
  | .hbm, ⟨53, _⟩ => ⟨S1024x6x16, .f32⟩
  | .hbm, ⟨54, _⟩ => ⟨S1024x6x16, .f32⟩
  | .hbm, ⟨55, _⟩ => ⟨S1024x6x16, .f32⟩
  | .hbm, ⟨56, _⟩ => ⟨S1024x6x16, .f32⟩
  | .hbm, ⟨57, _⟩ => ⟨S1024x6x16, .f32⟩
  | .hbm, ⟨58, _⟩ => ⟨S1024x6x16, .f32⟩
  | .hbm, ⟨59, _⟩ => ⟨S1024x6x16, .f32⟩
  | .hbm, ⟨60, _⟩ => ⟨S1024x6x16, .f32⟩
  | .hbm, ⟨61, _⟩ => ⟨S1024x6x16, .f32⟩
  | .hbm, ⟨62, _⟩ => ⟨S1024x6x16, .f32⟩
  | .hbm, ⟨63, _⟩ => ⟨S1024x6x16, .f32⟩
  | .hbm, ⟨64, _⟩ => ⟨S1024x6x32, .f32⟩
  | .hbm, ⟨65, _⟩ => ⟨S1024x6x64, .f32⟩
  | .hbm, ⟨66, _⟩ => ⟨S1024x6x96, .f32⟩
  | .hbm, ⟨67, _⟩ => ⟨S_, .f32⟩
  | .hbm, ⟨68, _⟩ => ⟨S1024x6x96, .f32⟩
  | .hbm, ⟨69, _⟩ => ⟨S1024x6x96, .f32⟩
  | .hbm, ⟨70, _⟩ => ⟨S1024x256, .f32⟩
  | .hbm, ⟨71, _⟩ => ⟨S_, .f32⟩
  | .hbm, ⟨72, _⟩ => ⟨S1024, .f32⟩
  | .hbm, ⟨73, _⟩ => ⟨S1024x1, .f32⟩
  | .hbm, ⟨74, _⟩ => ⟨S_, .f32⟩
  | .hbm, ⟨75, _⟩ => ⟨S1024x1, .f32⟩
  | .hbm, ⟨76, _⟩ => ⟨S1024x1, .f32⟩
  | .hbm, ⟨77, _⟩ => ⟨S_, .f32⟩
  | .hbm, ⟨78, _⟩ => ⟨S1024x1, .f32⟩
  | .hbm, ⟨79, _⟩ => ⟨S1024x1, .f32⟩
  | .hbm, ⟨80, _⟩ => ⟨S1024x1, .f32⟩
  | .hbm, ⟨81, _⟩ => ⟨S1024x256, .f32⟩
  | .hbm, ⟨82, _⟩ => ⟨S1024x256, .f32⟩
  | .hbm, ⟨83, _⟩ => ⟨S1x256, .f32⟩
  | .hbm, ⟨84, _⟩ => ⟨S1024x256, .f32⟩
  | .hbm, ⟨85, _⟩ => ⟨S1024x256, .f32⟩
  | .hbm, ⟨86, _⟩ => ⟨S1024x1x32, .f32⟩
  | .hbm, ⟨87, _⟩ => ⟨S16, .f32⟩
  | .hbm, ⟨88, _⟩ => ⟨S16, .f32⟩
  | .hbm, ⟨89, _⟩ => ⟨S_, .f32⟩
  | .hbm, ⟨90, _⟩ => ⟨S16, .f32⟩
  | .hbm, ⟨91, _⟩ => ⟨S16, .f32⟩
  | .hbm, ⟨92, _⟩ => ⟨S_, .f32⟩
  | .hbm, ⟨93, _⟩ => ⟨S16, .f32⟩
  | .hbm, ⟨94, _⟩ => ⟨S16, .f32⟩
  | .hbm, ⟨95, _⟩ => ⟨S1024x1, .f32⟩
  | .hbm, ⟨96, _⟩ => ⟨S1x16, .f32⟩
  | .hbm, ⟨97, _⟩ => ⟨S1024x16, .f32⟩
  | .hbm, ⟨98, _⟩ => ⟨S1024x16, .f32⟩
  | .hbm, ⟨99, _⟩ => ⟨S1024x16, .f32⟩
  | .hbm, ⟨100, _⟩ => ⟨S1024x16, .f32⟩
  | .hbm, ⟨101, _⟩ => ⟨S1024x1x16, .f32⟩
  | .hbm, ⟨102, _⟩ => ⟨S1024x16, .f32⟩
  | .hbm, ⟨103, _⟩ => ⟨S1024x1x16, .f32⟩
  | .hbm, ⟨104, _⟩ => ⟨S1024x1x16, .f32⟩
  | .hbm, ⟨105, _⟩ => ⟨S1024x1x16, .f32⟩
  | .hbm, ⟨106, _⟩ => ⟨S1024x1x16, .f32⟩
  | .hbm, ⟨107, _⟩ => ⟨S1024x1x16, .f32⟩
  | .hbm, ⟨108, _⟩ => ⟨S1024x1x16, .f32⟩
  | .hbm, ⟨109, _⟩ => ⟨S1024x1x16, .f32⟩
  | .hbm, ⟨110, _⟩ => ⟨S1024x1x16, .f32⟩
  | .hbm, ⟨111, _⟩ => ⟨S1024x1x16, .f32⟩
  | .hbm, ⟨112, _⟩ => ⟨S1024x1x32, .f32⟩
  | .hbm, ⟨113, _⟩ => ⟨S1024x32, .f32⟩
  | .hbm, ⟨114, _⟩ => ⟨S6x96x384, .bf16⟩
  | .hbm, ⟨115, _⟩ => ⟨S6x96x384, .f32⟩
  | .hbm, ⟨116, _⟩ => ⟨S6x384x1024, .f32⟩
  | .hbm, ⟨117, _⟩ => ⟨S1024x6x384, .f32⟩
  | .hbm, ⟨118, _⟩ => ⟨S1024x2304, .f32⟩
  | .hbm, ⟨119, _⟩ => ⟨S1024x2304, .bf16⟩
  | _, _ => ⟨S1024x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_5 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_6 : Ref sig .tc := ⟨.hbm, 71, rfl⟩
abbrev main_v59 : Ref sig .tc := ⟨.hbm, 72, rfl⟩
abbrev main_v60 : Ref sig .tc := ⟨.hbm, 73, rfl⟩
abbrev main_cst_7 : Ref sig .tc := ⟨.hbm, 74, rfl⟩
abbrev main_v61 : Ref sig .tc := ⟨.hbm, 75, rfl⟩
abbrev main_v62 : Ref sig .tc := ⟨.hbm, 76, rfl⟩
abbrev main_cst_8 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_cst_9 : Ref sig .tc := ⟨.hbm, 89, rfl⟩
abbrev main_v74 : Ref sig .tc := ⟨.hbm, 90, rfl⟩
abbrev main_v75 : Ref sig .tc := ⟨.hbm, 91, rfl⟩
abbrev main_cst_10 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩

abbrev nD : Nat := 1
abbrev τ : Topo := Topo.v7x

variable {F : FTy → Type} [FloatOps F]
-- ==== Kernel6.lean ====
abbrev S1024x1024 : Shape := ⟨2, ![1024, 1024]⟩
abbrev S1024 : Shape := ⟨1, ![1024]⟩
abbrev S1024x2816 : Shape := ⟨2, ![1024, 2816]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x2816, .bf16⟩
  | .hbm, ⟨3, _⟩ => ⟨S1x1024, .f32⟩
  | .hbm, ⟨4, _⟩ => ⟨S1024x2816, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S512x2816, .f32⟩
  | .local _ .vmem, ⟨5, _⟩ => ⟨S512x2816, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S1024x1024 : Shape := ⟨2, ![1024, 1024]⟩
abbrev S1024 : Shape := ⟨1, ![1024]⟩
abbrev S1024x2816 : Shape := ⟨2, ![1024, 2816]⟩
abbrev S_ : Shape := ⟨0, ![]⟩
abbrev S1024x1 : Shape := ⟨2, ![1024, 1]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x2816, .bf16⟩
  | .hbm, ⟨3, _⟩ => ⟨S1024x1024, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x1024, .f32⟩
  | .hbm, ⟨15, _⟩ => ⟨S1024x1024, .f32⟩
  | .hbm, ⟨16, _⟩ => ⟨S1x1024, .f32⟩
  | .hbm, ⟨17, _⟩ => ⟨S1024x1024, .f32⟩
  | .hbm, ⟨18, _⟩ => ⟨S1024x1024, .f32⟩
  | .hbm, ⟨19, _⟩ => ⟨S1024x2816, .f32⟩
  | .hbm, ⟨20, _⟩ => ⟨S1024x2816, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel7.lean ====
abbrev S1024x1024 : Shape := ⟨2, ![1024, 1024]⟩
abbrev S1024x256 : Shape := ⟨2, ![1024, 256]⟩
abbrev S1024x384 : Shape := ⟨2, ![1024, 384]⟩
abbrev S1024x2816 : Shape := ⟨2, ![1024, 2816]⟩
abbrev S1024 : Shape := ⟨1, ![1024]⟩
abbrev S1x1024 : Shape := ⟨2, ![1, 1024]⟩
abbrev S512x1024 : Shape := ⟨2, ![512, 1024]⟩
abbrev S512x256 : Shape := ⟨2, ![512, 256]⟩
abbrev S512x384 : Shape := ⟨2, ![512, 384]⟩
abbrev S256x1024 : Shape := ⟨2, ![256, 1024]⟩
abbrev S384x1024 : Shape := ⟨2, ![384, 1024]⟩
abbrev S512 : Shape := ⟨1, ![512]⟩
abbrev S512x1 : Shape := ⟨2, ![512, 1]⟩

abbrev nBuf : Space → Nat
  | .hbm => 10
  | .vmem => 16
  | .smem => 0
  | _ => 0

abbrev bufTy : (tb : Table) → Fin (tcTables nBuf tb) → BufTy
  | .hbm, ⟨0, _⟩ => ⟨S1024x1024, .f32⟩
  | .hbm, ⟨1, _⟩ => ⟨S1024x256, .f32⟩
  | .hbm, ⟨2, _⟩ => ⟨S1024x384, .f32⟩
  | .hbm, ⟨3, _⟩ => ⟨S1024x384, .f32⟩
  | .hbm, ⟨4, _⟩ => ⟨S1024x2816, .f32⟩
  | .hbm, ⟨5, _⟩ => ⟨S1024x1024, .bf16⟩
  | .hbm, ⟨6, _⟩ => ⟨S1024, .f32⟩
  | .hbm, ⟨7, _⟩ => ⟨S1x1024, .f32⟩
  | .hbm, ⟨8, _⟩ => ⟨S1024x1024, .f32⟩
  | .hbm, ⟨9, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S1024x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S1024x1024 : Shape := ⟨2, ![1024, 1024]⟩
abbrev S1024x256 : Shape := ⟨2, ![1024, 256]⟩
abbrev S1024x384 : Shape := ⟨2, ![1024, 384]⟩
abbrev S1024x2816 : Shape := ⟨2, ![1024, 2816]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x256, .f32⟩
  | .hbm, ⟨2, _⟩ => ⟨S1024x384, .f32⟩
  | .hbm, ⟨3, _⟩ => ⟨S1024x384, .f32⟩
  | .hbm, ⟨4, _⟩ => ⟨S1024x2816, .f32⟩
  | .hbm, ⟨5, _⟩ => ⟨S1024x1024, .bf16⟩
  | .hbm, ⟨6, _⟩ => ⟨S1024, .f32⟩
  | .hbm, ⟨7, _⟩ => ⟨S1024x384, .f32⟩
  | .hbm, ⟨8, _⟩ => ⟨S1024x384, .f32⟩
  | .hbm, ⟨9, _⟩ => ⟨S1024x384, .f32⟩
  | .hbm, ⟨10, _⟩ => ⟨S_, .f32⟩
  | .hbm, ⟨11, _⟩ => ⟨S1024x384, .f32⟩
  | .hbm, ⟨12, _⟩ => ⟨S1024x384, .f32⟩
  | .hbm, ⟨13, _⟩ => ⟨S_, .f32⟩
  | .hbm, ⟨14, _⟩ => ⟨S1024x384, .f32⟩
  | .hbm, ⟨15, _⟩ => ⟨S1024x384, .f32⟩
  | .hbm, ⟨16, _⟩ => ⟨S1024x384, .f32⟩
  | .hbm, ⟨17, _⟩ => ⟨S1024x384, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024, .f32⟩
  | .hbm, ⟨25, _⟩ => ⟨S1024x1, .f32⟩
  | .hbm, ⟨26, _⟩ => ⟨S_, .f32⟩
  | .hbm, ⟨27, _⟩ => ⟨S1024x1, .f32⟩
  | .hbm, ⟨28, _⟩ => ⟨S1024x1, .f32⟩
  | .hbm, ⟨29, _⟩ => ⟨S_, .f32⟩
  | .hbm, ⟨30, _⟩ => ⟨S1024x1, .f32⟩
  | .hbm, ⟨31, _⟩ => ⟨S1024x1, .f32⟩
  | .hbm, ⟨32, _⟩ => ⟨S1024x1, .f32⟩
  | .hbm, ⟨33, _⟩ => ⟨S1024x1024, .f32⟩
  | .hbm, ⟨34, _⟩ => ⟨S1024x1024, .f32⟩
  | .hbm, ⟨35, _⟩ => ⟨S1x1024, .f32⟩
  | .hbm, ⟨36, _⟩ => ⟨S1024x1024, .f32⟩
  | .hbm, ⟨37, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩

abbrev nD : Nat := 1
abbrev τ : Topo := Topo.v7x

variable {F : FTy → Type} [FloatOps F]
-- ==== Proof.Handed.lean ====
/- What the precondition says: the queries and keys are real numbers, and each head's value row 64 is one everywhere. -/
module

public import proofs.«01_k».proof.Proof.Gen.Pre_handed_over
public import Idealize.ShloMosaic.Lib.ReduceAll
public import Idealize.ShloMosaic.Lib.IdealHost
public import Idealize.ShloMosaic.Lib.Pipeline.Value

@[expose] public section

set_option maxRecDepth 16384

noncomputable section

namespace Cert.Pre_handed_over.Attn

open Cert.Pre_handed_over Cert.Pre_handed_over.Gen
open Idealize.ShloMosaic Idealize.ShloMosaic.ValueIdx

variable (x0 x1 : S16384x768.Idx → EReal) (x2 : S480x16384.Idx → EReal)

theorem posInf : Ideal.ofBits .f32 0x7F800000#32 = ⊤ := by simp [Ideal.ofBits, Ideal.ieee]
theorem one_f32 : Ideal.ofBits .f32 0x3F800000#32 = 1 := by
  simp [Ideal.ofBits, Ideal.ieee]
  rw [← EReal.coe_mul]; norm_num

theorem and_one (a b : BitVec 1) (h : IntOp.andi a b = 1#1) : a = 1#1 ∧ b = 1#1 := by revert h; revert a b; decide
theorem of_bool {p : Bool} (h : BitVec.ofBool p = 1#1) : p = true := by cases p <;> simp_all

/-- An extended real whose absolute value is below infinity is a real number. -/
theorem real_of_abs_lt (x : EReal) (h : Ideal.cmp .olt (max x (-x)) (Ideal.ofBits .f32 0x7F800000#32) = 1#1) : x = (x.toReal : EReal) := by
  have h := of_decide_eq_true (of_bool h)
  rw [posInf] at h
  induction x with
  | bot => simp at h
  | top => simp at h
  | coe r => rfl

instance : Subsingleton S_.Idx := ⟨fun a b => funext fun i => i.elim0⟩

/-- A head's value row 64, cut from the stacked value rows. -/
theorem onesRow_apply (x : S480x16384.Idx → EReal) (r : Fin 6) (j : Fin 16384) :
    shapeCast S6x16384 (extractStridedSlice S6x1x16384 ![0, 64, 0] (shapeCast S6x80x16384 x shapeCasts_S480x16384_S6x80x16384)
      slices_S6x80x16384_S6x1x16384_0_64_0) shapeCasts_S6x1x16384_S6x16384 (ix2 r j) = x (ix2 (⟨80 * r.val + 64, by omega⟩ : Fin 480) j) :=
  (shapeCast_apply _ _ _ (ix3 r (0 : Fin 1) j) (by rw [Shape.rowMajor_val_three, Shape.rowMajor_val_two]; simp)).trans
    ((extractStridedSlice_apply (s := S6x80x16384) (t := S6x1x16384) _ _ _ _ (ix3 r (64 : Fin 80) j)
      (fun a => by match a with | ⟨0, _⟩ => simp | ⟨1, _⟩ => rfl | ⟨2, _⟩ => simp)).trans
    (shapeCast_apply _ _ _ (ix2 _ j) (by rw [Shape.rowMajor_val_three, Shape.rowMajor_val_two]; simp; ring)))

theorem handed (h : fn (F := Ideal) x0 x1 x2 = fun _ => 1#1) :
    (∀ i, x0 i = ((x0 i).toReal : EReal)) ∧ (∀ i, x1 i = ((x1 i).toReal : EReal))
    ∧ ∀ (r : Fin 6) (j : Fin 16384), x2 (ix2 (⟨80 * r.val + 64, by omega⟩ : Fin 480) j) = 1 := by
  have h := congrFun h ix0
  unfold fn fn_part1 at h
  obtain ⟨h01, h2⟩ := and_one _ _ h
  obtain ⟨h0, h1⟩ := and_one _ _ h01
  refine ⟨fun i => ?_, fun i => ?_, fun r j => ?_⟩
  · have e := Host.reduce_andi_all _ _ _ _ _ h0 i
    exact real_of_abs_lt _ e
  · have e := Host.reduce_andi_all _ _ _ _ _ h1 i
    exact real_of_abs_lt _ e
  · have e := Host.reduce_andi_all _ _ _ _ _ h2 (ix2 r j)
    exact (onesRow_apply x2 r j).symm.trans ((of_decide_eq_true (of_bool e)).trans one_f32)

end Cert.Pre_handed_over.Attn

end
-- ==== Proof.Softmax.lean ====
/- The mathematics of the attention kernel, apart from any program: the running maximum and the running sums of an online
   softmax in powers of two, block after block, and that their quotient is the softmax in powers of e. -/
module

public import Idealize.ShloMosaic.PureOps.Ideal
public import Mathlib.Analysis.SpecialFunctions.Pow.Real
public import Mathlib.Analysis.SpecialFunctions.Log.Basic

@[expose] public section

noncomputable section

namespace Cert.Softmax

open Idealize.ShloMosaic
open scoped BigOperators

variable (s : ℕ → ℝ) (v : ℕ → EReal)

/-- The largest of the first `n` scores; minus infinity of none. -/
def top (n : ℕ) : EReal := (Finset.range n).sup fun j => (s j : EReal)

/-- The first `n` values weighted by the powers of two of their scores, relative to `m`. -/
def wsum (n : ℕ) (m : EReal) : EReal := ∑ j ∈ Finset.range n, v j * Ideal.exp2 ((s j : EReal) - m)

theorem exp2_coe (r : ℝ) : Ideal.exp2 (r : EReal) = ((2 : ℝ) ^ r : ℝ) := rfl
theorem exp2_bot : Ideal.exp2 ⊥ = 0 := rfl
theorem exp_coe (r : ℝ) : Ideal.exp (r : EReal) = (Real.exp r : ℝ) := rfl
theorem exp_bot : Ideal.exp ⊥ = 0 := rfl

/-- Of at least one score the largest is a real number. -/
theorem top_real {n : ℕ} (h : 0 < n) : ∃ m : ℝ, top s n = m := by
  obtain ⟨j, -, hj⟩ := Finset.exists_mem_eq_sup (Finset.range n) ⟨0, Finset.mem_range.mpr h⟩ fun j => (s j : EReal)
  exact ⟨s j, hj⟩

theorem top_zero : top s 0 = ⊥ := rfl
theorem wsum_zero (m : EReal) : wsum s v 0 m = 0 := rfl

/-- A finite nonnegative factor goes into a sum of any extended reals. -/
theorem mul_sum {ι : Type} (a : ℝ) (ha : 0 ≤ a) (S : Finset ι) (f : ι → EReal) : (a : EReal) * ∑ j ∈ S, f j = ∑ j ∈ S, (a : EReal) * f j := by
  classical
  induction S using Finset.induction_on with
  | empty => simp
  | insert x S hx ih =>
    rw [Finset.sum_insert hx, Finset.sum_insert hx, ← ih]
    exact EReal.left_distrib_of_nonneg_of_ne_top (EReal.coe_nonneg.mpr ha) (EReal.coe_ne_top _) _ _

/-- A sum over `c` of `N` indices as a sum over a range. -/
theorem sum_fin_if (N c : ℕ) (hc : c ≤ N) (f : ℕ → EReal) : (∑ i : Fin N, if i.val < c then f i.val else 0) = ∑ i ∈ Finset.range c, f i := by
  rw [Fin.sum_univ_eq_sum_range (fun i => if i < c then f i else 0) N, ← Finset.sum_filter]
  refine Finset.sum_congr (Finset.ext fun i => ?_) fun _ _ => rfl
  simp only [Finset.mem_filter, Finset.mem_range]; omega

/-- One block: the maximum over the first `n` scores and the next `c` ones. -/
theorem top_step (N n c : ℕ) (hc : c ≤ N) (t : Fin N → EReal) (ht : ∀ i, t i = if i.val < c then ((s (n + i.val) : ℝ) : EReal) else ⊥) :
    max (top s n) (Finset.univ.sup t) = top s (n + c) := by
  apply le_antisymm
  · refine max_le (Finset.sup_mono (Finset.range_mono (by omega))) (Finset.sup_le fun i _ => ?_)
    rw [ht]; split
    · exact Finset.le_sup (f := fun j => (s j : EReal)) (Finset.mem_range.mpr (by omega))
    · exact bot_le
  · refine Finset.sup_le fun j hj => ?_
    have hj := Finset.mem_range.mp hj
    by_cases h : j < n
    · exact le_max_of_le_left (Finset.le_sup (f := fun j => (s j : EReal)) (Finset.mem_range.mpr h))
    · refine le_max_of_le_right ?_
      have := Finset.le_sup (f := t) (Finset.mem_univ (⟨j - n, by omega⟩ : Fin N))
      rw [ht, if_pos (show j - n < c by omega)] at this
      simpa [show n + (j - n) = j by omega] using this

/-- One block: the sums over the first `n` values, scaled to the new maximum, plus those over the next `c`. -/
theorem wsum_step (N n c : ℕ) (hc : c ≤ N) (h1 : 0 < c) (t : Fin N → EReal) (ht : ∀ i, t i = if i.val < c then ((s (n + i.val) : ℝ) : EReal) else ⊥)
    (w : Fin N → EReal) (hw : ∀ i, w i = v (n + i.val)) :
    Ideal.exp2 (top s n - top s (n + c)) * wsum s v n (top s n) + ∑ i, w i * Ideal.exp2 (t i - top s (n + c)) = wsum s v (n + c) (top s (n + c)) := by
  obtain ⟨m', hm'⟩ := top_real s (show 0 < n + c by omega)
  rw [hm']
  unfold wsum
  rw [Finset.sum_range_add]
  congr 1
  · rcases Nat.eq_zero_or_pos n with rfl | hn
    · simp
    · obtain ⟨m, hm⟩ := top_real s hn
      rw [hm, ← EReal.coe_sub, exp2_coe, mul_sum _ (Real.rpow_nonneg (by norm_num) _)]
      refine Finset.sum_congr rfl fun j _ => ?_
      rw [mul_left_comm, ← EReal.coe_sub, ← EReal.coe_sub, exp2_coe, exp2_coe, ← EReal.coe_mul, ← Real.rpow_add (by norm_num)]
      congr 3; ring
  · rw [← sum_fin_if N c hc fun i => v (n + i) * Ideal.exp2 ((s (n + i) : EReal) - m')]
    refine Finset.sum_congr rfl fun i _ => ?_
    rw [ht, hw]
    split
    · rfl
    · rw [EReal.bot_sub, exp2_bot, mul_zero]

/-- The softmax in powers of e of scores times log 2, over `N` keys of which the first `n` are seen, is the quotient of the
    weighted sums. -/
theorem softmax_eq (N n : ℕ) (hn : n ≤ N) (h1 : 0 < n) (t : Fin N → EReal) (ht : ∀ i, t i = if i.val < n then ((s i.val * Real.log 2 : ℝ) : EReal) else ⊥)
    (w : Fin N → EReal) (hw : ∀ i, w i = v i.val) (M : EReal) (hM : M = Finset.univ.sup t) :
    ∑ i, w i * Ideal.div (Ideal.exp (t i - M)) (∑ k, Ideal.exp (t k - M))
      = Ideal.div (wsum s v n (top s n)) (wsum s (fun _ => 1) n (top s n)) := by
  obtain ⟨m, hm⟩ := top_real s h1
  have hl : 0 < Real.log 2 := Real.log_pos (by norm_num)
  have hMm : M = ((m * Real.log 2 : ℝ) : EReal) := by
    rw [hM]
    apply le_antisymm
    · refine Finset.sup_le fun i _ => ?_
      rw [ht]; split
      · rename_i hi
        have : ((s i.val : ℝ) : EReal) ≤ m := hm ▸ Finset.le_sup (f := fun j => (s j : EReal)) (Finset.mem_range.mpr hi)
        exact EReal.coe_le_coe_iff.mpr (mul_le_mul_of_nonneg_right (EReal.coe_le_coe_iff.mp this) hl.le)
      · exact bot_le
    · obtain ⟨j, hj, e⟩ := Finset.exists_mem_eq_sup (Finset.range n) ⟨0, Finset.mem_range.mpr h1⟩ fun j => (s j : EReal)
      have hj := Finset.mem_range.mp hj
      have e' : m = s j := EReal.coe_eq_coe_iff.mp (hm.symm.trans e)
      have := Finset.le_sup (f := t) (Finset.mem_univ (⟨j, by omega⟩ : Fin N))
      rwa [ht, if_pos (show j < n from hj), ← e'] at this
  have hexp : ∀ i : Fin N, Ideal.exp (t i - M) = if i.val < n then (((2 : ℝ) ^ (s i.val - m) : ℝ) : EReal) else 0 := fun i => by
    rw [ht, hMm]; split
    · rw [← EReal.coe_sub, exp_coe, Real.rpow_def_of_pos (by norm_num)]; congr 2; ring
    · rw [EReal.bot_sub, exp_bot]
  have hden : ∑ k, Ideal.exp (t k - M) = ((∑ j ∈ Finset.range n, (2 : ℝ) ^ (s j - m) : ℝ) : EReal) := by
    simp only [hexp]
    rw [sum_fin_if N n hn fun i => (((2 : ℝ) ^ (s i - m) : ℝ) : EReal)]
    exact (map_sum (⟨⟨Real.toEReal, rfl⟩, EReal.coe_add⟩ : ℝ →+ EReal) _ _).symm
  have hpos : 0 < ∑ j ∈ Finset.range n, (2 : ℝ) ^ (s j - m) :=
    Finset.sum_pos (fun j _ => Real.rpow_pos_of_pos (by norm_num) _) ⟨0, Finset.mem_range.mpr h1⟩
  have hL : wsum s (fun _ => 1) n (top s n) = ((∑ j ∈ Finset.range n, (2 : ℝ) ^ (s j - m) : ℝ) : EReal) := by
    rw [← hden]; simp only [hexp]
    rw [sum_fin_if N n hn fun i => (((2 : ℝ) ^ (s i - m) : ℝ) : EReal), hm]
    unfold wsum
    refine Finset.sum_congr rfl fun j _ => ?_
    rw [one_mul, ← EReal.coe_sub, exp2_coe]
  rw [hL, hden]
  generalize (∑ j ∈ Finset.range n, (2 : ℝ) ^ (s j - m)) = L at hpos ⊢
  have hL0 : (L : EReal) ≠ 0 := fun h => hpos.ne' (EReal.coe_eq_zero.mp h)
  have hdiv : ∀ x : EReal, Ideal.div x L = ((L⁻¹ : ℝ) : EReal) * x := fun x => by
    unfold Ideal.div; rw [if_neg hL0, ← EReal.coe_inv, mul_comm]
  rw [hdiv]
  unfold wsum
  rw [mul_sum _ (inv_nonneg.mpr hpos.le), ← sum_fin_if N n hn fun i => ((L⁻¹ : ℝ) : EReal) * (v i * Ideal.exp2 ((s i : EReal) - top s n))]
  refine Finset.sum_congr rfl fun i _ => ?_
  rw [hdiv, hexp, hw, hm]
  split
  · rw [← EReal.coe_sub, exp2_coe, mul_left_comm]
  · rw [mul_zero, mul_zero]

end Cert.Softmax

end
-- ==== Proof.Reference.lean ====
/- The reference's attention, element by element: the masked scores of a head and query, their softmax over the keys, and the
   values weighted by it. -/
module

public import proofs.«01_k».proof.Proof.Gen.ReferenceIdeal.Read

@[expose] public section

set_option maxRecDepth 16384

noncomputable section

namespace Cert.ReferenceIdeal.Attn

open Cert.ReferenceIdeal Cert.ReferenceIdeal.Gen Cert.ReferenceIdeal.Read
open Idealize.ShloMosaic Idealize.ShloMosaic.ValueIdx
open scoped BigOperators

variable (x0 x1 : S16384x768.Idx → EReal) (x2 : S480x16384.Idx → EReal)

/-- The places of a head's column, of its value row and of its output column. -/
def hcol (h : Fin 6) (d : Fin 128) : Fin 768 := ⟨128 * h.val + d.val, by omega⟩
def vrow (h : Fin 6) (r : Fin 64) : Fin 480 := ⟨80 * h.val + r.val, by omega⟩
def ocol (h : Fin 6) (d : Fin 64) : Fin 384 := ⟨64 * h.val + d.val, by omega⟩

theorem idx1 (Q : Fin 16384) (h : Fin 6) (d : Fin 128) : idx_main_v1 (ix3 Q h d) = ix2 Q (hcol h d) := funext fun a => Fin.ext (by
  have := Q.isLt; have := h.isLt; have := d.isLt
  match a with
  | ⟨0, _⟩ => show ((Q.val * 6 + h.val) * 128 + d.val) / 768 = Q.val; omega
  | ⟨1, _⟩ => show ((Q.val * 6 + h.val) * 128 + d.val) % 768 = 128 * h.val + d.val; omega)
theorem idx5 (h : Fin 6) (r : Fin 80) (j : Fin 16384) : idx_main_v5 (ix3 h r j) = ix2 (⟨80 * h.val + r.val, by omega⟩ : Fin 480) j := funext fun a => Fin.ext (by
  have := h.isLt; have := r.isLt; have := j.isLt
  match a with
  | ⟨0, _⟩ => show ((h.val * 80 + r.val) * 16384 + j.val) / 16384 = 80 * h.val + r.val; omega
  | ⟨1, _⟩ => show ((h.val * 80 + r.val) * 16384 + j.val) % 16384 = j.val; omega)
theorem idx31 (Q : Fin 16384) (h : Fin 6) (d : Fin 64) : idx_main_v31 (ix2 Q (ocol h d)) = ix3 Q h d := funext fun a => Fin.ext (by
  have := Q.isLt; have := h.isLt; have := d.isLt
  match a with
  | ⟨0, _⟩ => show (Q.val * 384 + (64 * h.val + d.val)) / 384 = Q.val; omega
  | ⟨1, _⟩ => show (Q.val * 384 + (64 * h.val + d.val)) / 64 % 6 = h.val; omega
  | ⟨2, _⟩ => show (Q.val * 384 + (64 * h.val + d.val)) % 64 = d.val; omega)

/-- A value. -/
theorem v6_eq (h : Fin 6) (r : Fin 64) (j : Fin 16384) : val_main_v6 (F := Ideal) x2 (ix3 h r j) = x2 (ix2 (vrow h r) j) := by
  rw [val_main_v6_apply, val_main_v5_apply,
    show idx_main_v6 (ix3 h r j) = ix3 h (⟨r.val, by omega⟩ : Fin 80) j from funext fun a => by match a with | ⟨0, _⟩ => rfl | ⟨1, _⟩ => rfl | ⟨2, _⟩ => rfl,
    idx5]
  rfl

/-- A score before the mask. -/
theorem v8_eq (h : Fin 6) (Q j : Fin 16384) :
    val_main_v8 (F := Ideal) x0 x1 (ix3 h Q j) = ∑ d : Fin 128, x0 (ix2 Q (hcol h d)) * x1 (ix2 j (hcol h d)) := by
  rw [val_main_v8_apply]
  refine Finset.sum_congr rfl fun d _ => ?_
  rw [val_main_v1_apply, val_main_v3_apply]
  refine congrArg₂ (· * ·) (congrArg x0 ?_) (congrArg x1 ?_)
  · rw [← idx1]
  · rw [← idx1]

/-- The logarithm of the constant two. -/
theorem v10_eq (i : S6x16384x16384.Idx) : val_main_v10 (F := Ideal) i = (Real.log 2 : ℝ) := by
  rw [val_main_v10_apply, val_main_v9_apply, val_main_cst_apply]
  show Ideal.log (Ideal.ofBits .f32 0x40000000#32) = _
  have e : Ideal.ofBits .f32 0x40000000#32 = ((2 : ℝ) : EReal) := by
    simp [Ideal.ofBits, Ideal.ieee]
    rw [← EReal.coe_mul]; norm_num
  rw [e, Ideal.log_coe, if_neg (by norm_num)]

/-- A position as a float. -/
theorem v7_eq (i : Fin 16384) : val_main_v7 (F := Ideal) (ix1 i) = ((i.val : ℝ) : EReal) := by
  show (((BitVec.ofNat 32 i.val).toInt : ℝ) : EReal) = _
  have := i.isLt
  rw [BitVec.toInt_eq_toNat_of_lt (by rw [BitVec.toNat_ofNat]; omega), BitVec.toNat_ofNat, Nat.mod_eq_of_lt (by omega)]
  norm_cast

/-- The mask: the key is not after the query. -/
theorem v16_eq (Q j : Fin 16384) : val_main_v16 (F := Ideal) (ix2 Q j) = BitVec.ofBool (decide (j.val ≤ Q.val)) := by
  rw [val_main_v16_apply, val_main_v14_apply, val_main_v12_apply, val_main_v15_apply, val_main_v13_apply]
  have e1 : idx_main_v12 (idx_main_v14 (ix2 Q j)) = ix1 j := funext fun a => by match a with | ⟨0, _⟩ => rfl
  have e2 : idx_main_v13 (idx_main_v15 (ix2 Q j)) = ix1 Q := funext fun a => by match a with | ⟨0, _⟩ => rfl
  rw [e1, e2, v7_eq, v7_eq]
  show BitVec.ofBool (decide (((j.val : ℝ) : EReal) ≤ ((Q.val : ℝ) : EReal))) = _
  congr 2
  rw [EReal.coe_le_coe_iff, Nat.cast_le]

theorem negInf : Ideal.ofBits .f32 0xFF800000#32 = ⊥ := by simp [Ideal.ofBits, Ideal.ieee]

/-- The masked scores of a head and query, times the logarithm of two. -/
theorem v17_eq (h : Fin 6) (Q j : Fin 16384) : val_main_v17 (F := Ideal) x0 x1 (ix3 h Q j)
    = if j.val ≤ Q.val then (∑ d : Fin 128, x0 (ix2 Q (hcol h d)) * x1 (ix2 j (hcol h d))) * (Real.log 2 : ℝ) else ⊥ := by
  rw [val_main_v17_apply, val_main_call0_v1_apply, val_main_v11_apply, val_main_call0_v2_apply, val_main_call0_v0_apply, val_main_cst_0_apply, v8_eq, v10_eq]
  have e : idx_main_call0_v1 (ix3 h Q j) = ix2 Q j := funext fun a => by match a with | ⟨0, _⟩ => rfl | ⟨1, _⟩ => rfl
  rw [e, v16_eq]
  show Scalar.select _ _ (Ideal.ofBits .f32 0xFF800000#32) = _
  rw [negInf]
  by_cases g : j.val ≤ Q.val <;> simp [g, Scalar.select]

/-- The scores of a head and query over the keys, and the largest of them. -/
def row (h : Fin 6) (Q : Fin 16384) : Fin 16384 → EReal := fun j => val_main_v17 (F := Ideal) x0 x1 (ix3 h Q j)

theorem v20_eq (h : Fin 6) (Q : Fin 16384) : val_main_v20 (F := Ideal) x0 x1 (ix2 h Q) = Finset.univ.sup (row x0 x1 h Q) := by
  rw [val_main_v20_apply, val_main_v19_apply, val_main_cst_2_apply]
  show max (Ideal.ofBits .f32 0xFF800000#32) (val_main_v18 (F := Ideal) x0 x1 (ix2 h Q)) = _
  rw [negInf, max_eq_right bot_le]
  unfold val_main_v18
  refine (Host.reduce_eq_fold_single (max : EReal → EReal → EReal) _ _ reducesTo_S6x16384x16384_S6x16384_d2 (by decide) h_S_ (ix2 h Q)).trans ?_
  rw [val_main_cst_1_apply, Ideal.ofBits_def, negInf]
  refine congrArg (Finset.fold max ⊥ · _) (funext fun k => ?_)
  exact congrArg (val_main_v17 (F := Ideal) x0 x1) (funext fun a => Fin.ext (by match a with | ⟨0, _⟩ => rfl | ⟨1, _⟩ => rfl | ⟨2, _⟩ => rfl))

/-- The exponentials of the scores over the largest, and their sum over the keys. -/
theorem v24_eq (h : Fin 6) (Q j : Fin 16384) :
    val_main_v24 (F := Ideal) x0 x1 (ix3 h Q j) = Ideal.exp (row x0 x1 h Q j - Finset.univ.sup (row x0 x1 h Q)) := by
  rw [val_main_v24_apply, val_main_v23_apply, val_main_v22_apply, val_main_v21_apply]
  have e : idx_main_v21 (idx_main_v22 (ix3 h Q j)) = ix2 h Q := funext fun a => by match a with | ⟨0, _⟩ => rfl | ⟨1, _⟩ => rfl
  rw [e, v20_eq]; rfl

theorem v25_eq (h : Fin 6) (Q : Fin 16384) :
    val_main_v25 (F := Ideal) x0 x1 (ix2 h Q) = ∑ k, Ideal.exp (row x0 x1 h Q k - Finset.univ.sup (row x0 x1 h Q)) := by
  rw [val_main_v25_apply, val_main_cst_3_apply, Ideal.ofBits_def, Ideal.ofBits_zero_f32, zero_add]
  refine Finset.sum_congr rfl fun k _ => ?_
  rw [← v24_eq]
  exact congrArg (val_main_v24 (F := Ideal) x0 x1) (funext fun a => by match a with | ⟨0, _⟩ => rfl | ⟨1, _⟩ => rfl | ⟨2, _⟩ => rfl)

/-- The reference's result: the values weighted by the softmax of the scores. -/
theorem v31_eq (h : Fin 6) (d : Fin 64) (Q : Fin 16384) : val_main_v31 (F := Ideal) x0 x1 x2 (ix2 Q (ocol h d))
    = ∑ j, x2 (ix2 (vrow h d) j) * Ideal.div (Ideal.exp (row x0 x1 h Q j - Finset.univ.sup (row x0 x1 h Q)))
        (∑ k, Ideal.exp (row x0 x1 h Q k - Finset.univ.sup (row x0 x1 h Q))) := by
  rw [val_main_v31_apply, idx31, val_main_v30_apply,
    show idx_main_v30 (ix3 Q h d) = ix3 h d Q from funext fun a => by match a with | ⟨0, _⟩ => rfl | ⟨1, _⟩ => rfl | ⟨2, _⟩ => rfl,
    val_main_v29_apply]
  refine Finset.sum_congr rfl fun j _ => ?_
  rw [show lidx_main_v29 (ix3 h d Q) j = ix3 h d j from funext fun a => by match a with | ⟨0, _⟩ => rfl | ⟨1, _⟩ => rfl | ⟨2, _⟩ => rfl,
    show ridx_main_v29 (ix3 h d Q) j = ix3 h Q j from funext fun a => by match a with | ⟨0, _⟩ => rfl | ⟨1, _⟩ => rfl | ⟨2, _⟩ => rfl,
    v6_eq, val_main_v28_apply, v24_eq, val_main_v27_apply, val_main_v26_apply,
    show idx_main_v26 (idx_main_v27 (ix3 h Q j)) = ix2 h Q from funext fun a => by match a with | ⟨0, _⟩ => rfl | ⟨1, _⟩ => rfl,
    v25_eq]
  rfl

end Cert.ReferenceIdeal.Attn

end
-- ==== Proof.KernelIdeal.Tables.lean ====
/- The two tables of the attention call (which query block and which key block a step works on), the steps they give, and the pipeline at them. -/
module

public import proofs.«01_k».proof.Defs
public import proofs.«01_k».proof.Proof.Gen.KernelIdeal
public import proofs.«01_k».proof.Proof.Gen.KernelIdeal.Launch
public import Idealize.ShloMosaic.Lib.Pipeline.Kit
public import Idealize.ShloMosaic.Lib.Pipeline.Frame
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
-- one declaration at a time: the runs and the decided facts are memory-heavy
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The tables and the scratch buffers as the kernel is handed them. -/
abbrev tbQ : Memref sig .tc .smem S272 .i32 := Memref.whole main_c
abbrev tbK : Memref sig .tc .smem S272 .i32 := Memref.whole main_c_0
abbrev scM : Memref sig .tc .vmem S6x1x1024 .f32 := Memref.whole cc0_scratch0
abbrev scA : Memref sig .tc .vmem S6x80x1024 .f32 := Memref.whole cc0_scratch1

/-- The query block of step `n`. -/
def qn (n : ℕ) : ℕ := ([0, 0, 1, 1, 1, 1, 2, 2, 2, 2, 2, 2, 3, 3, 3, 3, 3, 3, 3, 3, 4, 4, 4, 4, 4, 4, 4, 4, 4, 4, 5, 5, 5, 5, 5, 5, 5, 5, 5, 5, 5, 5, 6, 6, 6, 6, 6, 6, 6, 6, 6, 6, 6, 6, 6, 6, 7, 7, 7, 7, 7, 7, 7, 7, 7, 7, 7, 7, 7, 7, 7, 7, 8, 8, 8, 8, 8, 8, 8, 8, 8, 8, 8, 8, 8, 8, 8, 8, 8, 8, 9, 9, 9, 9, 9, 9, 9, 9, 9, 9, 9, 9, 9, 9, 9, 9, 9, 9, 9, 9, 10, 10, 10, 10, 10, 10, 10, 10, 10, 10, 10, 10, 10, 10, 10, 10, 10, 10, 10, 10, 10, 10, 11, 11, 11, 11, 11, 11, 11, 11, 11, 11, 11, 11, 11, 11, 11, 11, 11, 11, 11, 11, 11, 11, 11, 11, 12, 12, 12, 12, 12, 12, 12, 12, 12, 12, 12, 12, 12, 12, 12, 12, 12, 12, 12, 12, 12, 12, 12, 12, 12, 12, 13, 13, 13, 13, 13, 13, 13, 13, 13, 13, 13, 13, 13, 13, 13, 13, 13, 13, 13, 13, 13, 13, 13, 13, 13, 13, 13, 13, 14, 14, 14, 14, 14, 14, 14, 14, 14, 14, 14, 14, 14, 14, 14, 14, 14, 14, 14, 14, 14, 14, 14, 14, 14, 14, 14, 14, 14, 14, 15, 15, 15, 15, 15, 15, 15, 15, 15, 15, 15, 15, 15, 15, 15, 15, 15, 15, 15, 15, 15, 15, 15, 15, 15, 15, 15, 15, 15, 15, 15, 15] : List ℕ).getD n 0
/-- The key block of step `n`. -/
def kn (n : ℕ) : ℕ := ([0, 1, 0, 1, 2, 3, 0, 1, 2, 3, 4, 5, 0, 1, 2, 3, 4, 5, 6, 7, 0, 1, 2, 3, 4, 5, 6, 7, 8, 9, 0, 1, 2, 3, 4, 5, 6, 7, 8, 9, 10, 11, 0, 1, 2, 3, 4, 5, 6, 7, 8, 9, 10, 11, 12, 13, 0, 1, 2, 3, 4, 5, 6, 7, 8, 9, 10, 11, 12, 13, 14, 15, 0, 1, 2, 3, 4, 5, 6, 7, 8, 9, 10, 11, 12, 13, 14, 15, 16, 17, 0, 1, 2, 3, 4, 5, 6, 7, 8, 9, 10, 11, 12, 13, 14, 15, 16, 17, 18, 19, 0, 1, 2, 3, 4, 5, 6, 7, 8, 9, 10, 11, 12, 13, 14, 15, 16, 17, 18, 19, 20, 21, 0, 1, 2, 3, 4, 5, 6, 7, 8, 9, 10, 11, 12, 13, 14, 15, 16, 17, 18, 19, 20, 21, 22, 23, 0, 1, 2, 3, 4, 5, 6, 7, 8, 9, 10, 11, 12, 13, 14, 15, 16, 17, 18, 19, 20, 21, 22, 23, 24, 25, 0, 1, 2, 3, 4, 5, 6, 7, 8, 9, 10, 11, 12, 13, 14, 15, 16, 17, 18, 19, 20, 21, 22, 23, 24, 25, 26, 27, 0, 1, 2, 3, 4, 5, 6, 7, 8, 9, 10, 11, 12, 13, 14, 15, 16, 17, 18, 19, 20, 21, 22, 23, 24, 25, 26, 27, 28, 29, 0, 1, 2, 3, 4, 5, 6, 7, 8, 9, 10, 11, 12, 13, 14, 15, 16, 17, 18, 19, 20, 21, 22, 23, 24, 25, 26, 27, 28, 29, 30, 31] : List ℕ).getD n 0

/-- The same, as the words the tables hold. -/
def qTab : S272.Idx → BitVec 32 := fun x => BitVec.ofNat 32 (qn (x 0).val)
def kTab : S272.Idx → BitVec 32 := fun x => BitVec.ofNat 32 (kn (x 0).val)

theorem lit0_eq : ∀ i : Fin 272, lit0 i = BitVec.ofNat 32 (qn i.val) := by decide +kernel
theorem lit1_eq : ∀ i : Fin 272, lit1 i = BitVec.ofNat 32 (kn i.val) := by decide +kernel

/-- The host's first constant is the table of query blocks; -/
theorem lit0_tab : (fun i : S272.Idx => lit0 (S272.rowMajor i)) = qTab := funext fun i =>
  (lit0_eq (S272.rowMajor i)).trans (congrArg (fun n => BitVec.ofNat 32 (qn n)) (Shape.rowMajor_val_one i))
/-- its second the table of key blocks. -/
theorem lit1_tab : (fun i : S272.Idx => lit1 (S272.rowMajor i)) = kTab := funext fun i =>
  (lit1_eq (S272.rowMajor i)).trans (congrArg (fun n => BitVec.ofNat 32 (kn n)) (Shape.rowMajor_val_one i))

/-- The tables' contents the pipeline runs at. -/
def tabs : pre0.Contents (Elt Ideal) := fun | ⟨0, _⟩ => qTab | ⟨1, _⟩ => kTab | ⟨_ + 2, h⟩ => absurd h (by simp)

theorem inb_w0 : ∀ i : grid0.Coords, ∀ a, (cc0_transform_0 k0_off1_inb numel1_S1 tabs i a + 1) * S1024x768.size a ≤ S16384x768.size a := by decide +kernel
theorem inb_w1 : ∀ i : grid0.Coords, ∀ a, (cc0_transform_1 k0_off1_inb numel1_S1 tabs i a + 1) * S512x768.size a ≤ S16384x768.size a := by decide +kernel
theorem inb_w2 : ∀ i : grid0.Coords, ∀ a, (cc0_transform_2 k0_off1_inb numel1_S1 tabs i a + 1) * S480x512.size a ≤ S480x16384.size a := by decide +kernel
theorem inb_w3 : ∀ i : grid0.Coords, ∀ a, (cc0_transform_3 k0_off1_inb numel1_S1 tabs i a + 1) * S1024x384.size a ≤ S16384x384.size a := by decide +kernel

/-- Every window's block lies inside its array, and takes whole words of it. -/
theorem tabs_ok : ok0 (F := Ideal) tabs :=
  ⟨fun i => ⟨inb_w0 i, .inr (Affine.block_words_dvd (s := S16384x768) (p := EltTy.packing .bf16) (by decide) (by decide))⟩,
    fun i => ⟨inb_w1 i, .inr (Affine.block_words_dvd (s := S16384x768) (p := EltTy.packing .bf16) (by decide) (by decide))⟩,
    fun i => ⟨inb_w2 i, .inr (Affine.block_words_dvd (s := S480x16384) (p := EltTy.packing .bf16) (by decide) (by decide))⟩,
    fun i => ⟨inb_w3 i, .inl rfl⟩⟩

/-- The tables as admissible contents, and the pipeline at them: 272 steps. -/
def adm : (pcfg0 (F := Ideal)).Adm := ⟨tabs, tabs_ok⟩
abbrev cfgA : Pipeline.Cfg sig Λ₀ := cfg0 (F := Ideal) adm
abbrev pcs : Fin 1 → Pipeline.Cfg sig Λ₀ := Pipeline.pin (pcfgs (F := Ideal)) fun _ => adm
abbrev crd (t : Fin cfgA.N) : cfgA.grid.Coords := cfgA.grid.coords t

/-- Each window's staging buffer at step `t`. -/
abbrev ms0 (t : Fin cfgA.N) : Memref sig .tc .vmem S1024x768 .bf16 := spec0_0.stage (cfgA.slots t (0 : Fin 4))
abbrev hs0 (t : Fin cfgA.N) : (ms0 t).IsWhole := hstage0_0 ((cfgA.slots t (0 : Fin 4)).cast nbuf0_0)
abbrev ms1 (t : Fin cfgA.N) : Memref sig .tc .vmem S512x768 .bf16 := spec0_1.stage (cfgA.slots t (1 : Fin 4))
abbrev hs1 (t : Fin cfgA.N) : (ms1 t).IsWhole := hstage0_1 ((cfgA.slots t (1 : Fin 4)).cast nbuf0_1)
abbrev ms2 (t : Fin cfgA.N) : Memref sig .tc .vmem S480x512 .bf16 := spec0_2.stage (cfgA.slots t (2 : Fin 4))
abbrev hs2 (t : Fin cfgA.N) : (ms2 t).IsWhole := hstage0_2 ((cfgA.slots t (2 : Fin 4)).cast nbuf0_2)
abbrev ms3 (t : Fin cfgA.N) : Memref sig .tc .vmem S1024x384 .f32 := spec0_3.stage (cfgA.slots t (3 : Fin 4))
abbrev hs3 (t : Fin cfgA.N) : (ms3 t).IsWhole := hstage0_3 ((cfgA.slots t (3 : Fin 4)).cast nbuf0_3)

/-- The words the body reads at step `i`: its query block and its key block. -/
abbrev wQ (i : grid0.Coords) : BitVec 32 := View.readAt (Elt Ideal) tbQ.view (Rect.unit (s := S272) (k0_off1 i) S1.size (k0_off1_inb i)).toLoadRect qTab (Shape.Idx.first (numel1_S1.symm ▸ Nat.one_pos))
abbrev wK (i : grid0.Coords) : BitVec 32 := View.readAt (Elt Ideal) tbK.view (Rect.unit (s := S272) (k0_off1 i) S1.size (k0_off1_inb i)).toLoadRect kTab (Shape.Idx.first (numel1_S1.symm ▸ Nat.one_pos))

/-- The body's five decisions over those words: first key block; below the diagonal; first and second diagonal block; last. -/
abbrev isFirst (i : grid0.Coords) : Prop := Scalar.cmpi .ne (Scalar.extui (Scalar.cmpi .eq (wK i) 0#32)) 0#32 = 1#1
abbrev isBelow (i : grid0.Coords) : Prop := Scalar.cmpi .ne (Scalar.extui (Scalar.cmpi .slt (wK i) (Scalar.muli (wQ i) 2#32))) 0#32 = 1#1
abbrev isDiag0 (i : grid0.Coords) : Prop := Scalar.cmpi .ne (Scalar.extui (Scalar.cmpi .eq (wK i) (Scalar.addi (Scalar.muli (wQ i) 2#32) 0#32))) 0#32 = 1#1
abbrev isDiag1 (i : grid0.Coords) : Prop := Scalar.cmpi .ne (Scalar.extui (Scalar.cmpi .eq (wK i) (Scalar.addi (Scalar.muli (wQ i) 2#32) 1#32))) 0#32 = 1#1
abbrev isLast (i : grid0.Coords) : Prop := k0_cond5 (wQ i) (wK i) = 1#1

end Cert.KernelIdeal.Attn

end
-- ==== Proof.KernelIdeal.Runs.lean ====
/- The body of the attention kernel run along each of its five control paths: what it leaves in the two scratch buffers and in the output. -/
module

public import proofs.«01_k».proof.Proof.Gen.KernelIdeal.Skeleton
public import proofs.«01_k».proof.Proof.KernelIdeal.Tables

@[expose] public section

set_option maxRecDepth 16384
-- one declaration at a time: the runs and the decided facts are memory-heavy
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

set_option backward.proofsInPublic true in
set_option maxHeartbeats 8000000 in
/-- Path A, the first step: the scratch is set up, then the first diagonal block: what the body leaves in the scratch, with the proof that it does. -/
def runA (c : Dev nD) (i : grid0.Coords) (arg3 : Memref sig .tc .vmem S1024x768 .bf16) (harg3 : arg3.IsWhole) (arg4 : Memref sig .tc .vmem S512x768 .bf16) (harg4 : arg4.IsWhole) (arg5 : Memref sig .tc .vmem S480x512 .bf16) (harg5 : arg5.IsWhole) (arg6 : Memref sig .tc .vmem S1024x384 .f32) (harg6 : arg6.IsWhole)
    (x0 : S1024x768.Idx → Elt Ideal .bf16) (x1 : S512x768.Idx → Elt Ideal .bf16) (x2 : S480x512.Idx → Elt Ideal .bf16)
    (h0 : isFirst i) (h1 : ¬isBelow i) (h2 : isDiag0 i) (h3 : ¬isDiag1 i) (h4 : ¬isLast i) :
    Σ' (outM : Buf (Elt Ideal) ((c : Thread nD τ).loc cc0_scratch0)), { outA : Buf (Elt Ideal) ((c : Thread nD τ).loc cc0_scratch1) //
      ∀ (y3 : S1024x384.Idx → Elt Ideal .f32) (xa0 : Buf (Elt Ideal) ((c : Thread nD τ).loc cc0_scratch0)) (xa1 : Buf (Elt Ideal) ((c : Thread nD τ).loc cc0_scratch1)) (K : PUnit → sProp 𝕄),
        iprop(          (arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbQ.view.loc (c : Thread nD τ) ↦{fullShare.right} qTab)
          ∗ (tbK.view.loc (c : Thread nD τ) ↦{fullShare.right} kTab)
          ∗ owns (c : Thread nD τ) arg6 fullShare y3
          ∗ (scM.view.loc (c : Thread nD τ) ↦{fullShare} xa0)
          ∗ (scA.view.loc (c : Thread nD τ) ↦{fullShare} xa1)
          ∗ (iprop(          (arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbQ.view.loc (c : Thread nD τ) ↦{fullShare.right} qTab)
          ∗ (tbK.view.loc (c : Thread nD τ) ↦{fullShare.right} kTab)
          ∗ owns (c : Thread nD τ) arg6 fullShare y3
          ∗ (scM.view.loc (c : Thread nD τ) ↦{fullShare} outM)
          ∗ (scA.view.loc (c : Thread nD τ) ↦{fullShare} outA)          ) -∗ K ⟨⟩))
          ⊢ wp frame (wpE (defs₀ (F := Ideal)) Variants.none c none) Set.univ (cc0_flash_prompt i tbQ (Memref.isWhole_whole _) tbK (Memref.isWhole_whole _) arg3 harg3 arg4 harg4 arg5 harg5 arg6 harg6 scM (Memref.isWhole_whole _) scA (Memref.isWhole_whole _)) K } :=
  ⟨_, _, fun y3 xa0 xa1 K => by
    unfold owns
    rw [cc0_flash_prompt_eq_skeleton]; unfold cc0_flash_prompt_skel
    iintro ⟨H0, H1, H2, HT0, HT1, ⟨%f3, %hf3, HO⟩, HS0, HS1, Hk⟩
    obtain rfl := harg6.eq_unread hf3
    have hS0 : scM.IsWhole := Memref.isWhole_whole _
    have hS1 : scA.IsWhole := Memref.isWhole_whole _
    have hT0 : tbQ.IsWhole := Memref.isWhole_whole _
    have hT1 : tbK.IsWhole := Memref.isWhole_whole _
    sl_exec! (disch := first | (guard_target = Scalar.cmpi = _; exact h0) | (guard_target = ¬(Scalar.cmpi = _); exact h1) | (guard_target = Scalar.cmpi = _; exact h2) | (guard_target = ¬(Scalar.cmpi = _); exact h3) | (guard_target = ¬(k0_cond5 _ _ = _); exact h4))
    sl_step
    iapply Hk
    isplitl [H0]; · iexact H0
    isplitl [H1]; · iexact H1
    isplitl [H2]; · iexact H2
    isplitl [HT0]; · iexact HT0
    isplitl [HT1]; · iexact HT1
    isplitl [HO]
    · iexists _; isplitr; · ipureintro; exact harg6.read_unread _
      iexact HO
    isplitl [HS0]; · iexact HS0
    iexact HS1⟩

set_option backward.proofsInPublic true in
set_option maxHeartbeats 8000000 in
/-- Path C, the first key block of a later query block: the scratch is set up, then the block in full: what the body leaves in the scratch, with the proof that it does. -/
def runC (c : Dev nD) (i : grid0.Coords) (arg3 : Memref sig .tc .vmem S1024x768 .bf16) (harg3 : arg3.IsWhole) (arg4 : Memref sig .tc .vmem S512x768 .bf16) (harg4 : arg4.IsWhole) (arg5 : Memref sig .tc .vmem S480x512 .bf16) (harg5 : arg5.IsWhole) (arg6 : Memref sig .tc .vmem S1024x384 .f32) (harg6 : arg6.IsWhole)
    (x0 : S1024x768.Idx → Elt Ideal .bf16) (x1 : S512x768.Idx → Elt Ideal .bf16) (x2 : S480x512.Idx → Elt Ideal .bf16)
    (h0 : isFirst i) (h1 : isBelow i) (h2 : ¬isDiag0 i) (h3 : ¬isDiag1 i) (h4 : ¬isLast i) :
    Σ' (outM : Buf (Elt Ideal) ((c : Thread nD τ).loc cc0_scratch0)), { outA : Buf (Elt Ideal) ((c : Thread nD τ).loc cc0_scratch1) //
      ∀ (y3 : S1024x384.Idx → Elt Ideal .f32) (xa0 : Buf (Elt Ideal) ((c : Thread nD τ).loc cc0_scratch0)) (xa1 : Buf (Elt Ideal) ((c : Thread nD τ).loc cc0_scratch1)) (K : PUnit → sProp 𝕄),
        iprop(          (arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbQ.view.loc (c : Thread nD τ) ↦{fullShare.right} qTab)
          ∗ (tbK.view.loc (c : Thread nD τ) ↦{fullShare.right} kTab)
          ∗ owns (c : Thread nD τ) arg6 fullShare y3
          ∗ (scM.view.loc (c : Thread nD τ) ↦{fullShare} xa0)
          ∗ (scA.view.loc (c : Thread nD τ) ↦{fullShare} xa1)
          ∗ (iprop(          (arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbQ.view.loc (c : Thread nD τ) ↦{fullShare.right} qTab)
          ∗ (tbK.view.loc (c : Thread nD τ) ↦{fullShare.right} kTab)
          ∗ owns (c : Thread nD τ) arg6 fullShare y3
          ∗ (scM.view.loc (c : Thread nD τ) ↦{fullShare} outM)
          ∗ (scA.view.loc (c : Thread nD τ) ↦{fullShare} outA)          ) -∗ K ⟨⟩))
          ⊢ wp frame (wpE (defs₀ (F := Ideal)) Variants.none c none) Set.univ (cc0_flash_prompt i tbQ (Memref.isWhole_whole _) tbK (Memref.isWhole_whole _) arg3 harg3 arg4 harg4 arg5 harg5 arg6 harg6 scM (Memref.isWhole_whole _) scA (Memref.isWhole_whole _)) K } :=
  ⟨_, _, fun y3 xa0 xa1 K => by
    unfold owns
    rw [cc0_flash_prompt_eq_skeleton]; unfold cc0_flash_prompt_skel
    iintro ⟨H0, H1, H2, HT0, HT1, ⟨%f3, %hf3, HO⟩, HS0, HS1, Hk⟩
    obtain rfl := harg6.eq_unread hf3
    have hS0 : scM.IsWhole := Memref.isWhole_whole _
    have hS1 : scA.IsWhole := Memref.isWhole_whole _
    have hT0 : tbQ.IsWhole := Memref.isWhole_whole _
    have hT1 : tbK.IsWhole := Memref.isWhole_whole _
    sl_exec! (disch := first | (guard_target = Scalar.cmpi = _; exact h0) | (guard_target = Scalar.cmpi = _; exact h1) | (guard_target = ¬(Scalar.cmpi = _); exact h2) | (guard_target = ¬(Scalar.cmpi = _); exact h3) | (guard_target = ¬(k0_cond5 _ _ = _); exact h4))
    sl_step
    iapply Hk
    isplitl [H0]; · iexact H0
    isplitl [H1]; · iexact H1
    isplitl [H2]; · iexact H2
    isplitl [HT0]; · iexact HT0
    isplitl [HT1]; · iexact HT1
    isplitl [HO]
    · iexists _; isplitr; · ipureintro; exact harg6.read_unread _
      iexact HO
    isplitl [HS0]; · iexact HS0
    iexact HS1⟩

set_option backward.proofsInPublic true in
set_option maxHeartbeats 8000000 in
/-- Path D, a key block below the diagonal: what the body leaves in the scratch, with the proof that it does. -/
def runD (c : Dev nD) (i : grid0.Coords) (arg3 : Memref sig .tc .vmem S1024x768 .bf16) (harg3 : arg3.IsWhole) (arg4 : Memref sig .tc .vmem S512x768 .bf16) (harg4 : arg4.IsWhole) (arg5 : Memref sig .tc .vmem S480x512 .bf16) (harg5 : arg5.IsWhole) (arg6 : Memref sig .tc .vmem S1024x384 .f32) (harg6 : arg6.IsWhole)
    (x0 : S1024x768.Idx → Elt Ideal .bf16) (x1 : S512x768.Idx → Elt Ideal .bf16) (x2 : S480x512.Idx → Elt Ideal .bf16) (xa0 : Buf (Elt Ideal) ((c : Thread nD τ).loc cc0_scratch0)) (xa1 : Buf (Elt Ideal) ((c : Thread nD τ).loc cc0_scratch1))
    (h0 : ¬isFirst i) (h1 : isBelow i) (h2 : ¬isDiag0 i) (h3 : ¬isDiag1 i) (h4 : ¬isLast i) :
    Σ' (outM : Buf (Elt Ideal) ((c : Thread nD τ).loc cc0_scratch0)), { outA : Buf (Elt Ideal) ((c : Thread nD τ).loc cc0_scratch1) //
      ∀ (y3 : S1024x384.Idx → Elt Ideal .f32) (K : PUnit → sProp 𝕄),
        iprop(          (arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbQ.view.loc (c : Thread nD τ) ↦{fullShare.right} qTab)
          ∗ (tbK.view.loc (c : Thread nD τ) ↦{fullShare.right} kTab)
          ∗ owns (c : Thread nD τ) arg6 fullShare y3
          ∗ (scM.view.loc (c : Thread nD τ) ↦{fullShare} xa0)
          ∗ (scA.view.loc (c : Thread nD τ) ↦{fullShare} xa1)
          ∗ (iprop(          (arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbQ.view.loc (c : Thread nD τ) ↦{fullShare.right} qTab)
          ∗ (tbK.view.loc (c : Thread nD τ) ↦{fullShare.right} kTab)
          ∗ owns (c : Thread nD τ) arg6 fullShare y3
          ∗ (scM.view.loc (c : Thread nD τ) ↦{fullShare} outM)
          ∗ (scA.view.loc (c : Thread nD τ) ↦{fullShare} outA)          ) -∗ K ⟨⟩))
          ⊢ wp frame (wpE (defs₀ (F := Ideal)) Variants.none c none) Set.univ (cc0_flash_prompt i tbQ (Memref.isWhole_whole _) tbK (Memref.isWhole_whole _) arg3 harg3 arg4 harg4 arg5 harg5 arg6 harg6 scM (Memref.isWhole_whole _) scA (Memref.isWhole_whole _)) K } :=
  ⟨_, _, fun y3 K => by
    unfold owns
    rw [cc0_flash_prompt_eq_skeleton]; unfold cc0_flash_prompt_skel
    iintro ⟨H0, H1, H2, HT0, HT1, ⟨%f3, %hf3, HO⟩, HS0, HS1, Hk⟩
    obtain rfl := harg6.eq_unread hf3
    have hS0 : scM.IsWhole := Memref.isWhole_whole _
    have hS1 : scA.IsWhole := Memref.isWhole_whole _
    have hT0 : tbQ.IsWhole := Memref.isWhole_whole _
    have hT1 : tbK.IsWhole := Memref.isWhole_whole _
    sl_exec! (disch := first | (guard_target = ¬(Scalar.cmpi = _); exact h0) | (guard_target = Scalar.cmpi = _; exact h1) | (guard_target = ¬(Scalar.cmpi = _); exact h2) | (guard_target = ¬(Scalar.cmpi = _); exact h3) | (guard_target = ¬(k0_cond5 _ _ = _); exact h4))
    sl_step
    iapply Hk
    isplitl [H0]; · iexact H0
    isplitl [H1]; · iexact H1
    isplitl [H2]; · iexact H2
    isplitl [HT0]; · iexact HT0
    isplitl [HT1]; · iexact HT1
    isplitl [HO]
    · iexists _; isplitr; · ipureintro; exact harg6.read_unread _
      iexact HO
    isplitl [HS0]; · iexact HS0
    iexact HS1⟩

set_option backward.proofsInPublic true in
set_option maxHeartbeats 8000000 in
/-- Path E, the first diagonal block: what the body leaves in the scratch, with the proof that it does. -/
def runE (c : Dev nD) (i : grid0.Coords) (arg3 : Memref sig .tc .vmem S1024x768 .bf16) (harg3 : arg3.IsWhole) (arg4 : Memref sig .tc .vmem S512x768 .bf16) (harg4 : arg4.IsWhole) (arg5 : Memref sig .tc .vmem S480x512 .bf16) (harg5 : arg5.IsWhole) (arg6 : Memref sig .tc .vmem S1024x384 .f32) (harg6 : arg6.IsWhole)
    (x0 : S1024x768.Idx → Elt Ideal .bf16) (x1 : S512x768.Idx → Elt Ideal .bf16) (x2 : S480x512.Idx → Elt Ideal .bf16) (xa0 : Buf (Elt Ideal) ((c : Thread nD τ).loc cc0_scratch0)) (xa1 : Buf (Elt Ideal) ((c : Thread nD τ).loc cc0_scratch1))
    (h0 : ¬isFirst i) (h1 : ¬isBelow i) (h2 : isDiag0 i) (h3 : ¬isDiag1 i) (h4 : ¬isLast i) :
    Σ' (outM : Buf (Elt Ideal) ((c : Thread nD τ).loc cc0_scratch0)), { outA : Buf (Elt Ideal) ((c : Thread nD τ).loc cc0_scratch1) //
      ∀ (y3 : S1024x384.Idx → Elt Ideal .f32) (K : PUnit → sProp 𝕄),
        iprop(          (arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbQ.view.loc (c : Thread nD τ) ↦{fullShare.right} qTab)
          ∗ (tbK.view.loc (c : Thread nD τ) ↦{fullShare.right} kTab)
          ∗ owns (c : Thread nD τ) arg6 fullShare y3
          ∗ (scM.view.loc (c : Thread nD τ) ↦{fullShare} xa0)
          ∗ (scA.view.loc (c : Thread nD τ) ↦{fullShare} xa1)
          ∗ (iprop(          (arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbQ.view.loc (c : Thread nD τ) ↦{fullShare.right} qTab)
          ∗ (tbK.view.loc (c : Thread nD τ) ↦{fullShare.right} kTab)
          ∗ owns (c : Thread nD τ) arg6 fullShare y3
          ∗ (scM.view.loc (c : Thread nD τ) ↦{fullShare} outM)
          ∗ (scA.view.loc (c : Thread nD τ) ↦{fullShare} outA)          ) -∗ K ⟨⟩))
          ⊢ wp frame (wpE (defs₀ (F := Ideal)) Variants.none c none) Set.univ (cc0_flash_prompt i tbQ (Memref.isWhole_whole _) tbK (Memref.isWhole_whole _) arg3 harg3 arg4 harg4 arg5 harg5 arg6 harg6 scM (Memref.isWhole_whole _) scA (Memref.isWhole_whole _)) K } :=
  ⟨_, _, fun y3 K => by
    unfold owns
    rw [cc0_flash_prompt_eq_skeleton]; unfold cc0_flash_prompt_skel
    iintro ⟨H0, H1, H2, HT0, HT1, ⟨%f3, %hf3, HO⟩, HS0, HS1, Hk⟩
    obtain rfl := harg6.eq_unread hf3
    have hS0 : scM.IsWhole := Memref.isWhole_whole _
    have hS1 : scA.IsWhole := Memref.isWhole_whole _
    have hT0 : tbQ.IsWhole := Memref.isWhole_whole _
    have hT1 : tbK.IsWhole := Memref.isWhole_whole _
    sl_exec! (disch := first | (guard_target = ¬(Scalar.cmpi = _); exact h0) | (guard_target = ¬(Scalar.cmpi = _); exact h1) | (guard_target = Scalar.cmpi = _; exact h2) | (guard_target = ¬(Scalar.cmpi = _); exact h3) | (guard_target = ¬(k0_cond5 _ _ = _); exact h4))
    sl_step
    iapply Hk
    isplitl [H0]; · iexact H0
    isplitl [H1]; · iexact H1
    isplitl [H2]; · iexact H2
    isplitl [HT0]; · iexact HT0
    isplitl [HT1]; · iexact HT1
    isplitl [HO]
    · iexists _; isplitr; · ipureintro; exact harg6.read_unread _
      iexact HO
    isplitl [HS0]; · iexact HS0
    iexact HS1⟩

set_option backward.proofsInPublic true in
set_option maxHeartbeats 8000000 in
/-- Path B, the second diagonal block, and the output is written: what the body leaves in the scratch and stores in the output, with the proof that it does. -/
def runB (c : Dev nD) (i : grid0.Coords) (arg3 : Memref sig .tc .vmem S1024x768 .bf16) (harg3 : arg3.IsWhole) (arg4 : Memref sig .tc .vmem S512x768 .bf16) (harg4 : arg4.IsWhole) (arg5 : Memref sig .tc .vmem S480x512 .bf16) (harg5 : arg5.IsWhole) (arg6 : Memref sig .tc .vmem S1024x384 .f32) (harg6 : arg6.IsWhole)
    (x0 : S1024x768.Idx → Elt Ideal .bf16) (x1 : S512x768.Idx → Elt Ideal .bf16) (x2 : S480x512.Idx → Elt Ideal .bf16) (xa0 : Buf (Elt Ideal) ((c : Thread nD τ).loc cc0_scratch0)) (xa1 : Buf (Elt Ideal) ((c : Thread nD τ).loc cc0_scratch1))
    (h0 : ¬isFirst i) (h1 : ¬isBelow i) (h2 : ¬isDiag0 i) (h3 : isDiag1 i) (h4 : isLast i) :
    Σ' (out : List (View.Piece (Elt Ideal) S1024x384 .f32)) (outM : Buf (Elt Ideal) ((c : Thread nD τ).loc cc0_scratch0)), { outA : Buf (Elt Ideal) ((c : Thread nD τ).loc cc0_scratch1) //
      ∀ (K : PUnit → sProp 𝕄),
        iprop(          (arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbQ.view.loc (c : Thread nD τ) ↦{fullShare.right} qTab)
          ∗ (tbK.view.loc (c : Thread nD τ) ↦{fullShare.right} kTab)
          ∗ (∃ d, owns (c : Thread nD τ) arg6 fullShare d)
          ∗ (scM.view.loc (c : Thread nD τ) ↦{fullShare} xa0)
          ∗ (scA.view.loc (c : Thread nD τ) ↦{fullShare} xa1)
          ∗ (iprop(          (arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbQ.view.loc (c : Thread nD τ) ↦{fullShare.right} qTab)
          ∗ (tbK.view.loc (c : Thread nD τ) ↦{fullShare.right} kTab)
          ∗ (∃ f, arg6.view.loc (c : Thread nD τ) ↦[arg6.view.set]{fullShare} arg6.view.writes (Elt Ideal) f out)
          ∗ (scM.view.loc (c : Thread nD τ) ↦{fullShare} outM)
          ∗ (scA.view.loc (c : Thread nD τ) ↦{fullShare} outA)          ) -∗ K ⟨⟩))
          ⊢ wp frame (wpE (defs₀ (F := Ideal)) Variants.none c none) Set.univ (cc0_flash_prompt i tbQ (Memref.isWhole_whole _) tbK (Memref.isWhole_whole _) arg3 harg3 arg4 harg4 arg5 harg5 arg6 harg6 scM (Memref.isWhole_whole _) scA (Memref.isWhole_whole _)) K } :=
  ⟨_, _, _, fun K => by
    unfold owns
    rw [cc0_flash_prompt_eq_skeleton]; unfold cc0_flash_prompt_skel
    iintro ⟨H0, H1, H2, HT0, HT1, ⟨%d3, %f3, -, HO⟩, HS0, HS1, Hk⟩
    have hS0 : scM.IsWhole := Memref.isWhole_whole _
    have hS1 : scA.IsWhole := Memref.isWhole_whole _
    have hT0 : tbQ.IsWhole := Memref.isWhole_whole _
    have hT1 : tbK.IsWhole := Memref.isWhole_whole _
    sl_exec! (disch := first | (guard_target = ¬(Scalar.cmpi = _); exact h0) | (guard_target = ¬(Scalar.cmpi = _); exact h1) | (guard_target = ¬(Scalar.cmpi = _); exact h2) | (guard_target = Scalar.cmpi = _; exact h3) | (guard_target = k0_cond5 _ _ = _; exact h4))
    sl_step
    iapply Hk
    isplitl [H0]; · iexact H0
    isplitl [H1]; · iexact H1
    isplitl [H2]; · iexact H2
    isplitl [HT0]; · iexact HT0
    isplitl [HT1]; · iexact HT1
    isplitl [HO]; · iexists _; iexact HO
    isplitl [HS0]; · iexact HS0
    iexact HS1⟩

/-- One staging buffer of the output window, through which its contents are stated. -/
abbrev VO : View sig .tc .vmem S1024x384 .f32 := (Memref.whole cc0_stg3_0 : Memref sig .tc .vmem S1024x384 .f32).view

/-- The six stores of path B tile the output's block. -/
theorem cover_B (c : Dev nD) (i : grid0.Coords) (arg3 : Memref sig .tc .vmem S1024x768 .bf16) (harg3 : arg3.IsWhole) (arg4 : Memref sig .tc .vmem S512x768 .bf16) (harg4 : arg4.IsWhole) (arg5 : Memref sig .tc .vmem S480x512 .bf16) (harg5 : arg5.IsWhole) (arg6 : Memref sig .tc .vmem S1024x384 .f32) (harg6 : arg6.IsWhole)
    (x0 : S1024x768.Idx → Elt Ideal .bf16) (x1 : S512x768.Idx → Elt Ideal .bf16) (x2 : S480x512.Idx → Elt Ideal .bf16) (xa0 : Buf (Elt Ideal) ((c : Thread nD τ).loc cc0_scratch0)) (xa1 : Buf (Elt Ideal) ((c : Thread nD τ).loc cc0_scratch1))
    (h0 : ¬isFirst i) (h1 : ¬isBelow i) (h2 : ¬isDiag0 i) (h3 : isDiag1 i) (h4 : isLast i) (y : S1024x384.Idx) :
    ∃ pc ∈ (runB c i arg3 harg3 arg4 harg4 arg5 harg5 arg6 harg6 x0 x1 x2 xa0 xa1 h0 h1 h2 h3 h4).1, y ∈ pc.1.set :=
  View.cover_of_tiledL (runB c i arg3 harg3 arg4 harg4 arg5 harg5 arg6 harg6 x0 x1 x2 xa0 xa1 h0 h1 h2 h3 h4).1 S1024x64.size (by sl_kernel_rfl) y

end Cert.KernelIdeal.Attn

end
-- ==== Proof.KernelIdeal.Pay.lean ====
/- What one head and strip of one step computes, element by element: the scores, the causal mask, the running maximum and
   the running sums. -/
module

public import proofs.«01_k».proof.Proof.Gen.KernelIdeal.Skeleton
public import Idealize.ShloMosaic.PureOps.Ideal
public import Idealize.ShloMosaic.PureOps.Ideal.Laws
public import Idealize.ShloMosaic.Lib.ValueIdx
public import Idealize.ShloMosaic.Lib.Pipeline.Value

@[expose] public section

noncomputable section

namespace Cert.KernelIdeal.Attn

open Cert.KernelIdeal Cert.KernelIdeal.Gen
open Idealize.ShloMosaic Idealize.ShloMosaic.ValueIdx
open scoped BigOperators

/-- The word of minus infinity. -/
theorem negInf : Ideal.ofBits .f32 0xFF800000#32 = ⊥ := by simp [Ideal.ofBits, Ideal.ieee]

/-- The scores of 512 keys against 512 queries: key rows times query rows. -/
abbrev sc (k q : Vec Ideal S512x128 .bf16) : FVec Ideal S512x512 .f32 := k0_pay18 k q
/-- The scores with minus infinity where the key comes after the query. -/
abbrev msk (s : FVec Ideal S512x512 .f32) : FVec Ideal S512x512 .f32 := k0_pay104 s k0_pay103 (Scalar.ofBits .f32 0xFF800000#32)
/-- The new running maxima. -/
abbrev newM (s : FVec Ideal S512x512 .f32) (mo : Vec Ideal S1x1x512 .f32) : FVec Ideal S1x1x512 .f32 := k0_pay22 s mo
/-- The new running sums. -/
abbrev newA (s : FVec Ideal S512x512 .f32) (mo : Vec Ideal S1x1x512 .f32) (v : Vec Ideal S80x512 .bf16) (ao : Vec Ideal S1x80x512 .f32) :
    FVec Ideal S1x80x512 .f32 := k0_pay21 s mo v ao

theorem sc_apply (k q : Vec Ideal S512x128 .bf16) (i j : Fin 512) :
    sc k q (ix2 i j) = ∑ d : Fin 128, (k (ix2 i d) : EReal) * q (ix2 j d) := by
  unfold sc k0_pay18
  refine (Ideal.matmul_constant_zero_apply (φ₁ := .bf16) (φ₂ := .bf16) dot_S512x128_S512x128_S512x512_1_1_0_0_n_n none k q (ix2 i j)).trans ?_
  rw [← Equiv.sum_comp (contrEquiv1 dot_S512x128_S512x128_S512x512_1_1_0_0_n_n 128 rfl rfl).symm]
  refine Finset.sum_congr rfl fun d _ => ?_
  have hk := contrEquiv1_symm_val dot_S512x128_S512x128_S512x512_1_1_0_0_n_n 128 rfl rfl d
  congr 2
  · funext a; exact Fin.ext (by
      match a with
      | ⟨0, _⟩ => rfl
      | ⟨1, _⟩ => exact hk)
  · funext a; exact Fin.ext (by
      match a with
      | ⟨0, _⟩ => rfl
      | ⟨1, _⟩ => exact hk)

/-- A number below 512 as a word of 32 bits, read signed. -/
theorem word_toInt (i : Fin 512) : (BitVec.ofNat 32 i.val).toInt = i.val := by
  have := i.isLt
  rw [BitVec.toInt_eq_toNat_of_lt (by rw [BitVec.toNat_ofNat]; omega), BitVec.toNat_ofNat]; omega

theorem msk_apply (s : FVec Ideal S512x512 .f32) (i j : Fin 512) :
    msk s (ix2 i j) = if i.val ≤ j.val then s (ix2 i j) else ⊥ := by
  have e : k0_pay103 (ix2 i j) = BitVec.ofBool (decide (i.val ≤ j.val)) := by
    show BitVec.ofBool (BitVec.sle (iota .tc S512x512 32 [0] iota_S512x512_d0_w32 (ix2 i j)) (iota .tc S512x512 32 [1] iota_S512x512_d1_w32 (ix2 i j))) = _
    rw [iota_single_apply, iota_single_apply]
    congr 1
    show BitVec.sle (BitVec.ofNat 32 i.val) (BitVec.ofNat 32 j.val) = _
    have h1 : (BitVec.ofNat 32 i.val).toInt = i.val := word_toInt i
    have h2 : (BitVec.ofNat 32 j.val).toInt = j.val := word_toInt j
    simp [BitVec.sle, h1, h2]
  show Scalar.select (k0_pay103 (ix2 i j)) (s (ix2 i j)) (Ideal.ofBits .f32 0xFF800000#32) = _
  rw [e, negInf]
  by_cases h : i.val ≤ j.val <;> simp [h, Scalar.select]

/-- The largest score of a query, and the old maximum. -/
theorem rowMax_apply (s : FVec Ideal S512x512 .f32) (mo : Vec Ideal S1x1x512 .f32) (j : Fin 512) :
    k0_pay20 s mo (ix2 (0 : Fin 1) j) = max (mo (ix3 (0 : Fin 1) (0 : Fin 1) j)) (Finset.univ.sup fun i : Fin 512 => s (ix2 i j)) := by
  refine congrArg₂ max (shapeCast_apply mo _ _ (ix3 (0 : Fin 1) (0 : Fin 1) j) (by rw [Shape.rowMajor_val_three, Shape.rowMajor_val_two]; rfl))
    ((shapeCast_apply _ _ _ (ix1 j) (by rw [Shape.rowMajor_val_one, Shape.rowMajor_val_two]; simp)).trans ?_)
  refine (Ideal.multiReduction_maximumf_single s _ reduces_S512x512_S512 _ _ _).trans ?_
  rw [Ideal.ofBits_def, negInf]
  refine congrArg (Finset.fold max ⊥ · _) (funext fun i => ?_)
  refine congrArg s (funext fun a => Fin.ext ?_)
  match a with
  | ⟨0, _⟩ => rfl
  | ⟨1, _⟩ => rfl

theorem newM_apply (s : FVec Ideal S512x512 .f32) (mo : Vec Ideal S1x1x512 .f32) (j : Fin 512) :
    newM s mo (ix3 (0 : Fin 1) (0 : Fin 1) j) = max (mo (ix3 (0 : Fin 1) (0 : Fin 1) j)) (Finset.univ.sup fun i : Fin 512 => s (ix2 i j)) := by
  rw [← rowMax_apply]
  exact shapeCast_apply (k0_pay20 s mo) shapeCasts_S1x512_S1x1x512 _ (ix2 (0 : Fin 1) j) (by rw [Shape.rowMajor_val_three, Shape.rowMajor_val_two]; rfl)

/-- The old sums scaled to the new maximum, plus the values weighted by the exponentials of the scores. -/
theorem newA_apply (s : FVec Ideal S512x512 .f32) (mo : Vec Ideal S1x1x512 .f32) (v : Vec Ideal S80x512 .bf16) (ao : Vec Ideal S1x80x512 .f32)
    (r : Fin 80) (j : Fin 512) :
    newA s mo v ao (ix3 (0 : Fin 1) r j)
      = Ideal.exp2 (mo (ix3 (0 : Fin 1) (0 : Fin 1) j) - newM s mo (ix3 (0 : Fin 1) (0 : Fin 1) j)) * ao (ix3 (0 : Fin 1) r j)
        + ∑ i : Fin 512, v (ix2 r i) * Ideal.exp2 (s (ix2 i j) - newM s mo (ix3 (0 : Fin 1) (0 : Fin 1) j)) := by
  rw [newM_apply, ← rowMax_apply]
  unfold newA k0_pay21
  refine (shapeCast_apply (s := S80x512) (t := S1x80x512) _ shapeCasts_S80x512_S1x80x512 (ix3 (0 : Fin 1) r j) (ix2 r j) (by rw [Shape.rowMajor_val_three, Shape.rowMajor_val_two]; simp)).trans ?_
  refine congrArg₂ (· + ·) (congrArg₂ (· * ·) ?_ ?_) ?_
  · refine (broadcastTo_apply _ _ _ (ix2 (0 : Fin 1) j) (fun a => by match a with | ⟨0, _⟩ => rfl | ⟨1, _⟩ => rfl)).trans ?_
    refine congrArg Ideal.exp2 (congrArg₂ (· - ·) ?_ rfl)
    exact shapeCast_apply mo _ _ (ix3 (0 : Fin 1) (0 : Fin 1) j) (by rw [Shape.rowMajor_val_three, Shape.rowMajor_val_two]; rfl)
  · exact shapeCast_apply ao _ _ (ix3 (0 : Fin 1) r j) (by rw [Shape.rowMajor_val_three, Shape.rowMajor_val_two]; simp)
  · refine (Ideal.matmul_constant_zero_apply (φ₁ := .bf16) (φ₂ := .bf16) dot_S80x512_S512x512_S80x512_1_0_0_1_n_n none v _ (ix2 r j)).trans ?_
    rw [← Equiv.sum_comp (contrEquiv1 dot_S80x512_S512x512_S80x512_1_0_0_1_n_n 512 rfl rfl).symm]
    refine Finset.sum_congr rfl fun d _ => ?_
    have hk := contrEquiv1_symm_val dot_S80x512_S512x512_S80x512_1_0_0_1_n_n 512 rfl rfl d
    have el : dot_S80x512_S512x512_S80x512_1_0_0_1_n_n.lhsIdx (ix2 r j) ((contrEquiv1 dot_S80x512_S512x512_S80x512_1_0_0_1_n_n 512 rfl rfl).symm d) = ix2 r d := by
      funext a; exact Fin.ext (by
        match a with
        | ⟨0, _⟩ => rfl
        | ⟨1, _⟩ => exact hk)
    have er : dot_S80x512_S512x512_S80x512_1_0_0_1_n_n.rhsIdx (ix2 r j) ((contrEquiv1 dot_S80x512_S512x512_S80x512_1_0_0_1_n_n 512 rfl rfl).symm d) = ix2 d j := by
      funext a; exact Fin.ext (by
        match a with
        | ⟨0, _⟩ => exact hk
        | ⟨1, _⟩ => rfl)
    rw [el, er]
    refine congrArg (v (ix2 r d) * ·) (congrArg Ideal.exp2 (congrArg (s (ix2 d j) - ·) ?_))
    exact broadcastTo_apply _ _ _ (ix2 (0 : Fin 1) j) (fun a => by match a with | ⟨0, _⟩ => rfl | ⟨1, _⟩ => rfl)

/-- One head's output: its sums over 64 value rows, each divided by the sum of the weights, row 64. -/
theorem quot_apply (a : Vec Ideal S1x80x1024 .f32) (j : Fin 1024) (d : Fin 64) :
    k0_pay10 (F := Ideal) a (ix2 j d) = Ideal.div (a (ix3 (0 : Fin 1) (⟨d.val, by omega⟩ : Fin 80) j)) (a (ix3 (0 : Fin 1) (64 : Fin 80) j)) := by
  unfold k0_pay10
  refine (transpose_apply (s := S64x1024) (t := S1024x64) [1, 0] _ transposes_S64x1024_p1_0_S1024x64 (ix2 j d) (ix2 d j) (fun b => by match b with | ⟨0, _⟩ => rfl | ⟨1, _⟩ => rfl)).trans ?_
  refine congrArg₂ Ideal.div ?_ ?_
  · refine (extractStridedSlice_apply (s := S80x1024) (t := S64x1024) _ _ _ _ (ix2 (⟨d.val, by omega⟩ : Fin 80) j) (fun b => by match b with | ⟨0, _⟩ => simp | ⟨1, _⟩ => simp)).trans ?_
    exact shapeCast_apply a _ _ (ix3 (0 : Fin 1) (⟨d.val, by omega⟩ : Fin 80) j) (by rw [Shape.rowMajor_val_three, Shape.rowMajor_val_two]; simp)
  · refine (broadcastTo_apply (s := S1x1024) (t := S64x1024) _ _ _ (ix2 (0 : Fin 1) j) (fun b => by match b with | ⟨0, _⟩ => rfl | ⟨1, _⟩ => rfl)).trans ?_
    refine (extractStridedSlice_apply (s := S80x1024) (t := S1x1024) _ _ _ _ (ix2 (64 : Fin 80) j) (fun b => by match b with | ⟨0, _⟩ => rfl | ⟨1, _⟩ => simp)).trans ?_
    exact shapeCast_apply a _ _ (ix3 (0 : Fin 1) (64 : Fin 80) j) (by rw [Shape.rowMajor_val_three, Shape.rowMajor_val_two]; simp)

end Cert.KernelIdeal.Attn

end
-- ==== Proof.KernelIdeal.Pieces.lean ====
/- What the body stores, path by path, as one list of pieces: for each head and each strip of 512 queries the new running
   maximum and the new running sums. -/
module

public import proofs.«01_k».proof.Proof.KernelIdeal.Runs
public import proofs.«01_k».proof.Proof.KernelIdeal.Pay

@[expose] public section

set_option maxRecDepth 16384

noncomputable section

namespace Cert.KernelIdeal.Attn

open Cert.KernelIdeal Cert.KernelIdeal.Gen
open Idealize.ShloMosaic Idealize.ShloMosaic.ValueIdx
open Idealize.ShloMosaic.TcCoe

/-- A head and a strip of its queries. -/
abbrev Chain := Fin 6 × Fin 2

/-- Where a head and strip's maxima lie in the scratch, -/
def rM (p : Chain) : Rect S6x1x1024 := Rect.unit ![p.1.val, 0, 512 * p.2.val] S1x1x512.size fun a => by
  have := p.1.isLt; have := p.2.isLt
  match a with
  | ⟨0, _⟩ => show p.1.val + 1 ≤ 6; omega
  | ⟨1, _⟩ => show 0 + 1 ≤ 1; omega
  | ⟨2, _⟩ => show 512 * p.2.val + 512 ≤ 1024; omega
/-- and where its sums lie. -/
def rA (p : Chain) : Rect S6x80x1024 := Rect.unit ![p.1.val, 0, 512 * p.2.val] S1x80x512.size fun a => by
  have := p.1.isLt; have := p.2.isLt
  match a with
  | ⟨0, _⟩ => show p.1.val + 1 ≤ 6; omega
  | ⟨1, _⟩ => show 0 + 80 ≤ 80; omega
  | ⟨2, _⟩ => show 512 * p.2.val + 512 ≤ 1024; omega
/-- The columns of a head in the key block, -/
def rK (h : Fin 6) : Rect S512x768 := Rect.unit ![0, 128 * h.val] S512x128.size fun a => by
  have := h.isLt
  match a with
  | ⟨0, _⟩ => show 0 + 512 ≤ 512; omega
  | ⟨1, _⟩ => show 128 * h.val + 128 ≤ 768; omega
/-- the columns of a head and the rows of a strip in the query block, -/
def rQ (p : Chain) : Rect S1024x768 := Rect.unit ![512 * p.2.val, 128 * p.1.val] S512x128.size fun a => by
  have := p.1.isLt; have := p.2.isLt
  match a with
  | ⟨0, _⟩ => show 512 * p.2.val + 512 ≤ 1024; omega
  | ⟨1, _⟩ => show 128 * p.1.val + 128 ≤ 768; omega
/-- and the rows of a head in the value block. -/
def rV (h : Fin 6) : Rect S480x512 := Rect.unit ![80 * h.val, 0] S80x512.size fun a => by
  have := h.isLt
  match a with
  | ⟨0, _⟩ => show 80 * h.val + 80 ≤ 480; omega
  | ⟨1, _⟩ => show 0 + 512 ≤ 512; omega

section
variable (arg3 : Memref sig .tc .vmem S1024x768 .bf16) (arg4 : Memref sig .tc .vmem S512x768 .bf16) (arg5 : Memref sig .tc .vmem S480x512 .bf16)
    (x0 : S1024x768.Idx → Elt Ideal .bf16) (x1 : S512x768.Idx → Elt Ideal .bf16) (x2 : S480x512.Idx → Elt Ideal .bf16)

/-- The scores of a head and strip as the body loads their operands, -/
def ldS (p : Chain) : FVec Ideal S512x512 .f32 :=
  sc (View.readAt (Elt Ideal) arg4.view (rK p.1).toLoadRect (arg4.view.rep x1)) (View.readAt (Elt Ideal) arg3.view (rQ p).toLoadRect (arg3.view.rep x0))
/-- and a head's values. -/
def ldV (p : Chain) : Vec Ideal S80x512 .bf16 := View.readAt (Elt Ideal) arg5.view (rV p.1).toLoadRect (arg5.view.rep x2)
/-- The scores, masked on one strip. -/
def ldSd (d : Fin 2) (p : Chain) : FVec Ideal S512x512 .f32 := bif p.2 == d then msk (ldS arg3 arg4 x0 x1 p) else ldS arg3 arg4 x0 x1 p
end

/-- The heads and strips in the order of the stores, the last first; and those of the second strip alone. -/
def both : List Chain := [(5, 1), (5, 0), (4, 1), (4, 0), (3, 1), (3, 0), (2, 1), (2, 0), (1, 1), (1, 0), (0, 1), (0, 0)]
def upper : List Chain := [(5, 1), (4, 1), (3, 1), (2, 1), (1, 1), (0, 1)]

section
variable (S : Chain → FVec Ideal S512x512 .f32) (v : Chain → Vec Ideal S80x512 .bf16)
    (oM : Chain → Vec Ideal S1x1x512 .f32) (oA : Chain → Vec Ideal S1x80x512 .f32)

/-- What is stored for a head and strip, from the maxima and sums before. -/
def pcM (p : Chain) : View.Piece (Elt Ideal) S6x1x1024 .f32 := ⟨rM p, newM (S p) (oM p)⟩
def pcA (p : Chain) : View.Piece (Elt Ideal) S6x80x1024 .f32 := ⟨rA p, newA (S p) (oM p) (v p) (oA p)⟩
end

/-- The maxima and the sums of a head and strip in a scratch's contents. -/
def atM (c : Dev nD) (xa0 : Buf (Elt Ideal) ((c : Thread nD τ).loc cc0_scratch0)) (p : Chain) : Vec Ideal S1x1x512 .f32 :=
  View.readAt (Elt Ideal) scM.view (rM p).toLoadRect xa0
def atA (c : Dev nD) (xa1 : Buf (Elt Ideal) ((c : Thread nD τ).loc cc0_scratch1)) (p : Chain) : Vec Ideal S1x80x512 .f32 :=
  View.readAt (Elt Ideal) scA.view (rA p).toLoadRect xa1

/-- The lists of a path that sets the scratch up first: each head and strip reads what the list so far holds. -/
def buildM (S : Chain → FVec Ideal S512x512 .f32) : List Chain → List (View.Piece (Elt Ideal) S6x1x1024 .f32)
  | [] => [⟨Rect.unit (s := S6x1x1024) ![0, 0, 0] S6x1x1024.size (fun a => by match a with | ⟨0, _⟩ => exact le_rfl | ⟨1, _⟩ => exact le_rfl | ⟨2, _⟩ => exact le_rfl), k0_pay1 (F := Ideal)⟩]
  | p :: l => pcM S (fun p => scM.view.readCov (buildM S l) (rM p).toLoadRect) p :: buildM S l
def buildA (S : Chain → FVec Ideal S512x512 .f32) (v : Chain → Vec Ideal S80x512 .bf16) : List Chain → List (View.Piece (Elt Ideal) S6x80x1024 .f32)
  | [] => [⟨Rect.unit (s := S6x80x1024) ![0, 0, 0] S6x80x1024.size (fun a => by match a with | ⟨0, _⟩ => exact le_rfl | ⟨1, _⟩ => exact le_rfl | ⟨2, _⟩ => exact le_rfl), k0_pay2 (F := Ideal)⟩]
  | p :: l => pcA S v (fun p => scM.view.readCov (buildM S l) (rM p).toLoadRect) (fun p => scA.view.readCov (buildA S v l) (rA p).toLoadRect) p :: buildA S v l

theorem build_step {S : Chain → FVec Ideal S512x512 .f32} {v : Chain → Vec Ideal S80x512 .bf16} {L L' X X' l p} (h : L = buildM S l ∧ L' = buildA S v l)
    (hX : X = pcM S (fun p => scM.view.readCov L (rM p).toLoadRect) p :: L)
    (hX' : X' = pcA S v (fun p => scM.view.readCov L (rM p).toLoadRect) (fun p => scA.view.readCov L' (rA p).toLoadRect) p :: L') :
    X = buildM S (p :: l) ∧ X' = buildA S v (p :: l) := by
  obtain ⟨rfl, rfl⟩ := h; subst hX hX'; exact ⟨rfl, rfl⟩

section
variable (c : Dev nD) (i : grid0.Coords) (arg3 : Memref sig .tc .vmem S1024x768 .bf16) (harg3 : arg3.IsWhole) (arg4 : Memref sig .tc .vmem S512x768 .bf16) (harg4 : arg4.IsWhole) (arg5 : Memref sig .tc .vmem S480x512 .bf16) (harg5 : arg5.IsWhole) (arg6 : Memref sig .tc .vmem S1024x384 .f32) (harg6 : arg6.IsWhole)
    (x0 : S1024x768.Idx → Elt Ideal .bf16) (x1 : S512x768.Idx → Elt Ideal .bf16) (x2 : S480x512.Idx → Elt Ideal .bf16) (xa0 : Buf (Elt Ideal) ((c : Thread nD τ).loc cc0_scratch0)) (xa1 : Buf (Elt Ideal) ((c : Thread nD τ).loc cc0_scratch1))

/-- Below the diagonal. -/
theorem runD_fst (h0 : ¬isFirst i) (h1 : isBelow i) (h2 : ¬isDiag0 i) (h3 : ¬isDiag1 i) (h4 : ¬isLast i) :
    (runD c i arg3 harg3 arg4 harg4 arg5 harg5 arg6 harg6 x0 x1 x2 xa0 xa1 h0 h1 h2 h3 h4).1
      = scM.view.writes (Elt Ideal) scM.view.junk (both.map (pcM (ldS arg3 arg4 x0 x1) (atM c xa0))) := by
    unfold runD; dsimp only
    refine congrArg (scM.view.writes (Elt Ideal) scM.view.junk) ?_
    unfold runD.sl.HS0_12 both
    simp only [List.map_cons, List.map_nil]
    iterate 12 refine congrArg₂ List.cons rfl ?_
    rfl

theorem runD_snd (h0 : ¬isFirst i) (h1 : isBelow i) (h2 : ¬isDiag0 i) (h3 : ¬isDiag1 i) (h4 : ¬isLast i) :
    (runD c i arg3 harg3 arg4 harg4 arg5 harg5 arg6 harg6 x0 x1 x2 xa0 xa1 h0 h1 h2 h3 h4).2.1
      = scA.view.writes (Elt Ideal) scA.view.junk (both.map (pcA (ldS arg3 arg4 x0 x1) (ldV arg5 x2) (atM c xa0) (atA c xa1))) := by
    unfold runD; dsimp only
    refine congrArg (scA.view.writes (Elt Ideal) scA.view.junk) ?_
    unfold runD.sl.HS1_12 both
    simp only [List.map_cons, List.map_nil]
    iterate 12 refine congrArg₂ List.cons rfl ?_
    rfl

/-- On the first diagonal block. -/
theorem runE_fst (h0 : ¬isFirst i) (h1 : ¬isBelow i) (h2 : isDiag0 i) (h3 : ¬isDiag1 i) (h4 : ¬isLast i) :
    (runE c i arg3 harg3 arg4 harg4 arg5 harg5 arg6 harg6 x0 x1 x2 xa0 xa1 h0 h1 h2 h3 h4).1
      = scM.view.writes (Elt Ideal) scM.view.junk (both.map (pcM (ldSd arg3 arg4 x0 x1 0) (atM c xa0))) := by
    unfold runE; dsimp only
    refine congrArg (scM.view.writes (Elt Ideal) scM.view.junk) ?_
    unfold runE.sl.HS0_12 both
    simp only [List.map_cons, List.map_nil]
    iterate 12 refine congrArg₂ List.cons rfl ?_
    rfl

theorem runE_snd (h0 : ¬isFirst i) (h1 : ¬isBelow i) (h2 : isDiag0 i) (h3 : ¬isDiag1 i) (h4 : ¬isLast i) :
    (runE c i arg3 harg3 arg4 harg4 arg5 harg5 arg6 harg6 x0 x1 x2 xa0 xa1 h0 h1 h2 h3 h4).2.1
      = scA.view.writes (Elt Ideal) scA.view.junk (both.map (pcA (ldSd arg3 arg4 x0 x1 0) (ldV arg5 x2) (atM c xa0) (atA c xa1))) := by
    unfold runE; dsimp only
    refine congrArg (scA.view.writes (Elt Ideal) scA.view.junk) ?_
    unfold runE.sl.HS1_12 both
    simp only [List.map_cons, List.map_nil]
    iterate 12 refine congrArg₂ List.cons rfl ?_
    rfl

/-- On the second diagonal block: the second strip alone. -/
theorem runB_fst (h0 : ¬isFirst i) (h1 : ¬isBelow i) (h2 : ¬isDiag0 i) (h3 : isDiag1 i) (h4 : isLast i) :
    (runB c i arg3 harg3 arg4 harg4 arg5 harg5 arg6 harg6 x0 x1 x2 xa0 xa1 h0 h1 h2 h3 h4).2.1
      = scM.view.writes (Elt Ideal) xa0 (upper.map (pcM (ldSd arg3 arg4 x0 x1 1) (atM c xa0))) := by
    unfold runB; dsimp only
    refine congrArg (scM.view.writes (Elt Ideal) xa0) ?_
    unfold upper
    simp only [List.map_cons, List.map_nil]
    iterate 6 refine congrArg₂ List.cons rfl ?_
    rfl

theorem runB_snd (h0 : ¬isFirst i) (h1 : ¬isBelow i) (h2 : ¬isDiag0 i) (h3 : isDiag1 i) (h4 : isLast i) :
    (runB c i arg3 harg3 arg4 harg4 arg5 harg5 arg6 harg6 x0 x1 x2 xa0 xa1 h0 h1 h2 h3 h4).2.2.1
      = scA.view.writes (Elt Ideal) xa1 (upper.map (pcA (ldSd arg3 arg4 x0 x1 1) (ldV arg5 x2) (atM c xa0) (atA c xa1))) := by
    unfold runB; dsimp only
    refine congrArg (scA.view.writes (Elt Ideal) xa1) ?_
    unfold runB.sl.HS1_6 upper
    simp only [List.map_cons, List.map_nil]
    iterate 6 refine congrArg₂ List.cons rfl ?_
    rfl

/-- Where a head's output lies in the output block, and its sums in the scratch. -/
def rO (h : Fin 6) : Rect S1024x384 := Rect.unit ![0, 64 * h.val] S1024x64.size fun a => by
  have := h.isLt
  match a with
  | ⟨0, _⟩ => show 0 + 1024 ≤ 1024; omega
  | ⟨1, _⟩ => show 64 * h.val + 64 ≤ 384; omega
def rH (h : Fin 6) : Rect S6x80x1024 := Rect.unit ![h.val, 0, 0] S1x80x1024.size fun a => by
  have := h.isLt
  match a with
  | ⟨0, _⟩ => show h.val + 1 ≤ 6; omega
  | ⟨1, _⟩ => show 0 + 80 ≤ 80; omega
  | ⟨2, _⟩ => show 0 + 1024 ≤ 1024; omega

/-- What is stored of a head in the output block, from the scratch's sums. -/
def pcO (c : Dev nD) (a : Buf (Elt Ideal) ((c : Thread nD τ).loc cc0_scratch1)) (h : Fin 6) : View.Piece (Elt Ideal) S1024x384 .f32 :=
  ⟨rO h, k0_pay10 (F := Ideal) (View.readAt (Elt Ideal) scA.view (rH h).toLoadRect a)⟩

theorem runB_out (h0 : ¬isFirst i) (h1 : ¬isBelow i) (h2 : ¬isDiag0 i) (h3 : isDiag1 i) (h4 : isLast i) :
    (runB c i arg3 harg3 arg4 harg4 arg5 harg5 arg6 harg6 x0 x1 x2 xa0 xa1 h0 h1 h2 h3 h4).1 = ([5, 4, 3, 2, 1, 0] : List (Fin 6)).map (pcO c (runB c i arg3 harg3 arg4 harg4 arg5 harg5 arg6 harg6 x0 x1 x2 xa0 xa1 h0 h1 h2 h3 h4).2.2.1) := by
    unfold runB; dsimp only
    show _ = List.map (pcO c (scA.view.writes (Elt Ideal) xa1 (runB.sl.HS1_6 c arg3 arg4 arg5 x0 x1 x2 xa0 xa1))) _
    unfold runB.sl.HO_6
    simp only [List.map_cons, List.map_nil]
    iterate 6 refine congrArg₂ List.cons rfl ?_
    rfl

/-- The first block of all: the lists, -/
theorem runA_lists : runA.sl.HS0_13 arg3 arg4 x0 x1 = buildM (ldSd arg3 arg4 x0 x1 0) both ∧ runA.sl.HS1_13 arg3 arg4 arg5 x0 x1 x2 = buildA (ldSd arg3 arg4 x0 x1 0) (ldV arg5 x2) both := by
  refine build_step (L := runA.sl.HS0_12 arg3 arg4 x0 x1) (L' := runA.sl.HS1_12 arg3 arg4 arg5 x0 x1 x2) ?_ rfl rfl
  refine build_step (L := runA.sl.HS0_11 arg3 arg4 x0 x1) (L' := runA.sl.HS1_11 arg3 arg4 arg5 x0 x1 x2) ?_ rfl rfl
  refine build_step (L := runA.sl.HS0_10 arg3 arg4 x0 x1) (L' := runA.sl.HS1_10 arg3 arg4 arg5 x0 x1 x2) ?_ rfl rfl
  refine build_step (L := runA.sl.HS0_9 arg3 arg4 x0 x1) (L' := runA.sl.HS1_9 arg3 arg4 arg5 x0 x1 x2) ?_ rfl rfl
  refine build_step (L := runA.sl.HS0_8 arg3 arg4 x0 x1) (L' := runA.sl.HS1_8 arg3 arg4 arg5 x0 x1 x2) ?_ rfl rfl
  refine build_step (L := runA.sl.HS0_7 arg3 arg4 x0 x1) (L' := runA.sl.HS1_7 arg3 arg4 arg5 x0 x1 x2) ?_ rfl rfl
  refine build_step (L := runA.sl.HS0_6 arg3 arg4 x0 x1) (L' := runA.sl.HS1_6 arg3 arg4 arg5 x0 x1 x2) ?_ rfl rfl
  refine build_step (L := runA.sl.HS0_5 arg3 arg4 x0 x1) (L' := runA.sl.HS1_5 arg3 arg4 arg5 x0 x1 x2) ?_ rfl rfl
  refine build_step (L := runA.sl.HS0_4 arg3 arg4 x0 x1) (L' := runA.sl.HS1_4 arg3 arg4 arg5 x0 x1 x2) ?_ rfl rfl
  refine build_step (L := runA.sl.HS0_3 arg3 arg4 x0 x1) (L' := runA.sl.HS1_3 arg3 arg4 arg5 x0 x1 x2) ?_ rfl rfl
  refine build_step (L := runA.sl.HS0_2 arg3 arg4 x0 x1) (L' := runA.sl.HS1_2 arg3 arg4 arg5 x0 x1 x2) ?_ rfl rfl
  refine build_step (L := runA.sl.HS0_1) (L' := runA.sl.HS1_1) ?_ rfl rfl
  exact ⟨rfl, rfl⟩

/-- and what the scratch holds. -/
theorem runA_fst (h0 : isFirst i) (h1 : ¬isBelow i) (h2 : isDiag0 i) (h3 : ¬isDiag1 i) (h4 : ¬isLast i) :
    (runA c i arg3 harg3 arg4 harg4 arg5 harg5 arg6 harg6 x0 x1 x2 h0 h1 h2 h3 h4).1 = scM.view.writes (Elt Ideal) scM.view.junk (buildM (ldSd arg3 arg4 x0 x1 0) both) := by
  unfold runA; dsimp only
  exact congrArg (scM.view.writes (Elt Ideal) scM.view.junk) (runA_lists arg3 arg4 arg5 x0 x1 x2).1

theorem runA_snd (h0 : isFirst i) (h1 : ¬isBelow i) (h2 : isDiag0 i) (h3 : ¬isDiag1 i) (h4 : ¬isLast i) :
    (runA c i arg3 harg3 arg4 harg4 arg5 harg5 arg6 harg6 x0 x1 x2 h0 h1 h2 h3 h4).2.1 = scA.view.writes (Elt Ideal) scA.view.junk (buildA (ldSd arg3 arg4 x0 x1 0) (ldV arg5 x2) both) := by
  unfold runA; dsimp only
  exact congrArg (scA.view.writes (Elt Ideal) scA.view.junk) (runA_lists arg3 arg4 arg5 x0 x1 x2).2

/-- The first block of a later query block: the lists, -/
theorem runC_lists : runC.sl.HS0_13 arg3 arg4 x0 x1 = buildM (ldS arg3 arg4 x0 x1) both ∧ runC.sl.HS1_13 arg3 arg4 arg5 x0 x1 x2 = buildA (ldS arg3 arg4 x0 x1) (ldV arg5 x2) both := by
  refine build_step (L := runC.sl.HS0_12 arg3 arg4 x0 x1) (L' := runC.sl.HS1_12 arg3 arg4 arg5 x0 x1 x2) ?_ rfl rfl
  refine build_step (L := runC.sl.HS0_11 arg3 arg4 x0 x1) (L' := runC.sl.HS1_11 arg3 arg4 arg5 x0 x1 x2) ?_ rfl rfl
  refine build_step (L := runC.sl.HS0_10 arg3 arg4 x0 x1) (L' := runC.sl.HS1_10 arg3 arg4 arg5 x0 x1 x2) ?_ rfl rfl
  refine build_step (L := runC.sl.HS0_9 arg3 arg4 x0 x1) (L' := runC.sl.HS1_9 arg3 arg4 arg5 x0 x1 x2) ?_ rfl rfl
  refine build_step (L := runC.sl.HS0_8 arg3 arg4 x0 x1) (L' := runC.sl.HS1_8 arg3 arg4 arg5 x0 x1 x2) ?_ rfl rfl
  refine build_step (L := runC.sl.HS0_7 arg3 arg4 x0 x1) (L' := runC.sl.HS1_7 arg3 arg4 arg5 x0 x1 x2) ?_ rfl rfl
  refine build_step (L := runC.sl.HS0_6 arg3 arg4 x0 x1) (L' := runC.sl.HS1_6 arg3 arg4 arg5 x0 x1 x2) ?_ rfl rfl
  refine build_step (L := runC.sl.HS0_5 arg3 arg4 x0 x1) (L' := runC.sl.HS1_5 arg3 arg4 arg5 x0 x1 x2) ?_ rfl rfl
  refine build_step (L := runC.sl.HS0_4 arg3 arg4 x0 x1) (L' := runC.sl.HS1_4 arg3 arg4 arg5 x0 x1 x2) ?_ rfl rfl
  refine build_step (L := runC.sl.HS0_3 arg3 arg4 x0 x1) (L' := runC.sl.HS1_3 arg3 arg4 arg5 x0 x1 x2) ?_ rfl rfl
  refine build_step (L := runC.sl.HS0_2 arg3 arg4 x0 x1) (L' := runC.sl.HS1_2 arg3 arg4 arg5 x0 x1 x2) ?_ rfl rfl
  refine build_step (L := runC.sl.HS0_1) (L' := runC.sl.HS1_1) ?_ rfl rfl
  exact ⟨rfl, rfl⟩

/-- and what the scratch holds. -/
theorem runC_fst (h0 : isFirst i) (h1 : isBelow i) (h2 : ¬isDiag0 i) (h3 : ¬isDiag1 i) (h4 : ¬isLast i) :
    (runC c i arg3 harg3 arg4 harg4 arg5 harg5 arg6 harg6 x0 x1 x2 h0 h1 h2 h3 h4).1 = scM.view.writes (Elt Ideal) scM.view.junk (buildM (ldS arg3 arg4 x0 x1) both) := by
  unfold runC; dsimp only
  exact congrArg (scM.view.writes (Elt Ideal) scM.view.junk) (runC_lists arg3 arg4 arg5 x0 x1 x2).1

theorem runC_snd (h0 : isFirst i) (h1 : isBelow i) (h2 : ¬isDiag0 i) (h3 : ¬isDiag1 i) (h4 : ¬isLast i) :
    (runC c i arg3 harg3 arg4 harg4 arg5 harg5 arg6 harg6 x0 x1 x2 h0 h1 h2 h3 h4).2.1 = scA.view.writes (Elt Ideal) scA.view.junk (buildA (ldS arg3 arg4 x0 x1) (ldV arg5 x2) both) := by
  unfold runC; dsimp only
  exact congrArg (scA.view.writes (Elt Ideal) scA.view.junk) (runC_lists arg3 arg4 arg5 x0 x1 x2).2

end

end Cert.KernelIdeal.Attn

end
-- ==== Proof.KernelIdeal.Facts.lean ====
/- What each of the 272 steps decides, and which blocks it works on: decided over the tables. -/
module

public import proofs.«01_k».proof.Proof.KernelIdeal.Tables

@[expose] public section

set_option maxRecDepth 16384
-- one declaration at a time: the runs and the decided facts are memory-heavy
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- At step `t`: the decisions in terms of the key block `kn` and the query block `qn`, the output's idle and write-back
    tables, the blocks of the four windows, and how the blocks move to the next step. -/
abbrev StepFacts (t : Fin cfgA.N) : Prop :=
  (isFirst (crd t) ↔ kn t.val = 0)
  ∧ (isBelow (crd t) ↔ kn t.val < 2 * qn t.val)
  ∧ (isDiag0 (crd t) ↔ kn t.val = 2 * qn t.val)
  ∧ (isDiag1 (crd t) ↔ kn t.val = 2 * qn t.val + 1)
  ∧ (isLast (crd t) ↔ kn t.val = 2 * qn t.val + 1)
  ∧ cfgA.idle (3 : Fin 4) (cfgA.grid.coords t) = decide (kn t.val ≠ 2 * qn t.val + 1)
  ∧ (cfgA.win (3 : Fin 4)).flush t = decide (kn t.val = 2 * qn t.val + 1)
  ∧ kn t.val ≤ 2 * qn t.val + 1 ∧ qn t.val < 16
  ∧ (∀ a : Fin 2, cc0_transform_0 k0_off1_inb numel1_S1 tabs (crd t) a = ![qn t.val, 0] a)
  ∧ (∀ a : Fin 2, cc0_transform_1 k0_off1_inb numel1_S1 tabs (crd t) a = ![kn t.val, 0] a)
  ∧ (∀ a : Fin 2, cc0_transform_2 k0_off1_inb numel1_S1 tabs (crd t) a = ![0, kn t.val] a)
  ∧ (∀ a : Fin 2, cc0_transform_3 k0_off1_inb numel1_S1 tabs (crd t) a = ![qn t.val, 0] a)
  ∧ (kn (t.val + 1) = (if kn t.val = 2 * qn t.val + 1 then 0 else kn t.val + 1) ∨ t.val = 271)
  ∧ (qn (t.val + 1) = (if kn t.val = 2 * qn t.val + 1 then qn t.val + 1 else qn t.val) ∨ t.val = 271)

theorem facts_0 : ∀ t : Fin cfgA.N, 0 ≤ t.val → t.val < 34 → StepFacts t := by decide +kernel
theorem facts_1 : ∀ t : Fin cfgA.N, 34 ≤ t.val → t.val < 68 → StepFacts t := by decide +kernel
theorem facts_2 : ∀ t : Fin cfgA.N, 68 ≤ t.val → t.val < 102 → StepFacts t := by decide +kernel
theorem facts_3 : ∀ t : Fin cfgA.N, 102 ≤ t.val → t.val < 136 → StepFacts t := by decide +kernel
theorem facts_4 : ∀ t : Fin cfgA.N, 136 ≤ t.val → t.val < 170 → StepFacts t := by decide +kernel
theorem facts_5 : ∀ t : Fin cfgA.N, 170 ≤ t.val → t.val < 204 → StepFacts t := by decide +kernel
theorem facts_6 : ∀ t : Fin cfgA.N, 204 ≤ t.val → t.val < 238 → StepFacts t := by decide +kernel
theorem facts_7 : ∀ t : Fin cfgA.N, 238 ≤ t.val → t.val < 272 → StepFacts t := by decide +kernel
theorem facts (t : Fin cfgA.N) : StepFacts t := by
  rcases Nat.lt_or_ge t.val 34 with h | h
  · exact facts_0 t (by omega) h
  rcases Nat.lt_or_ge t.val 68 with h | h
  · exact facts_1 t (by omega) h
  rcases Nat.lt_or_ge t.val 102 with h | h
  · exact facts_2 t (by omega) h
  rcases Nat.lt_or_ge t.val 136 with h | h
  · exact facts_3 t (by omega) h
  rcases Nat.lt_or_ge t.val 170 with h | h
  · exact facts_4 t (by omega) h
  rcases Nat.lt_or_ge t.val 204 with h | h
  · exact facts_5 t (by omega) h
  rcases Nat.lt_or_ge t.val 238 with h | h
  · exact facts_6 t (by omega) h
  exact facts_7 t (by omega) t.isLt

theorem kn_zero : kn 0 = 0 := by decide
theorem qn_zero : qn 0 = 0 := by decide
theorem NA : cfgA.N = 272 := N_0

end Cert.KernelIdeal.Attn

end
-- ==== Proof.KernelIdeal.Steps.lean ====
/- The steps of the attention kernel one after the other: what the scratch and the output hold after each, as the data of the pipeline. -/
module

public import proofs.«01_k».proof.Proof.KernelIdeal.Facts
public import proofs.«01_k».proof.Proof.KernelIdeal.Runs

@[expose] public section

set_option maxRecDepth 16384
-- one declaration at a time: the runs and the decided facts are memory-heavy
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The path of step `t`, told by its key block and query block. -/
abbrev onA (t : Fin cfgA.N) : Prop := kn t.val = 0 ∧ qn t.val = 0
abbrev onC (t : Fin cfgA.N) : Prop := kn t.val = 0 ∧ qn t.val ≠ 0
abbrev onD (t : Fin cfgA.N) : Prop := kn t.val ≠ 0 ∧ kn t.val < 2 * qn t.val
abbrev onE (t : Fin cfgA.N) : Prop := kn t.val ≠ 0 ∧ kn t.val = 2 * qn t.val
abbrev onB (t : Fin cfgA.N) : Prop := kn t.val = 2 * qn t.val + 1

theorem condA (t : Fin cfgA.N) (q : onA t) : isFirst (crd t) ∧ ¬isBelow (crd t) ∧ isDiag0 (crd t) ∧ ¬isDiag1 (crd t) ∧ ¬isLast (crd t) := by
  obtain ⟨f0, f1, f2, f3, f4, -⟩ := facts t
  rw [f0, f1, f2, f3, f4]; unfold onA at q; omega

theorem condC (t : Fin cfgA.N) (q : onC t) : isFirst (crd t) ∧ isBelow (crd t) ∧ ¬isDiag0 (crd t) ∧ ¬isDiag1 (crd t) ∧ ¬isLast (crd t) := by
  obtain ⟨f0, f1, f2, f3, f4, -⟩ := facts t
  rw [f0, f1, f2, f3, f4]; unfold onC at q; omega

theorem condD (t : Fin cfgA.N) (q : onD t) : ¬isFirst (crd t) ∧ isBelow (crd t) ∧ ¬isDiag0 (crd t) ∧ ¬isDiag1 (crd t) ∧ ¬isLast (crd t) := by
  obtain ⟨f0, f1, f2, f3, f4, -⟩ := facts t
  rw [f0, f1, f2, f3, f4]; unfold onD at q; omega

theorem condE (t : Fin cfgA.N) (q : onE t) : ¬isFirst (crd t) ∧ ¬isBelow (crd t) ∧ isDiag0 (crd t) ∧ ¬isDiag1 (crd t) ∧ ¬isLast (crd t) := by
  obtain ⟨f0, f1, f2, f3, f4, -⟩ := facts t
  rw [f0, f1, f2, f3, f4]; unfold onE at q; omega

theorem condB (t : Fin cfgA.N) (q : onB t) : ¬isFirst (crd t) ∧ ¬isBelow (crd t) ∧ ¬isDiag0 (crd t) ∧ isDiag1 (crd t) ∧ isLast (crd t) := by
  obtain ⟨f0, f1, f2, f3, f4, -⟩ := facts t
  rw [f0, f1, f2, f3, f4]; unfold onB at q; omega

/-- What the arrays hold when the region is entered, buffer by buffer. -/
abbrev Entry := (c : Dev nD) → (b : Ref sig .tc) → Buf (Elt Ideal) ((c : Thread nD τ).loc b)

variable (W : Entry)

/-- Window `w`'s block at step `t`. -/
def iblk (c : Dev nD) (w : Fin cfgA.W) (t : Fin cfgA.N) : ((cfgA.win w).xblock (crd t)).Idx → Elt Ideal (cfgA.win w).elt :=
  ((cfgA.win w).blk t).view.read (Elt Ideal) (W c (Pipeline.arrRef spec0 w))

/-- What the scratch holds after step `t`, from what it held before. -/
def step (c : Dev nD) (t : Fin cfgA.N) (prev : Buf (Elt Ideal) ((c : Thread nD τ).loc cc0_scratch0) × Buf (Elt Ideal) ((c : Thread nD τ).loc cc0_scratch1)) : Buf (Elt Ideal) ((c : Thread nD τ).loc cc0_scratch0) × Buf (Elt Ideal) ((c : Thread nD τ).loc cc0_scratch1) :=
  if q : onA t then ((runA c (crd t) (ms0 t) (hs0 t) (ms1 t) (hs1 t) (ms2 t) (hs2 t) (ms3 t) (hs3 t) (iblk W c (0 : Fin 4) t) (iblk W c (1 : Fin 4) t) (iblk W c (2 : Fin 4) t) (condA t q).1 (condA t q).2.1 (condA t q).2.2.1 (condA t q).2.2.2.1 (condA t q).2.2.2.2).1, (runA c (crd t) (ms0 t) (hs0 t) (ms1 t) (hs1 t) (ms2 t) (hs2 t) (ms3 t) (hs3 t) (iblk W c (0 : Fin 4) t) (iblk W c (1 : Fin 4) t) (iblk W c (2 : Fin 4) t) (condA t q).1 (condA t q).2.1 (condA t q).2.2.1 (condA t q).2.2.2.1 (condA t q).2.2.2.2).2.1)
  else if q : onC t then ((runC c (crd t) (ms0 t) (hs0 t) (ms1 t) (hs1 t) (ms2 t) (hs2 t) (ms3 t) (hs3 t) (iblk W c (0 : Fin 4) t) (iblk W c (1 : Fin 4) t) (iblk W c (2 : Fin 4) t) (condC t q).1 (condC t q).2.1 (condC t q).2.2.1 (condC t q).2.2.2.1 (condC t q).2.2.2.2).1, (runC c (crd t) (ms0 t) (hs0 t) (ms1 t) (hs1 t) (ms2 t) (hs2 t) (ms3 t) (hs3 t) (iblk W c (0 : Fin 4) t) (iblk W c (1 : Fin 4) t) (iblk W c (2 : Fin 4) t) (condC t q).1 (condC t q).2.1 (condC t q).2.2.1 (condC t q).2.2.2.1 (condC t q).2.2.2.2).2.1)
  else if q : onD t then ((runD c (crd t) (ms0 t) (hs0 t) (ms1 t) (hs1 t) (ms2 t) (hs2 t) (ms3 t) (hs3 t) (iblk W c (0 : Fin 4) t) (iblk W c (1 : Fin 4) t) (iblk W c (2 : Fin 4) t) prev.1 prev.2 (condD t q).1 (condD t q).2.1 (condD t q).2.2.1 (condD t q).2.2.2.1 (condD t q).2.2.2.2).1, (runD c (crd t) (ms0 t) (hs0 t) (ms1 t) (hs1 t) (ms2 t) (hs2 t) (ms3 t) (hs3 t) (iblk W c (0 : Fin 4) t) (iblk W c (1 : Fin 4) t) (iblk W c (2 : Fin 4) t) prev.1 prev.2 (condD t q).1 (condD t q).2.1 (condD t q).2.2.1 (condD t q).2.2.2.1 (condD t q).2.2.2.2).2.1)
  else if q : onE t then ((runE c (crd t) (ms0 t) (hs0 t) (ms1 t) (hs1 t) (ms2 t) (hs2 t) (ms3 t) (hs3 t) (iblk W c (0 : Fin 4) t) (iblk W c (1 : Fin 4) t) (iblk W c (2 : Fin 4) t) prev.1 prev.2 (condE t q).1 (condE t q).2.1 (condE t q).2.2.1 (condE t q).2.2.2.1 (condE t q).2.2.2.2).1, (runE c (crd t) (ms0 t) (hs0 t) (ms1 t) (hs1 t) (ms2 t) (hs2 t) (ms3 t) (hs3 t) (iblk W c (0 : Fin 4) t) (iblk W c (1 : Fin 4) t) (iblk W c (2 : Fin 4) t) prev.1 prev.2 (condE t q).1 (condE t q).2.1 (condE t q).2.2.1 (condE t q).2.2.2.1 (condE t q).2.2.2.2).2.1)
  else if q : onB t then ((runB c (crd t) (ms0 t) (hs0 t) (ms1 t) (hs1 t) (ms2 t) (hs2 t) (ms3 t) (hs3 t) (iblk W c (0 : Fin 4) t) (iblk W c (1 : Fin 4) t) (iblk W c (2 : Fin 4) t) prev.1 prev.2 (condB t q).1 (condB t q).2.1 (condB t q).2.2.1 (condB t q).2.2.2.1 (condB t q).2.2.2.2).2.1, (runB c (crd t) (ms0 t) (hs0 t) (ms1 t) (hs1 t) (ms2 t) (hs2 t) (ms3 t) (hs3 t) (iblk W c (0 : Fin 4) t) (iblk W c (1 : Fin 4) t) (iblk W c (2 : Fin 4) t) prev.1 prev.2 (condB t q).1 (condB t q).2.1 (condB t q).2.2.1 (condB t q).2.2.2.1 (condB t q).2.2.2.2).2.2.1)
  else prev

/-- What the scratch holds after step `n`. -/
def traj (c : Dev nD) : (n : ℕ) → n < cfgA.N → Buf (Elt Ideal) ((c : Thread nD τ).loc cc0_scratch0) × Buf (Elt Ideal) ((c : Thread nD τ).loc cc0_scratch1)
  | 0, h => step W c ⟨0, h⟩ (default, default)
  | n + 1, h => step W c ⟨n + 1, h⟩ (traj c n (Nat.lt_of_succ_lt h))

/-- What it held before position `n`. -/
def prev (c : Dev nD) (n : ℕ) (h : n ≤ cfgA.N) : Buf (Elt Ideal) ((c : Thread nD τ).loc cc0_scratch0) × Buf (Elt Ideal) ((c : Thread nD τ).loc cc0_scratch1) :=
  if h0 : n = 0 then (default, default) else traj W c (n - 1) (by omega)

theorem traj_eq (c : Dev nD) (t : Fin cfgA.N) : traj W c t.val t.isLt = step W c t (prev W c t.val t.isLt.le) := by
  obtain ⟨n, hn⟩ := t
  cases n with
  | zero => rfl
  | succ n => unfold prev; simp only [Nat.add_one_ne_zero, dif_neg, not_false_eq_true]; rfl

theorem prev_succ (c : Dev nD) (t : Fin cfgA.N) : prev W c (t.val + 1) t.isLt = step W c t (prev W c t.val t.isLt.le) := by
  rw [← traj_eq]; unfold prev; simp only [Nat.add_one_ne_zero, ↓reduceDIte, Nat.add_one_sub_one]

theorem step_A (c : Dev nD) (t : Fin cfgA.N) (prev : Buf (Elt Ideal) ((c : Thread nD τ).loc cc0_scratch0) × Buf (Elt Ideal) ((c : Thread nD τ).loc cc0_scratch1)) (q : onA t) :
    step W c t prev = ((runA c (crd t) (ms0 t) (hs0 t) (ms1 t) (hs1 t) (ms2 t) (hs2 t) (ms3 t) (hs3 t) (iblk W c (0 : Fin 4) t) (iblk W c (1 : Fin 4) t) (iblk W c (2 : Fin 4) t) (condA t q).1 (condA t q).2.1 (condA t q).2.2.1 (condA t q).2.2.2.1 (condA t q).2.2.2.2).1, (runA c (crd t) (ms0 t) (hs0 t) (ms1 t) (hs1 t) (ms2 t) (hs2 t) (ms3 t) (hs3 t) (iblk W c (0 : Fin 4) t) (iblk W c (1 : Fin 4) t) (iblk W c (2 : Fin 4) t) (condA t q).1 (condA t q).2.1 (condA t q).2.2.1 (condA t q).2.2.2.1 (condA t q).2.2.2.2).2.1) := by
  unfold step; rw [dif_pos q]
theorem step_C (c : Dev nD) (t : Fin cfgA.N) (prev : Buf (Elt Ideal) ((c : Thread nD τ).loc cc0_scratch0) × Buf (Elt Ideal) ((c : Thread nD τ).loc cc0_scratch1)) (q : onC t) :
    step W c t prev = ((runC c (crd t) (ms0 t) (hs0 t) (ms1 t) (hs1 t) (ms2 t) (hs2 t) (ms3 t) (hs3 t) (iblk W c (0 : Fin 4) t) (iblk W c (1 : Fin 4) t) (iblk W c (2 : Fin 4) t) (condC t q).1 (condC t q).2.1 (condC t q).2.2.1 (condC t q).2.2.2.1 (condC t q).2.2.2.2).1, (runC c (crd t) (ms0 t) (hs0 t) (ms1 t) (hs1 t) (ms2 t) (hs2 t) (ms3 t) (hs3 t) (iblk W c (0 : Fin 4) t) (iblk W c (1 : Fin 4) t) (iblk W c (2 : Fin 4) t) (condC t q).1 (condC t q).2.1 (condC t q).2.2.1 (condC t q).2.2.2.1 (condC t q).2.2.2.2).2.1) := by
  unfold step; rw [dif_neg (show ¬onA t by unfold onA at *; omega)]; rw [dif_pos q]
theorem step_D (c : Dev nD) (t : Fin cfgA.N) (prev : Buf (Elt Ideal) ((c : Thread nD τ).loc cc0_scratch0) × Buf (Elt Ideal) ((c : Thread nD τ).loc cc0_scratch1)) (q : onD t) :
    step W c t prev = ((runD c (crd t) (ms0 t) (hs0 t) (ms1 t) (hs1 t) (ms2 t) (hs2 t) (ms3 t) (hs3 t) (iblk W c (0 : Fin 4) t) (iblk W c (1 : Fin 4) t) (iblk W c (2 : Fin 4) t) prev.1 prev.2 (condD t q).1 (condD t q).2.1 (condD t q).2.2.1 (condD t q).2.2.2.1 (condD t q).2.2.2.2).1, (runD c (crd t) (ms0 t) (hs0 t) (ms1 t) (hs1 t) (ms2 t) (hs2 t) (ms3 t) (hs3 t) (iblk W c (0 : Fin 4) t) (iblk W c (1 : Fin 4) t) (iblk W c (2 : Fin 4) t) prev.1 prev.2 (condD t q).1 (condD t q).2.1 (condD t q).2.2.1 (condD t q).2.2.2.1 (condD t q).2.2.2.2).2.1) := by
  unfold step; rw [dif_neg (show ¬onA t by unfold onA at *; omega)]; rw [dif_neg (show ¬onC t by unfold onC at *; omega)]; rw [dif_pos q]
theorem step_E (c : Dev nD) (t : Fin cfgA.N) (prev : Buf (Elt Ideal) ((c : Thread nD τ).loc cc0_scratch0) × Buf (Elt Ideal) ((c : Thread nD τ).loc cc0_scratch1)) (q : onE t) :
    step W c t prev = ((runE c (crd t) (ms0 t) (hs0 t) (ms1 t) (hs1 t) (ms2 t) (hs2 t) (ms3 t) (hs3 t) (iblk W c (0 : Fin 4) t) (iblk W c (1 : Fin 4) t) (iblk W c (2 : Fin 4) t) prev.1 prev.2 (condE t q).1 (condE t q).2.1 (condE t q).2.2.1 (condE t q).2.2.2.1 (condE t q).2.2.2.2).1, (runE c (crd t) (ms0 t) (hs0 t) (ms1 t) (hs1 t) (ms2 t) (hs2 t) (ms3 t) (hs3 t) (iblk W c (0 : Fin 4) t) (iblk W c (1 : Fin 4) t) (iblk W c (2 : Fin 4) t) prev.1 prev.2 (condE t q).1 (condE t q).2.1 (condE t q).2.2.1 (condE t q).2.2.2.1 (condE t q).2.2.2.2).2.1) := by
  unfold step; rw [dif_neg (show ¬onA t by unfold onA at *; omega)]; rw [dif_neg (show ¬onC t by unfold onC at *; omega)]; rw [dif_neg (show ¬onD t by unfold onD at *; omega)]; rw [dif_pos q]
theorem step_B (c : Dev nD) (t : Fin cfgA.N) (prev : Buf (Elt Ideal) ((c : Thread nD τ).loc cc0_scratch0) × Buf (Elt Ideal) ((c : Thread nD τ).loc cc0_scratch1)) (q : onB t) :
    step W c t prev = ((runB c (crd t) (ms0 t) (hs0 t) (ms1 t) (hs1 t) (ms2 t) (hs2 t) (ms3 t) (hs3 t) (iblk W c (0 : Fin 4) t) (iblk W c (1 : Fin 4) t) (iblk W c (2 : Fin 4) t) prev.1 prev.2 (condB t q).1 (condB t q).2.1 (condB t q).2.2.1 (condB t q).2.2.2.1 (condB t q).2.2.2.2).2.1, (runB c (crd t) (ms0 t) (hs0 t) (ms1 t) (hs1 t) (ms2 t) (hs2 t) (ms3 t) (hs3 t) (iblk W c (0 : Fin 4) t) (iblk W c (1 : Fin 4) t) (iblk W c (2 : Fin 4) t) prev.1 prev.2 (condB t q).1 (condB t q).2.1 (condB t q).2.2.1 (condB t q).2.2.2.1 (condB t q).2.2.2.2).2.2.1) := by
  unfold step; rw [dif_neg (show ¬onA t by unfold onA at *; omega)]; rw [dif_neg (show ¬onC t by unfold onC at *; omega)]; rw [dif_neg (show ¬onD t by unfold onD at *; omega)]; rw [dif_neg (show ¬onE t by unfold onE at *; omega)]; rw [dif_pos q]

/-- What the output's staging buffer holds after step `t`: what path B stores in it, where `t` is on path B. -/
def outAt (c : Dev nD) (t : Fin cfgA.N) (prev : Buf (Elt Ideal) ((c : Thread nD τ).loc cc0_scratch0) × Buf (Elt Ideal) ((c : Thread nD τ).loc cc0_scratch1)) : S1024x384.Idx → Elt Ideal .f32 :=
  if q : onB t then VO.read (Elt Ideal) (VO.writes (Elt Ideal) VO.junk (runB c (crd t) (ms0 t) (hs0 t) (ms1 t) (hs1 t) (ms2 t) (hs2 t) (ms3 t) (hs3 t) (iblk W c (0 : Fin 4) t) (iblk W c (1 : Fin 4) t) (iblk W c (2 : Fin 4) t) prev.1 prev.2 (condB t q).1 (condB t q).2.1 (condB t q).2.2.1 (condB t q).2.2.2.1 (condB t q).2.2.2.2).1) else default

/-- The output's buffer holds nothing before any step: each write-back follows its store at once. -/
theorem always_fresh (t : Fin cfgA.N) : cfgA.fresh (3 : Fin 4) t.val = true :=
  Pipeline.Cfg.fresh_tab cfgA (3 : Fin 4) (fun _ => true) rfl (fun t => by
    obtain ⟨-, -, -, -, -, f5, f6, -⟩ := facts t
    rw [f5, f6]; by_cases h : kn t.val = 2 * qn t.val + 1 <;> simp [h]) t.val t.isLt.le

/-- The invariant before position `t`: the scratch at what the steps so far left (anything before the first), and the tables. -/
def Inv (c : Dev nD) (t : Fin (cfgA.N + 1)) : sProp 𝕄 :=
  iprop((∃ a, ⌜t.val ≠ 0 → a = (prev W c t.val (Nat.le_of_lt_succ t.isLt)).1⌝ ∗ (scM.view.loc (c : Thread nD τ) ↦{fullShare} a))
    ∗ (∃ a, ⌜t.val ≠ 0 → a = (prev W c t.val (Nat.le_of_lt_succ t.isLt)).2⌝ ∗ (scA.view.loc (c : Thread nD τ) ↦{fullShare} a))
    ∗ (tbQ.view.loc (c : Thread nD τ) ↦{fullShare.right} qTab) ∗ (tbK.view.loc (c : Thread nD τ) ↦{fullShare.right} kTab))

/-- The pipeline's proof data. -/
def dats (_ : Fin 1) (c : Dev nD) : Dat τ (Elt Ideal) Unit ℕ (UR sig nD τ) ℕ cfgA c where
  A w := W c (Pipeline.arrRef spec0 w)
  after w t := match w with
    | ⟨0, _⟩ => iblk W c (0 : Fin 4) t
    | ⟨1, _⟩ => iblk W c (1 : Fin 4) t
    | ⟨2, _⟩ => iblk W c (2 : Fin 4) t
    | ⟨3, _⟩ => outAt W c t (prev W c t.val t.isLt.le)
  Φ t := Inv W c t
  q _ := fullShare
  owed _ := 0

theorem after0 (c : Dev nD) (t : Fin cfgA.N) : (dats W 0 c).after (0 : Fin 4) t = iblk W c (0 : Fin 4) t := rfl
theorem after1 (c : Dev nD) (t : Fin cfgA.N) : (dats W 0 c).after (1 : Fin 4) t = iblk W c (1 : Fin 4) t := rfl
theorem after2 (c : Dev nD) (t : Fin cfgA.N) : (dats W 0 c).after (2 : Fin 4) t = iblk W c (2 : Fin 4) t := rfl
theorem after3 (c : Dev nD) (t : Fin cfgA.N) : (dats W 0 c).after (3 : Fin 4) t = outAt W c t (prev W c t.val t.isLt.le) := rfl

theorem before0 (c : Dev nD) (t : Fin cfgA.N) (d) : (dats W 0 c).before (0 : Fin 4) t d = iblk W c (0 : Fin 4) t :=
  ((dats W 0 c).before_in_eq_fetched (0 : Fin 4) rfl (fun _ => rfl) (fun _ _ _ => rfl) (fun t => by rw [after0]; unfold Dat.blockOf iblk; rfl) t d).trans
    (by unfold Dat.fetched Dat.blockOf iblk; rfl)
theorem before1 (c : Dev nD) (t : Fin cfgA.N) (d) : (dats W 0 c).before (1 : Fin 4) t d = iblk W c (1 : Fin 4) t :=
  ((dats W 0 c).before_in_eq_fetched (1 : Fin 4) rfl (fun _ => rfl) (fun _ _ _ => rfl) (fun t => by rw [after1]; unfold Dat.blockOf iblk; rfl) t d).trans
    (by unfold Dat.fetched Dat.blockOf iblk; rfl)
theorem before2 (c : Dev nD) (t : Fin cfgA.N) (d) : (dats W 0 c).before (2 : Fin 4) t d = iblk W c (2 : Fin 4) t :=
  ((dats W 0 c).before_in_eq_fetched (2 : Fin 4) rfl (fun _ => rfl) (fun _ _ _ => rfl) (fun t => by rw [after2]; unfold Dat.blockOf iblk; rfl) t d).trans
    (by unfold Dat.fetched Dat.blockOf iblk; rfl)

theorem before3 (c : Dev nD) (t : Fin cfgA.N) (d) : (dats W 0 c).before (3 : Fin 4) t d = d := by
  rw [(dats W 0 c).before_out_traj (3 : Fin 4) rfl (fun _ _ => rfl)
    (fun t _ _ hf => absurd (hf.symm.trans (always_fresh t)) Bool.false_ne_true) t.val t rfl d, always_fresh t]
  rfl

/-- Once a step has run, the scratch is what the steps left. -/
theorem held_at {ℓ : Loc nD τ sig} {P : Prop} (hp : P) (v : Buf (Elt Ideal) ℓ) :
    (iprop(∃ a, ⌜P → a = v⌝ ∗ (ℓ ↦{fullShare} a)) : sProp 𝕄) ⊢ iprop(ℓ ↦{fullShare} v) := by
  iintro ⟨%a, %ha, H⟩
  obtain rfl := ha hp
  iexact H

end Cert.KernelIdeal.Attn

end
-- ==== Proof.KernelIdeal.Values.lean ====
/- What the scratch holds after a step, head by head and strip by strip, from what it held before. -/
module

public import proofs.«01_k».proof.Proof.KernelIdeal.Pieces
public import proofs.«01_k».proof.Proof.KernelIdeal.Steps

@[expose] public section

set_option maxRecDepth 16384

noncomputable section

namespace Cert.KernelIdeal.Attn

open Cert.KernelIdeal Cert.KernelIdeal.Gen
open Idealize.ShloMosaic Idealize.ShloMosaic.ValueIdx
open Idealize.ShloMosaic.TcCoe

section
variable {sig' : RefSig} {κ' : Kind} {sp' : Space} {s' : Shape} {e' : EltTy} {ι : Type} (v : View sig' κ' sp' s' e') (f : v.ty.Contents (Elt Ideal))
    (r : ι → Rect s') (w : (p : ι) → (r p).shape.Idx → Elt Ideal e') (hd : ∀ p q, p ≠ q → Disjoint (r p).set (r q).set)
include hd

/-- Of stores through disjoint rectangles each is read back where it was made, -/
theorem read_hit (l : List ι) (p : ι) (hp : p ∈ l) (x : (r p).shape.Idx) :
    v.read (Elt Ideal) (v.writes (Elt Ideal) f (l.map fun p => ⟨r p, w p⟩)) ((r p).idx x) = w p x := by
  classical
  induction l with
  | nil => exact absurd hp List.not_mem_nil
  | cons q l ih =>
    by_cases h : p = q
    · subst h; exact View.read_writes_cons_emb v f (r p) (w p) _ x
    · have hp' : p ∈ l := (List.mem_cons.mp hp).resolve_left h
      exact (View.read_writes_cons_miss v f _ _ _ (Finset.disjoint_left.mp (hd p q h) ((r p).toLoadRect.idx_mem x))).trans (ih hp')

/-- and a rectangle through which none was made reads as before. -/
theorem read_miss (l : List ι) (p : ι) (hp : p ∉ l) (x : (r p).shape.Idx) :
    v.read (Elt Ideal) (v.writes (Elt Ideal) f (l.map fun p => ⟨r p, w p⟩)) ((r p).idx x) = v.read (Elt Ideal) f ((r p).idx x) := by
  refine View.read_writes_apply_of_forall_not_mem v f _ _ fun q hq => ?_
  obtain ⟨q, hq', rfl⟩ := List.mem_map.mp hq
  exact Finset.disjoint_left.mp (hd p q fun h => hp (h ▸ hq')) ((r p).toLoadRect.idx_mem x)
end

theorem rM_disjoint (p q : Chain) (h : p ≠ q) : Disjoint (rM p).set (rM q).set := by
  refine Finset.disjoint_left.mpr fun y hp hq => h ?_
  have hp := Rect.mem_set_unit.mp hp; have hq := Rect.mem_set_unit.mp hq
  have p0 : p.1.val ≤ (y 0).val ∧ (y 0).val < p.1.val + 1 := hp 0
  have q0 : q.1.val ≤ (y 0).val ∧ (y 0).val < q.1.val + 1 := hq 0
  have p2 : 512 * p.2.val ≤ (y 2).val ∧ (y 2).val < 512 * p.2.val + 512 := hp 2
  have q2 : 512 * q.2.val ≤ (y 2).val ∧ (y 2).val < 512 * q.2.val + 512 := hq 2
  exact Prod.ext (Fin.ext (by omega)) (Fin.ext (by omega))

theorem rA_disjoint (p q : Chain) (h : p ≠ q) : Disjoint (rA p).set (rA q).set := by
  refine Finset.disjoint_left.mpr fun y hp hq => h ?_
  have hp := Rect.mem_set_unit.mp hp; have hq := Rect.mem_set_unit.mp hq
  have p0 : p.1.val ≤ (y 0).val ∧ (y 0).val < p.1.val + 1 := hp 0
  have q0 : q.1.val ≤ (y 0).val ∧ (y 0).val < q.1.val + 1 := hq 0
  have p2 : 512 * p.2.val ≤ (y 2).val ∧ (y 2).val < 512 * p.2.val + 512 := hp 2
  have q2 : 512 * q.2.val ≤ (y 2).val ∧ (y 2).val < 512 * q.2.val + 512 := hq 2
  exact Prod.ext (Fin.ext (by omega)) (Fin.ext (by omega))

/-- The maxima and sums of a scratch just set up. -/
def noM : Chain → Vec Ideal S1x1x512 .f32 := fun _ _ => (⊥ : EReal)
def noA : Chain → Vec Ideal S1x80x512 .f32 := fun _ _ => (0 : EReal)

theorem init_read {sp' : Space} {κ' : Kind} {sig' : RefSig} {s' : Shape} (v : View sig' κ' sp' s' .f32) (off) (ho : ∀ a, off a = 0) (inb) (w : s'.Idx → Elt Ideal .f32) (a : EReal) (hw : ∀ x, w x = a) (y : s'.Idx) :
    v.read (Elt Ideal) (v.writes (Elt Ideal) v.junk [⟨Rect.unit (s := s') off s'.size inb, w⟩]) y = a :=
  (View.read_writes_cons_hit_of_coords v v.junk (Rect.unit (s := s') off s'.size inb) w [] y y fun b => by
    show (y b).val = off b + 1 * (y b).val; rw [ho]; omega).trans (hw _)

variable (S : Chain → FVec Ideal S512x512 .f32) (vs : Chain → Vec Ideal S80x512 .bf16)

/-- The list of a path that sets the scratch up reads the set-up in each head and strip. -/
theorem buildM_eq (l : List Chain) (hl : l.Nodup) : buildM S l = l.map (pcM S noM) ++ buildM S [] := by
  induction l with
  | nil => rfl
  | cons p l ih =>
    obtain ⟨hp, hl⟩ := List.nodup_cons.mp hl
    have e : (fun p => scM.view.readCov (buildM S l) (rM p).toLoadRect) p = noM p := funext fun x => by
      show scM.view.read (Elt Ideal) (scM.view.writes (Elt Ideal) scM.view.junk (buildM S l)) ((rM p).idx x) = ⊥
      rw [ih hl, View.writes_append]
      exact (read_miss scM.view _ rM (fun p => newM (S p) (noM p)) rM_disjoint l p hp x).trans
        (init_read scM.view _ (fun a => by match a with | ⟨0, _⟩ => rfl | ⟨1, _⟩ => rfl | ⟨2, _⟩ => rfl) _ _ ⊥ (fun _ => negInf) _)
    show pcM S (fun p => scM.view.readCov (buildM S l) (rM p).toLoadRect) p :: buildM S l = pcM S noM p :: (l.map (pcM S noM) ++ buildM S [])
    rw [← ih hl]
    exact congrArg (· :: buildM S l) (congrArg (fun o => (⟨rM p, newM (S p) o⟩ : View.Piece (Elt Ideal) S6x1x1024 .f32)) e)

theorem readCov_buildM (l : List Chain) (hl : l.Nodup) (p : Chain) (hp : p ∉ l) : scM.view.readCov (buildM S l) (rM p).toLoadRect = noM p := funext fun x => by
  show scM.view.read (Elt Ideal) (scM.view.writes (Elt Ideal) scM.view.junk (buildM S l)) ((rM p).idx x) = ⊥
  rw [buildM_eq S l hl, View.writes_append]
  exact (read_miss scM.view _ rM (fun p => newM (S p) (noM p)) rM_disjoint l p hp x).trans
    (init_read scM.view _ (fun a => by match a with | ⟨0, _⟩ => rfl | ⟨1, _⟩ => rfl | ⟨2, _⟩ => rfl) _ _ ⊥ (fun _ => negInf) _)

theorem buildA_eq (l : List Chain) (hl : l.Nodup) : buildA S vs l = l.map (pcA S vs noM noA) ++ buildA S vs [] := by
  induction l with
  | nil => rfl
  | cons p l ih =>
    obtain ⟨hp, hl⟩ := List.nodup_cons.mp hl
    have e : (fun p => scA.view.readCov (buildA S vs l) (rA p).toLoadRect) p = noA p := funext fun x => by
      show scA.view.read (Elt Ideal) (scA.view.writes (Elt Ideal) scA.view.junk (buildA S vs l)) ((rA p).idx x) = 0
      rw [ih hl, View.writes_append]
      exact (read_miss scA.view _ rA (fun p => newA (S p) (noM p) (vs p) (noA p)) rA_disjoint l p hp x).trans
        (init_read scA.view _ (fun a => by match a with | ⟨0, _⟩ => rfl | ⟨1, _⟩ => rfl | ⟨2, _⟩ => rfl) _ _ 0 (fun _ => Ideal.ofBits_zero_f32) _)
    show pcA S vs (fun p => scM.view.readCov (buildM S l) (rM p).toLoadRect) (fun p => scA.view.readCov (buildA S vs l) (rA p).toLoadRect) p :: buildA S vs l = pcA S vs noM noA p :: (l.map (pcA S vs noM noA) ++ buildA S vs [])
    rw [← ih hl]
    exact congrArg (· :: buildA S vs l) (congrArg₂ (fun o o' => (⟨rA p, newA (S p) o (vs p) o'⟩ : View.Piece (Elt Ideal) S6x80x1024 .f32)) (readCov_buildM S l hl p hp) e)

/-- The maxima and the sums in a scratch's contents, by their place. -/
def rdM (c : Dev nD) (a : Buf (Elt Ideal) ((c : Thread nD τ).loc cc0_scratch0)) : S6x1x1024.Idx → EReal := scM.view.read (Elt Ideal) a
def rdA (c : Dev nD) (a : Buf (Elt Ideal) ((c : Thread nD τ).loc cc0_scratch1)) : S6x80x1024.Idx → EReal := scA.view.read (Elt Ideal) a

theorem both_all : ∀ p : Chain, p ∈ both := by decide
theorem upper_iff : ∀ p : Chain, p ∈ upper ↔ p.2 = 1 := by decide
theorem both_nodup : both.Nodup := by decide

variable (W : Entry) (c : Dev nD) (t : Fin cfgA.N)
    (b : Buf (Elt Ideal) ((c : Thread nD τ).loc cc0_scratch0) × Buf (Elt Ideal) ((c : Thread nD τ).loc cc0_scratch1))

/-- The scores of a step, masked where the key block is the strip's own. -/
def stS (p : Chain) : FVec Ideal S512x512 .f32 :=
  bif kn t.val == 2 * qn t.val + p.2.val then msk (ldS (ms0 t) (ms1 t) (iblk W c (0 : Fin 4) t) (iblk W c (1 : Fin 4) t) p)
  else ldS (ms0 t) (ms1 t) (iblk W c (0 : Fin 4) t) (iblk W c (1 : Fin 4) t) p
/-- The values of a step, and the maxima and sums it starts from. -/
def stV (p : Chain) : Vec Ideal S80x512 .bf16 := ldV (ms2 t) (iblk W c (2 : Fin 4) t) p
def oldM (p : Chain) : Vec Ideal S1x1x512 .f32 := if kn t.val = 0 then noM p else atM c b.1 p
def oldA (p : Chain) : Vec Ideal S1x80x512 .f32 := if kn t.val = 0 then noA p else atA c b.2 p

theorem stS_below (h : kn t.val < 2 * qn t.val) : ldS (ms0 t) (ms1 t) (iblk W c (0 : Fin 4) t) (iblk W c (1 : Fin 4) t) = stS W c t := funext fun p => by
  unfold stS; rw [show (kn t.val == 2 * qn t.val + p.2.val) = false from beq_false_of_ne (by omega)]; rfl
theorem stS_diag (d : Fin 2) (h : kn t.val = 2 * qn t.val + d.val) : ldSd (ms0 t) (ms1 t) (iblk W c (0 : Fin 4) t) (iblk W c (1 : Fin 4) t) d = stS W c t := funext fun p => by
  unfold stS ldSd
  rw [show (kn t.val == 2 * qn t.val + p.2.val) = (p.2 == d) from by
    rw [h, Bool.eq_iff_iff, beq_iff_eq, beq_iff_eq]
    exact ⟨fun e => Fin.ext (by omega), fun e => by rw [e]⟩]

/-- The pair of scratches. -/
abbrev Scr (c : Dev nD) := Buf (Elt Ideal) ((c : Thread nD τ).loc cc0_scratch0) × Buf (Elt Ideal) ((c : Thread nD τ).loc cc0_scratch1)

/-- The scratches after the stores of a step that sets them up, and of a later one. -/
def outFirst (c : Dev nD) (S : Chain → FVec Ideal S512x512 .f32) (v : Chain → Vec Ideal S80x512 .bf16) : Scr c :=
  (scM.view.writes (Elt Ideal) scM.view.junk (buildM S both), scA.view.writes (Elt Ideal) scA.view.junk (buildA S v both))
def outLater (c : Dev nD) (S : Chain → FVec Ideal S512x512 .f32) (v : Chain → Vec Ideal S80x512 .bf16) (oM : Chain → Vec Ideal S1x1x512 .f32)
    (oA : Chain → Vec Ideal S1x80x512 .f32) (l : List Chain) (f : Scr c) : Scr c :=
  (scM.view.writes (Elt Ideal) f.1 (l.map (pcM S oM)), scA.view.writes (Elt Ideal) f.2 (l.map (pcA S v oM oA)))

/-- What a step that sets the scratch up leaves in it, -/
theorem step_first (h : kn t.val = 0) : step W c t b = outFirst c (stS W c t) (stV W c t) := by
  by_cases hq : qn t.val = 0
  · have e := stS_diag W c t 0 (by simp [h, hq])
    rw [← e]
    exact (step_A W c t b ⟨h, hq⟩).trans (congrArg₂ Prod.mk (runA_fst ..) (runA_snd ..))
  · have e := stS_below W c t (by omega)
    rw [← e]
    exact (step_C W c t b ⟨h, hq⟩).trans (congrArg₂ Prod.mk (runC_fst ..) (runC_snd ..))

/-- and what a later one leaves. -/
theorem step_later (h : kn t.val ≠ 0) : ∃ f, step W c t b
    = outLater c (stS W c t) (stV W c t) (atM c b.1) (atA c b.2) (if kn t.val = 2 * qn t.val + 1 then upper else both) f
      ∧ (kn t.val = 2 * qn t.val + 1 → f = b) := by
  obtain ⟨-, -, -, -, -, -, -, hle, -⟩ := facts t
  rcases Nat.lt_trichotomy (kn t.val) (2 * qn t.val) with hq | hq | hq
  · have e := stS_below W c t hq
    rw [← e, if_neg (show ¬kn t.val = 2 * qn t.val + 1 by omega)]
    exact ⟨(scM.view.junk, scA.view.junk), (step_D W c t b ⟨h, hq⟩).trans (congrArg₂ Prod.mk (runD_fst ..) (runD_snd ..)), fun _ => by omega⟩
  · have e := stS_diag W c t 0 (by simp [hq])
    rw [← e, if_neg (show ¬kn t.val = 2 * qn t.val + 1 by omega)]
    exact ⟨(scM.view.junk, scA.view.junk), (step_E W c t b ⟨h, hq⟩).trans (congrArg₂ Prod.mk (runE_fst ..) (runE_snd ..)), fun _ => by omega⟩
  · have hB : onB t := by show kn t.val = 2 * qn t.val + 1; omega
    have e := stS_diag W c t 1 hB
    rw [← e, if_pos (show kn t.val = 2 * qn t.val + 1 from hB)]
    exact ⟨b, (step_B W c t b hB).trans (congrArg₂ Prod.mk (runB_fst ..) (runB_snd ..)), fun _ => rfl⟩

theorem read_first (S : Chain → FVec Ideal S512x512 .f32) (v : Chain → Vec Ideal S80x512 .bf16) (p : Chain) :
    (∀ x, rdM c (outFirst c S v).1 ((rM p).idx x) = newM (S p) (noM p) x)
    ∧ ∀ x, rdA c (outFirst c S v).2 ((rA p).idx x) = newA (S p) (noM p) (v p) (noA p) x := by
  unfold outFirst
  dsimp only
  rw [buildM_eq _ _ both_nodup, buildA_eq _ _ _ both_nodup, View.writes_append, View.writes_append]
  exact ⟨fun x => read_hit scM.view _ rM (fun p => newM (S p) (noM p)) rM_disjoint both p (both_all p) x,
    fun x => read_hit scA.view _ rA (fun p => newA (S p) (noM p) (v p) (noA p)) rA_disjoint both p (both_all p) x⟩

theorem read_new (S : Chain → FVec Ideal S512x512 .f32) (v : Chain → Vec Ideal S80x512 .bf16) (oM : Chain → Vec Ideal S1x1x512 .f32) (oA : Chain → Vec Ideal S1x80x512 .f32)
    (l : List Chain) (p : Chain) (hp : p ∈ l) (f : Scr c) :
    (∀ x, rdM c (outLater c S v oM oA l f).1 ((rM p).idx x) = newM (S p) (oM p) x)
    ∧ ∀ x, rdA c (outLater c S v oM oA l f).2 ((rA p).idx x) = newA (S p) (oM p) (v p) (oA p) x :=
  ⟨fun x => read_hit scM.view f.1 rM (fun p => newM (S p) (oM p)) rM_disjoint l p hp x,
    fun x => read_hit scA.view f.2 rA (fun p => newA (S p) (oM p) (v p) (oA p)) rA_disjoint l p hp x⟩

theorem read_kept (S : Chain → FVec Ideal S512x512 .f32) (v : Chain → Vec Ideal S80x512 .bf16) (oM : Chain → Vec Ideal S1x1x512 .f32) (oA : Chain → Vec Ideal S1x80x512 .f32)
    (l : List Chain) (p : Chain) (hp : p ∉ l) (f : Scr c) :
    (∀ x, rdM c (outLater c S v oM oA l f).1 ((rM p).idx x) = rdM c f.1 ((rM p).idx x))
    ∧ ∀ x, rdA c (outLater c S v oM oA l f).2 ((rA p).idx x) = rdA c f.2 ((rA p).idx x) :=
  ⟨fun x => read_miss scM.view f.1 rM (fun p => newM (S p) (oM p)) rM_disjoint l p hp x,
    fun x => read_miss scA.view f.2 rA (fun p => newA (S p) (oM p) (v p) (oA p)) rA_disjoint l p hp x⟩

/-- A step leaves, in each head and strip it works on, the new maxima and sums; -/
theorem step_new (p : Chain) (h : kn t.val ≤ 2 * qn t.val + p.2.val) :
    (∀ x, rdM c (step W c t b).1 ((rM p).idx x) = newM (stS W c t p) (oldM c t b p) x)
    ∧ ∀ x, rdA c (step W c t b).2 ((rA p).idx x) = newA (stS W c t p) (oldM c t b p) (stV W c t p) (oldA c t b p) x := by
  unfold oldM oldA
  by_cases hk : kn t.val = 0
  · rw [step_first W c t b hk, if_pos hk, if_pos hk]
    exact read_first c (stS W c t) (stV W c t) p
  · obtain ⟨f, e, -⟩ := step_later W c t b hk
    rw [e, if_neg hk, if_neg hk]
    refine read_new c (stS W c t) (stV W c t) (atM c b.1) (atA c b.2) _ p ?_ f
    split
    · exact (upper_iff p).mpr (Fin.ext (by have := p.2.isLt; show p.2.val = 1; omega))
    · exact both_all p

/-- and leaves the others as they were. -/
theorem step_old (p : Chain) (h : 2 * qn t.val + p.2.val < kn t.val) :
    (∀ x, rdM c (step W c t b).1 ((rM p).idx x) = rdM c b.1 ((rM p).idx x)) ∧ ∀ x, rdA c (step W c t b).2 ((rA p).idx x) = rdA c b.2 ((rA p).idx x) := by
  obtain ⟨-, -, -, -, -, -, -, hle, -⟩ := facts t
  have hB : kn t.val = 2 * qn t.val + 1 := by omega
  obtain ⟨f, e, hf⟩ := step_later W c t b (by omega)
  rw [if_pos hB, hf hB] at e
  rw [e]
  exact read_kept c (stS W c t) (stV W c t) (atM c b.1) (atA c b.2) upper p (fun e => by have : p.2.val = 1 := congrArg Fin.val ((upper_iff p).mp e); omega) b

end Cert.KernelIdeal.Attn

end
-- ==== Proof.KernelIdeal.Blocks.lean ====
/- The blocks of the queries, keys and values a step works on, element by element, and a head's part of each. -/
module

public import proofs.«01_k».proof.Proof.KernelIdeal.Values

@[expose] public section

set_option maxRecDepth 16384

noncomputable section

namespace Cert.KernelIdeal.Attn

open Cert.KernelIdeal Cert.KernelIdeal.Gen
open Idealize.ShloMosaic Idealize.ShloMosaic.ValueIdx
open Idealize.ShloMosaic.TcCoe
open Idealize.ShloMosaic.Pipeline (Dat Cfg Window)
open scoped BigOperators

variable (W : Entry) (c : Dev nD) (t : Fin cfgA.N)

/-- The queries, the keys and the value rows. -/
def qA : S16384x768.Idx → EReal := W c main_arg0
def kA : S16384x768.Idx → EReal := W c main_arg1
def vA : S480x16384.Idx → EReal := W c main_arg2

/-- An index of the queries' or the keys' array, and of the values'. -/
theorem lt_of_qn (i : Fin 1024) : 1024 * qn t.val + i.val < 16384 := by
  obtain ⟨-, -, -, -, -, -, -, -, hq, -⟩ := facts t; omega
theorem lt_of_kn (i : Fin 512) : 512 * kn t.val + i.val < 16384 := by
  obtain ⟨-, -, -, -, -, -, -, hle, hq, -⟩ := facts t; omega

theorem iblk0_apply (i : Fin 1024) (a : Fin 768) :
    iblk W c (0 : Fin 4) t (ix2 i a) = qA W c (ix2 (⟨1024 * qn t.val + i.val, lt_of_qn t i⟩ : Fin 16384) a) := by
  obtain ⟨-, -, -, -, -, -, -, -, -, f, -⟩ := facts t
  show W c main_arg0 (((cfgA.win (0 : Fin 4)).rect t).emb (ix2 i a)) = W c main_arg0 _
  refine congrArg (W c main_arg0) (funext fun b => Fin.ext ?_)
  refine (Window.rect_emb_val (cfgA.win (0 : Fin 4)) t (ix2 i a) b).trans ?_
  match b with
  | ⟨0, _⟩ => show cc0_transform_0 k0_off1_inb numel1_S1 tabs (crd t) 0 * 1024 + i.val = _; rw [f]; show qn t.val * 1024 + i.val = 1024 * qn t.val + i.val; omega
  | ⟨1, _⟩ => show cc0_transform_0 k0_off1_inb numel1_S1 tabs (crd t) 1 * 768 + a.val = _; rw [f]; show 0 * 768 + a.val = a.val; omega

theorem iblk1_apply (i : Fin 512) (a : Fin 768) :
    iblk W c (1 : Fin 4) t (ix2 i a) = kA W c (ix2 (⟨512 * kn t.val + i.val, lt_of_kn t i⟩ : Fin 16384) a) := by
  obtain ⟨-, -, -, -, -, -, -, -, -, -, f, -⟩ := facts t
  show W c main_arg1 (((cfgA.win (1 : Fin 4)).rect t).emb (ix2 i a)) = W c main_arg1 _
  refine congrArg (W c main_arg1) (funext fun b => Fin.ext ?_)
  refine (Window.rect_emb_val (cfgA.win (1 : Fin 4)) t (ix2 i a) b).trans ?_
  match b with
  | ⟨0, _⟩ => show cc0_transform_1 k0_off1_inb numel1_S1 tabs (crd t) 0 * 512 + i.val = _; rw [f]; show kn t.val * 512 + i.val = 512 * kn t.val + i.val; omega
  | ⟨1, _⟩ => show cc0_transform_1 k0_off1_inb numel1_S1 tabs (crd t) 1 * 768 + a.val = _; rw [f]; show 0 * 768 + a.val = a.val; omega

theorem iblk2_apply (r : Fin 480) (i : Fin 512) :
    iblk W c (2 : Fin 4) t (ix2 r i) = vA W c (ix2 r (⟨512 * kn t.val + i.val, lt_of_kn t i⟩ : Fin 16384)) := by
  obtain ⟨-, -, -, -, -, -, -, -, -, -, -, f, -⟩ := facts t
  show W c main_arg2 (((cfgA.win (2 : Fin 4)).rect t).emb (ix2 r i)) = W c main_arg2 _
  refine congrArg (W c main_arg2) (funext fun b => Fin.ext ?_)
  refine (Window.rect_emb_val (cfgA.win (2 : Fin 4)) t (ix2 r i) b).trans ?_
  match b with
  | ⟨0, _⟩ => show cc0_transform_2 k0_off1_inb numel1_S1 tabs (crd t) 0 * 480 + r.val = _; rw [f]; show 0 * 480 + r.val = r.val; omega
  | ⟨1, _⟩ => show cc0_transform_2 k0_off1_inb numel1_S1 tabs (crd t) 1 * 512 + i.val = _; rw [f]; show kn t.val * 512 + i.val = 512 * kn t.val + i.val; omega

/-- The place of a head's column, of a strip's row and of a head's value row. -/
def hcol (h : Fin 6) (d : Fin 128) : Fin 768 := ⟨128 * h.val + d.val, by omega⟩
def srow (s : Fin 2) (j : Fin 512) : Fin 1024 := ⟨512 * s.val + j.val, by omega⟩
def vrow (h : Fin 6) (r : Fin 80) : Fin 480 := ⟨80 * h.val + r.val, by omega⟩

theorem rK_idx (h : Fin 6) (i : Fin 512) (d : Fin 128) : (rK h).idx (ix2 i d) = ix2 i (hcol h d) := funext fun b => Fin.ext (by
  match b with
  | ⟨0, _⟩ => show 0 + 1 * i.val = i.val; omega
  | ⟨1, _⟩ => show 128 * h.val + 1 * d.val = 128 * h.val + d.val; omega)
theorem rQ_idx (p : Chain) (j : Fin 512) (d : Fin 128) : (rQ p).idx (ix2 j d) = ix2 (srow p.2 j) (hcol p.1 d) := funext fun b => Fin.ext (by
  match b with
  | ⟨0, _⟩ => show 512 * p.2.val + 1 * j.val = 512 * p.2.val + j.val; omega
  | ⟨1, _⟩ => show 128 * p.1.val + 1 * d.val = 128 * p.1.val + d.val; omega)
theorem rV_idx (h : Fin 6) (r : Fin 80) (i : Fin 512) : (rV h).idx (ix2 r i) = ix2 (vrow h r) i := funext fun b => Fin.ext (by
  match b with
  | ⟨0, _⟩ => show 80 * h.val + 1 * r.val = 80 * h.val + r.val; omega
  | ⟨1, _⟩ => show 0 + 1 * i.val = i.val; omega)
theorem rM_idx (p : Chain) (j : Fin 512) : (rM p).idx (ix3 (0 : Fin 1) (0 : Fin 1) j) = ix3 p.1 (0 : Fin 1) (srow p.2 j) := funext fun b => Fin.ext (by
  match b with
  | ⟨0, _⟩ => show p.1.val + 1 * 0 = p.1.val; omega
  | ⟨1, _⟩ => rfl
  | ⟨2, _⟩ => show 512 * p.2.val + 1 * j.val = 512 * p.2.val + j.val; omega)
theorem rA_idx (p : Chain) (r : Fin 80) (j : Fin 512) : (rA p).idx (ix3 (0 : Fin 1) r j) = ix3 p.1 r (srow p.2 j) := funext fun b => Fin.ext (by
  match b with
  | ⟨0, _⟩ => show p.1.val + 1 * 0 = p.1.val; omega
  | ⟨1, _⟩ => show 0 + 1 * r.val = r.val; omega
  | ⟨2, _⟩ => show 512 * p.2.val + 1 * j.val = 512 * p.2.val + j.val; omega)

/-- The score of a head's query against a key. -/
def score (h : Fin 6) (Q j : Fin 16384) : EReal := ∑ d : Fin 128, kA W c (ix2 j (hcol h d)) * qA W c (ix2 Q (hcol h d))

/-- The global query of a strip's row, and the global key of a block's. -/
def gq (s : Fin 2) (j : Fin 512) : Fin 16384 := ⟨1024 * qn t.val + (512 * s.val + j.val), lt_of_qn t (srow s j)⟩
def gk (i : Fin 512) : Fin 16384 := ⟨512 * kn t.val + i.val, lt_of_kn t i⟩

theorem ldS_apply (p : Chain) (i j : Fin 512) :
    ldS (ms0 t) (ms1 t) (iblk W c (0 : Fin 4) t) (iblk W c (1 : Fin 4) t) p (ix2 i j) = score W c p.1 (gq t p.2 j) (gk t i) := by
  refine (sc_apply _ _ i j).trans (Finset.sum_congr rfl fun d _ => ?_)
  refine congrArg₂ (· * ·) ?_ ?_
  · rw [View.readAt_rep]
    show iblk W c (1 : Fin 4) t ((rK p.1).idx (ix2 i d)) = _
    rw [rK_idx]; exact iblk1_apply W c t i _
  · rw [View.readAt_rep]
    show iblk W c (0 : Fin 4) t ((rQ p).idx (ix2 j d)) = _
    rw [rQ_idx]; exact iblk0_apply W c t _ _

theorem stV_apply (p : Chain) (r : Fin 80) (i : Fin 512) : stV W c t p (ix2 r i) = vA W c (ix2 (vrow p.1 r) (gk t i)) := by
  unfold stV ldV
  rw [View.readAt_rep]
  show iblk W c (2 : Fin 4) t ((rV p.1).idx (ix2 r i)) = _
  rw [rV_idx]; exact iblk2_apply W c t _ i

/-- The step's scores: masked where the key comes after the query, on the diagonal block; all of them below it. -/
theorem stS_apply (p : Chain) (i j : Fin 512) (h : kn t.val ≤ 2 * qn t.val + p.2.val) :
    stS W c t p (ix2 i j) = if (gk t i).val ≤ (gq t p.2 j).val then score W c p.1 (gq t p.2 j) (gk t i) else ⊥ := by
  unfold stS gk gq
  by_cases e : kn t.val = 2 * qn t.val + p.2.val
  · rw [show (kn t.val == 2 * qn t.val + p.2.val) = true from beq_iff_eq.mpr e]
    refine (msk_apply _ i j).trans ?_
    rw [ldS_apply]
    refine if_congr ?_ rfl rfl
    show i.val ≤ j.val ↔ 512 * kn t.val + i.val ≤ 1024 * qn t.val + (512 * p.2.val + j.val)
    omega
  · rw [show (kn t.val == 2 * qn t.val + p.2.val) = false from beq_false_of_ne e]
    rw [if_pos (show 512 * kn t.val + i.val ≤ 1024 * qn t.val + (512 * p.2.val + j.val) by have := i.isLt; omega)]
    exact ldS_apply W c t p i j

end Cert.KernelIdeal.Attn

end
-- ==== Proof.KernelIdeal.Invariant.lean ====
/- What the scratch holds between steps: for each head and query, the largest score over the keys seen so far and the value
   rows weighted by the powers of two of the scores. -/
module

public import proofs.«01_k».proof.Proof.KernelIdeal.Blocks
public import proofs.«01_k».proof.Proof.Softmax

@[expose] public section

set_option maxRecDepth 16384

noncomputable section

namespace Cert.KernelIdeal.Attn

open Cert.KernelIdeal Cert.KernelIdeal.Gen
open Idealize.ShloMosaic Idealize.ShloMosaic.ValueIdx
open Idealize.ShloMosaic.TcCoe
open Cert.Softmax (top wsum top_step wsum_step)
open scoped BigOperators

variable (W : Entry) (c : Dev nD)

/-- A head's scores of query `Q`, and its value rows, by the key's number. -/
def sOf (h : Fin 6) (Q n : ℕ) : ℝ := if g : Q < 16384 ∧ n < 16384 then (score W c h ⟨Q, g.1⟩ ⟨n, g.2⟩).toReal else 0
def vOf (h : Fin 6) (r : Fin 80) (n : ℕ) : EReal := if g : n < 16384 then vA W c (ix2 (vrow h r) ⟨n, g⟩) else 0

/-- Every score is a real number. -/
def RealScores : Prop := ∀ h Q j, score W c h Q j = ((score W c h Q j).toReal : EReal)

theorem sOf_eq {h : Fin 6} {Q n : ℕ} (g : Q < 16384) (g' : n < 16384) (hs : RealScores W c) : (sOf W c h Q n : EReal) = score W c h ⟨Q, g⟩ ⟨n, g'⟩ := by
  unfold sOf; rw [dif_pos ⟨g, g'⟩]; exact (hs _ _ _).symm
theorem vOf_eq {h : Fin 6} {r : Fin 80} {n : ℕ} (g : n < 16384) : vOf W c h r n = vA W c (ix2 (vrow h r) ⟨n, g⟩) := dif_pos g

/-- How many keys query `Q` has seen after `k` blocks of keys. -/
abbrev seen (k Q : ℕ) : ℕ := min (512 * k) (Q + 1)

/-- The scratch after `k` blocks of keys, in query block `q`. -/
def Good (b : Scr c) (q k : ℕ) : Prop := ∀ (h : Fin 6) (s : Fin 2) (j : Fin 512),
  rdM c b.1 (ix3 h (0 : Fin 1) (srow s j)) = top (sOf W c h (1024 * q + (512 * s.val + j.val))) (seen k (1024 * q + (512 * s.val + j.val)))
  ∧ ∀ r : Fin 80, rdA c b.2 (ix3 h r (srow s j)) = wsum (sOf W c h (1024 * q + (512 * s.val + j.val))) (vOf W c h r) (seen k (1024 * q + (512 * s.val + j.val)))
      (top (sOf W c h (1024 * q + (512 * s.val + j.val))) (seen k (1024 * q + (512 * s.val + j.val))))

theorem atM_apply (b : Scr c) (p : Chain) (j : Fin 512) : atM c b.1 p (ix3 (0 : Fin 1) (0 : Fin 1) j) = rdM c b.1 (ix3 p.1 (0 : Fin 1) (srow p.2 j)) := by
  rw [← rM_idx]; rfl
theorem atA_apply (b : Scr c) (p : Chain) (r : Fin 80) (j : Fin 512) : atA c b.2 p (ix3 (0 : Fin 1) r j) = rdA c b.2 (ix3 p.1 r (srow p.2 j)) := by
  rw [← rA_idx]; rfl

variable (t : Fin cfgA.N)

/-- What a step starts from, before any key or after `kn` blocks of them. -/
theorem old_good (b : Scr c) (hb : kn t.val ≠ 0 → Good W c b (qn t.val) (kn t.val)) (p : Chain) (j : Fin 512) :
    oldM c t b p (ix3 (0 : Fin 1) (0 : Fin 1) j) = top (sOf W c p.1 (gq t p.2 j).val) (seen (kn t.val) (gq t p.2 j).val)
    ∧ ∀ r : Fin 80, oldA c t b p (ix3 (0 : Fin 1) r j) = wsum (sOf W c p.1 (gq t p.2 j).val) (vOf W c p.1 r) (seen (kn t.val) (gq t p.2 j).val)
        (top (sOf W c p.1 (gq t p.2 j).val) (seen (kn t.val) (gq t p.2 j).val)) := by
  unfold oldM oldA
  by_cases hk : kn t.val = 0
  · rw [if_pos hk, if_pos hk, hk, show seen 0 (gq t p.2 j).val = 0 from Nat.zero_min _]
    exact ⟨rfl, fun _ => rfl⟩
  · rw [if_neg hk, if_neg hk]
    obtain ⟨hM, hA⟩ := hb hk p.1 p.2 j
    exact ⟨(atM_apply c b p j).trans hM, fun r => (atA_apply c b p r j).trans (hA r)⟩

/-- A step takes in one block of keys. -/
theorem step_good (hs : RealScores W c) (b : Scr c) (hb : kn t.val ≠ 0 → Good W c b (qn t.val) (kn t.val)) :
    Good W c (step W c t b) (qn t.val) (kn t.val + 1) := by
  intro h s j
  by_cases hle : kn t.val ≤ 2 * qn t.val + s.val
  · obtain ⟨hM, hA⟩ := step_new W c t b (h, s) hle
    obtain ⟨oM, oA⟩ := old_good W c t b hb (h, s) j
    have eM := hM (ix3 (0 : Fin 1) (0 : Fin 1) j)
    rw [rM_idx, newM_apply, oM] at eM
    have hQ : (gq t s j).val = 1024 * qn t.val + (512 * s.val + j.val) := rfl
    have hQl := (gq t s j).isLt
    rw [hQ] at hQl
    have hn : seen (kn t.val) (gq t s j).val = 512 * kn t.val := by rw [hQ]; exact min_eq_left (by omega)
    obtain ⟨e, he⟩ : ∃ e, e = min 512 (1024 * qn t.val + (512 * s.val + j.val) + 1 - 512 * kn t.val) := ⟨_, rfl⟩
    have hn' : seen (kn t.val + 1) (1024 * qn t.val + (512 * s.val + j.val)) = 512 * kn t.val + e := by unfold seen; omega
    have hS : ∀ i : Fin 512, stS W c t (h, s) (ix2 i j)
        = if i.val < e then ((sOf W c h (1024 * qn t.val + (512 * s.val + j.val)) (512 * kn t.val + i.val) : ℝ) : EReal) else ⊥ := fun i => by
      rw [stS_apply W c t (h, s) i j hle]
      refine if_congr ?_ (sOf_eq W c hQl (gk t i).isLt hs).symm rfl
      show 512 * kn t.val + i.val ≤ 1024 * qn t.val + (512 * s.val + j.val) ↔ i.val < e
      have := i.isLt; omega
    have eT := top_step (sOf W c h (1024 * qn t.val + (512 * s.val + j.val))) 512 (512 * kn t.val) e (by omega) _ hS
    dsimp only at eM
    rw [hn, hQ, eT] at eM
    rw [hn']
    refine ⟨eM, fun r => ?_⟩
    have eA := hA (ix3 (0 : Fin 1) r j)
    rw [rA_idx, newA_apply, newM_apply, oM, oA r] at eA
    dsimp only at eA
    rw [hn, hQ, eT] at eA
    refine eA.trans ?_
    exact wsum_step _ _ 512 (512 * kn t.val) e (by omega) (by omega) _ hS _ fun i =>
      (stV_apply W c t (h, s) r i).trans (vOf_eq W c (gk t i).isLt).symm
  · obtain ⟨hM, hA⟩ := step_old W c t b (h, s) (by show 2 * qn t.val + s.val < kn t.val; omega)
    obtain ⟨oM, oA⟩ := hb (by omega) h s j
    have hn : seen (kn t.val + 1) (1024 * qn t.val + (512 * s.val + j.val)) = seen (kn t.val) (1024 * qn t.val + (512 * s.val + j.val)) := by
      unfold seen; have := j.isLt; omega
    rw [hn]
    have eM := hM (ix3 (0 : Fin 1) (0 : Fin 1) j)
    rw [rM_idx] at eM
    refine ⟨eM.trans oM, fun r => ?_⟩
    have eA := hA (ix3 (0 : Fin 1) r j)
    rw [rA_idx] at eA
    exact eA.trans (oA r)

/-- So before each step that does not start afresh the scratch is as it should be, -/
theorem prev_good (hs : RealScores W c) : ∀ (n : ℕ) (hn : n < cfgA.N), kn n ≠ 0 → Good W c (prev W c n hn.le) (qn n) (kn n)
  | 0, _, hk => absurd kn_zero hk
  | n + 1, hn, hk => by
    obtain ⟨-, -, -, -, -, -, -, -, -, -, -, -, -, fk, fq⟩ := facts ⟨n, Nat.lt_of_succ_lt hn⟩
    have h271 : n ≠ 271 := by have := NA; omega
    have fk := fk.resolve_right h271
    have fq := fq.resolve_right h271
    dsimp only at fk fq
    by_cases hl : kn n = 2 * qn n + 1
    · rw [if_pos hl] at fk; exact absurd fk hk
    · rw [if_neg hl] at fk fq
      rw [fk, fq, prev_succ W c ⟨n, Nat.lt_of_succ_lt hn⟩]
      exact step_good W c ⟨n, Nat.lt_of_succ_lt hn⟩ hs _ fun h0 => prev_good hs n (Nat.lt_of_succ_lt hn) h0

/-- and after each. -/
theorem after_good (hs : RealScores W c) : Good W c (step W c t (prev W c t.val t.isLt.le)) (qn t.val) (kn t.val + 1) :=
  step_good W c t hs _ fun h0 => prev_good W c hs t.val t.isLt h0

end Cert.KernelIdeal.Attn

end
-- ==== Proof.KernelIdeal.Output.lean ====
/- The kernel's output array: each query's value rows, weighted and summed over the keys up to the query, divided by the sum of
   the weights. -/
module

public import proofs.«01_k».proof.Proof.KernelIdeal.Invariant

@[expose] public section

set_option maxRecDepth 16384

noncomputable section

namespace Cert.KernelIdeal.Attn

open Cert.KernelIdeal Cert.KernelIdeal.Gen
open Idealize.ShloMosaic Idealize.ShloMosaic.ValueIdx
open Idealize.ShloMosaic.TcCoe
open Idealize.ShloMosaic.Pipeline (Dat Cfg Window)
open Cert.Softmax (top wsum)
open scoped BigOperators

theorem rO_disjoint (p q : Fin 6) (h : p ≠ q) : Disjoint (rO p).set (rO q).set := by
  refine Finset.disjoint_left.mpr fun y hp hq => h ?_
  have p1 : 64 * p.val ≤ (y 1).val ∧ (y 1).val < 64 * p.val + 64 := Rect.mem_set_unit.mp hp 1
  have q1 : 64 * q.val ≤ (y 1).val ∧ (y 1).val < 64 * q.val + 64 := Rect.mem_set_unit.mp hq 1
  exact Fin.ext (by omega)

/-- The place of a head's output column. -/
def ocol (h : Fin 6) (d : Fin 64) : Fin 384 := ⟨64 * h.val + d.val, by omega⟩

theorem rO_idx (h : Fin 6) (i : Fin 1024) (d : Fin 64) : (rO h).idx (ix2 i d) = ix2 i (ocol h d) := funext fun b => Fin.ext (by
  match b with
  | ⟨0, _⟩ => show 0 + 1 * i.val = i.val; omega
  | ⟨1, _⟩ => show 64 * h.val + 1 * d.val = 64 * h.val + d.val; omega)
theorem rH_idx (h : Fin 6) (r : Fin 80) (i : Fin 1024) : (rH h).idx (ix3 (0 : Fin 1) r i) = ix3 h r i := funext fun b => Fin.ext (by
  match b with
  | ⟨0, _⟩ => show h.val + 1 * 0 = h.val; omega
  | ⟨1, _⟩ => show 0 + 1 * r.val = r.val; omega
  | ⟨2, _⟩ => show 0 + 1 * i.val = i.val; omega)

theorem heads_all : ∀ h : Fin 6, h ∈ ([5, 4, 3, 2, 1, 0] : List (Fin 6)) := by decide

/-- Row 64 of a head's value rows: the ones that sum the weights. -/
abbrev r64 : Fin 80 := 64
abbrev rd80 (d : Fin 64) : Fin 80 := ⟨d.val, by omega⟩

/-- The output block, read where a head's columns lie. -/
theorem out_read (c : Dev nD) (a : Buf (Elt Ideal) ((c : Thread nD τ).loc cc0_scratch1)) (h : Fin 6) (i : Fin 1024) (d : Fin 64) :
    VO.read (Elt Ideal) (VO.writes (Elt Ideal) VO.junk (([5, 4, 3, 2, 1, 0] : List (Fin 6)).map (pcO c a))) (ix2 i (ocol h d))
      = Ideal.div (rdA c a (ix3 h (rd80 d) i)) (rdA c a (ix3 h r64 i)) := by
  rw [← rO_idx]
  refine (read_hit VO VO.junk rO (fun h => k0_pay10 (F := Ideal) (View.readAt (Elt Ideal) scA.view (rH h).toLoadRect a)) rO_disjoint _ h (heads_all h) (ix2 i d)).trans ?_
  refine (quot_apply _ i d).trans ?_
  rw [← rH_idx h (rd80 d) i, ← rH_idx h r64 i]; rfl

variable (W : Entry) (c : Dev nD) (t : Fin cfgA.N)

/-- The weighted sums of head `h`'s value row `r` over the keys up to query `Q`. -/
def full (h : Fin 6) (r : Fin 80) (Q : ℕ) : EReal := wsum (sOf W c h Q) (vOf W c h r) (Q + 1) (top (sOf W c h Q) (Q + 1))

theorem split_row (i : Fin 1024) : ∃ (s : Fin 2) (j : Fin 512), i = srow s j :=
  ⟨⟨i.val / 512, by omega⟩, ⟨i.val % 512, by omega⟩, Fin.ext (by show i.val = 512 * (i.val / 512) + i.val % 512; omega)⟩

/-- After the last block of keys of a query block the scratch holds the whole sums, -/
theorem last_good (hs : RealScores W c) (hB : onB t) (h : Fin 6) (r : Fin 80) (i : Fin 1024) :
    rdA c (step W c t (prev W c t.val t.isLt.le)).2 (ix3 h r i) = full W c h r (1024 * qn t.val + i.val) := by
  obtain ⟨s, j, rfl⟩ := split_row i
  refine ((after_good W c t hs h s j).2 r).trans ?_
  have hn : seen (kn t.val + 1) (1024 * qn t.val + (512 * s.val + j.val)) = 1024 * qn t.val + (512 * s.val + j.val) + 1 := by
    have : kn t.val = 2 * qn t.val + 1 := hB
    unfold seen; omega
  rw [hn]; rfl

/-- The output block as its stores over the scratch the step leaves. -/
theorem outAt_eq (b : Scr c) (hB : onB t) :
    outAt W c t b = VO.read (Elt Ideal) (VO.writes (Elt Ideal) VO.junk (([5, 4, 3, 2, 1, 0] : List (Fin 6)).map (pcO c (step W c t b).2))) := by
  have e := congrArg Prod.snd (step_B W c t b hB)
  dsimp only at e
  unfold outAt
  rw [dif_pos hB, e]
  exact congrArg (fun L => VO.read (Elt Ideal) (VO.writes (Elt Ideal) VO.junk L)) (runB_out ..)

/-- and the output block their quotients. -/
theorem outAt_apply (hs : RealScores W c) (hB : onB t) (h : Fin 6) (i : Fin 1024) (d : Fin 64) :
    outAt W c t (prev W c t.val t.isLt.le) (ix2 i (ocol h d))
      = Ideal.div (full W c h (rd80 d) (1024 * qn t.val + i.val)) (full W c h r64 (1024 * qn t.val + i.val)) := by
  rw [← last_good W c t hs hB, ← last_good W c t hs hB, ← out_read, outAt_eq W c t _ hB]

/-- The output array. -/
def outG : S16384x384.Idx → EReal := fun y =>
  Ideal.div (full W c ⟨(y 1).val / 64, by have := (y 1).isLt; simp at this; omega⟩ (rd80 ⟨(y 1).val % 64, by omega⟩) (y 0).val)
    (full W c ⟨(y 1).val / 64, by have := (y 1).isLt; simp at this; omega⟩ r64 (y 0).val)

theorem outG_apply (h : Fin 6) (d : Fin 64) (Q : Fin 16384) : outG W c (ix2 Q (ocol h d)) = Ideal.div (full W c h (rd80 d) Q.val) (full W c h r64 Q.val) := by
  have e1 : (64 * h.val + d.val) / 64 = h.val := by omega
  have e2 : (64 * h.val + d.val) % 64 = d.val := by omega
  show Ideal.div (full W c ⟨(64 * h.val + d.val) / 64, _⟩ (rd80 ⟨(64 * h.val + d.val) % 64, _⟩) Q.val) (full W c ⟨(64 * h.val + d.val) / 64, _⟩ r64 Q.val) = _
  congr 2 <;> exact Fin.ext (by first | exact e1 | exact e2)

theorem split_col (a : Fin 384) : ∃ (h : Fin 6) (d : Fin 64), a = ocol h d :=
  ⟨⟨a.val / 64, by omega⟩, ⟨a.val % 64, by omega⟩, Fin.ext (by show a.val = 64 * (a.val / 64) + a.val % 64; omega)⟩

theorem ix2_eta {n m : ℕ} (y : (⟨2, ![n, m]⟩ : Shape).Idx) : y = ix2 (y 0) (y 1) := funext fun b => by
  match b with
  | ⟨0, _⟩ => rfl
  | ⟨1, _⟩ => rfl

/-- Where an element of the output block of step `t` lies. -/
theorem out_emb (i : Fin 1024) (a : Fin 384) :
    ((cfgA.win (3 : Fin 4)).rect t).emb (ix2 i a) = ix2 (⟨1024 * qn t.val + i.val, lt_of_qn t i⟩ : Fin 16384) a := funext fun b => Fin.ext (by
  obtain ⟨-, -, -, -, -, -, -, -, -, -, -, -, f, -⟩ := facts t
  refine (Window.rect_emb_val (cfgA.win (3 : Fin 4)) t (ix2 i a) b).trans ?_
  match b with
  | ⟨0, _⟩ => show cc0_transform_3 k0_off1_inb numel1_S1 tabs (crd t) 0 * 1024 + i.val = _; rw [f]; show qn t.val * 1024 + i.val = 1024 * qn t.val + i.val; omega
  | ⟨1, _⟩ => show cc0_transform_3 k0_off1_inb numel1_S1 tabs (crd t) 1 * 384 + a.val = _; rw [f]; show 0 * 384 + a.val = a.val; omega)

/-- Each query block has a step that writes it back. -/
theorem last_exists : ∀ q : Fin 16, ∃ t : Fin cfgA.N, qn t.val = q.val ∧ kn t.val = 2 * qn t.val + 1 := by decide +kernel

/-- The call's output array is that of the quotients. -/
theorem out_eq (hs : RealScores W c) : (dats W 0 c).arrAt (3 : Fin 4) cfgA.N = outG W c := by
  refine (dats W 0 c).arrAt_eq_of_cover (3 : Fin 4) _ (fun t hf => ?_) (fun i => ?_)
  · obtain ⟨-, -, -, -, -, -, f6, -⟩ := facts t
    have hB : onB t := by rw [f6] at hf; exact of_decide_eq_true hf
    funext y
    obtain ⟨i, a, rfl⟩ : ∃ (i : Fin 1024) (a : Fin 384), y = ix2 i a := ⟨y 0, y 1, ix2_eta y⟩
    obtain ⟨h, d, rfl⟩ := split_col a
    show outAt W c t (prev W c t.val t.isLt.le) (ix2 i (ocol h d)) = outG W c (((cfgA.win (3 : Fin 4)).rect t).emb (ix2 i (ocol h d)))
    rw [outAt_apply W c t hs hB, out_emb, outG_apply]
  · obtain ⟨t, hq, hk⟩ := last_exists ⟨(i 0).val / 1024, by have : (i 0).val < 16384 := (i 0).isLt; omega⟩
    obtain ⟨-, -, -, -, -, -, f6, -⟩ := facts t
    refine ⟨t, by rw [f6]; exact decide_eq_true hk, ?_⟩
    have e : ((cfgA.win (3 : Fin 4)).blk t).view.emb (ix2 (⟨(i 0).val % 1024, by omega⟩ : Fin 1024) (i 1)) = i := by
      refine (out_emb t _ _).trans ?_
      rw [ix2_eta i]
      congr 1
      exact Fin.ext (by show 1024 * qn t.val + (i 0).val % 1024 = (i 0).val; rw [hq]; show 1024 * ((i 0).val / 1024) + (i 0).val % 1024 = (i 0).val; omega)
    rw [← e]; exact View.emb_mem_set _ _

end Cert.KernelIdeal.Attn

end
-- ==== Proof.Attention.lean ====
/- The kernel's result is the reference's, for arrays handed over as the precondition says. -/
module

public import proofs.«01_k».proof.Proof.Softmax
public import proofs.«01_k».proof.Proof.Reference
public import proofs.«01_k».proof.Proof.KernelIdeal.Output

@[expose] public section

set_option maxRecDepth 16384

noncomputable section

namespace Cert.Attention

open Idealize.ShloMosaic Idealize.ShloMosaic.ValueIdx Idealize.SL.Sem
open Cert.KernelIdeal.Attn
open scoped BigOperators

/-- A finite sum of products of real numbers is a real number. -/
theorem real_sum {n : Nat} (a b : Fin n → EReal) (ha : ∀ d, a d = ((a d).toReal : EReal)) (hb : ∀ d, b d = ((b d).toReal : EReal)) :
    ∑ d, a d * b d = ((∑ d, a d * b d).toReal : EReal) := by
  have e : ∑ d, a d * b d = ((∑ d, (a d).toReal * (b d).toReal : ℝ) : EReal) := by
    refine Eq.trans ?_ (map_sum (⟨⟨((↑) : ℝ → EReal), EReal.coe_zero⟩, EReal.coe_add⟩ : ℝ →+ EReal) _ _).symm
    exact Finset.sum_congr rfl fun d _ => ((EReal.coe_mul _ _).trans (by rw [← ha, ← hb])).symm
  rw [e, EReal.toReal_coe]

variable (W : Entry) (c : Dev Cert.KernelIdeal.nD)
  (hq : ∀ i, qA W c i = ((qA W c i).toReal : EReal)) (hk : ∀ i, kA W c i = ((kA W c i).toReal : EReal))

include hq hk in
theorem real_scores : RealScores W c := fun _ _ _ => real_sum _ _ (fun _ => hk _) (fun _ => hq _)

include hq hk in
theorem same_at (hv : ∀ (h : Fin 6) (j : Fin 16384), vA W c (ix2 (vrow h r64) j) = 1) (h : Fin 6) (d : Fin 64) (Q : Fin 16384) :
    Cert.ReferenceIdeal.Read.val_main_v31 (F := Ideal) (qA W c) (kA W c) (vA W c) (ix2 Q (ocol h d)) = outG W c (ix2 Q (ocol h d)) := by
  have hs := real_scores W c hq hk
  have hQ := Q.isLt
  rw [outG_apply]
  refine (Cert.ReferenceIdeal.Attn.v31_eq _ _ _ h d Q).trans ?_
  refine (Cert.Softmax.softmax_eq (sOf W c h Q.val) (vOf W c h (rd80 d)) 16384 (Q.val + 1) hQ (Nat.succ_pos _)
    (Cert.ReferenceIdeal.Attn.row (qA W c) (kA W c) h Q) (fun j => ?_) _ (fun j => (vOf_eq W c j.isLt).symm) _ rfl).trans ?_
  · refine (Cert.ReferenceIdeal.Attn.v17_eq _ _ h Q j).trans ?_
    refine if_congr Nat.lt_succ_iff.symm ?_ rfl
    rw [EReal.coe_mul, sOf_eq W c Q.isLt j.isLt hs]
    exact congrArg (· * _) (Finset.sum_congr rfl fun d _ => mul_comm _ _)
  · refine congrArg (Ideal.div _) (Finset.sum_congr rfl fun j hj => ?_)
    have hj : j < 16384 := lt_of_lt_of_le (Finset.mem_range.mp hj) hQ
    rw [vOf_eq W c hj, hv]

include hq hk in
/-- The reference's attention of the arrays the kernel is given is what the kernel computes. -/
theorem same (hv : ∀ (h : Fin 6) (j : Fin 16384), vA W c (ix2 (vrow h r64) j) = 1) :
    Cert.ReferenceIdeal.Read.val_main_v31 (F := Ideal) (qA W c) (kA W c) (vA W c) = outG W c := funext fun y => by
  obtain ⟨h, d, e⟩ := split_col (y 1)
  exact (congrArg _ ((ix2_eta y).trans (congrArg (ix2 (y 0)) e))).trans
    ((same_at W c hq hk hv h d (y 0)).trans (congrArg (outG W c) ((ix2_eta y).trans (congrArg (ix2 (y 0)) e))).symm)

end Cert.Attention

end
-- ==== Proof.Kernel.Tables.lean ====
/- The two tables of the attention call (which query block and which key block a step works on), the steps they give, and the pipeline at them. -/
module

public import proofs.«01_k».proof.Defs
public import proofs.«01_k».proof.Proof.Gen.Kernel
public import proofs.«01_k».proof.Proof.Gen.Kernel.Launch
public import Idealize.ShloMosaic.Lib.Pipeline.Kit
public import Idealize.ShloMosaic.Lib.Pipeline.Frame
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
-- one declaration at a time: the runs and the decided facts are memory-heavy
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The tables and the scratch buffers as the kernel is handed them. -/
abbrev tbQ : Memref sig .tc .smem S272 .i32 := Memref.whole main_c
abbrev tbK : Memref sig .tc .smem S272 .i32 := Memref.whole main_c_0
abbrev scM : Memref sig .tc .vmem S6x1x1024 .f32 := Memref.whole cc0_scratch0
abbrev scA : Memref sig .tc .vmem S6x80x1024 .f32 := Memref.whole cc0_scratch1

/-- The query block of step `n`. -/
def qn (n : ℕ) : ℕ := ([0, 0, 1, 1, 1, 1, 2, 2, 2, 2, 2, 2, 3, 3, 3, 3, 3, 3, 3, 3, 4, 4, 4, 4, 4, 4, 4, 4, 4, 4, 5, 5, 5, 5, 5, 5, 5, 5, 5, 5, 5, 5, 6, 6, 6, 6, 6, 6, 6, 6, 6, 6, 6, 6, 6, 6, 7, 7, 7, 7, 7, 7, 7, 7, 7, 7, 7, 7, 7, 7, 7, 7, 8, 8, 8, 8, 8, 8, 8, 8, 8, 8, 8, 8, 8, 8, 8, 8, 8, 8, 9, 9, 9, 9, 9, 9, 9, 9, 9, 9, 9, 9, 9, 9, 9, 9, 9, 9, 9, 9, 10, 10, 10, 10, 10, 10, 10, 10, 10, 10, 10, 10, 10, 10, 10, 10, 10, 10, 10, 10, 10, 10, 11, 11, 11, 11, 11, 11, 11, 11, 11, 11, 11, 11, 11, 11, 11, 11, 11, 11, 11, 11, 11, 11, 11, 11, 12, 12, 12, 12, 12, 12, 12, 12, 12, 12, 12, 12, 12, 12, 12, 12, 12, 12, 12, 12, 12, 12, 12, 12, 12, 12, 13, 13, 13, 13, 13, 13, 13, 13, 13, 13, 13, 13, 13, 13, 13, 13, 13, 13, 13, 13, 13, 13, 13, 13, 13, 13, 13, 13, 14, 14, 14, 14, 14, 14, 14, 14, 14, 14, 14, 14, 14, 14, 14, 14, 14, 14, 14, 14, 14, 14, 14, 14, 14, 14, 14, 14, 14, 14, 15, 15, 15, 15, 15, 15, 15, 15, 15, 15, 15, 15, 15, 15, 15, 15, 15, 15, 15, 15, 15, 15, 15, 15, 15, 15, 15, 15, 15, 15, 15, 15] : List ℕ).getD n 0
/-- The key block of step `n`. -/
def kn (n : ℕ) : ℕ := ([0, 1, 0, 1, 2, 3, 0, 1, 2, 3, 4, 5, 0, 1, 2, 3, 4, 5, 6, 7, 0, 1, 2, 3, 4, 5, 6, 7, 8, 9, 0, 1, 2, 3, 4, 5, 6, 7, 8, 9, 10, 11, 0, 1, 2, 3, 4, 5, 6, 7, 8, 9, 10, 11, 12, 13, 0, 1, 2, 3, 4, 5, 6, 7, 8, 9, 10, 11, 12, 13, 14, 15, 0, 1, 2, 3, 4, 5, 6, 7, 8, 9, 10, 11, 12, 13, 14, 15, 16, 17, 0, 1, 2, 3, 4, 5, 6, 7, 8, 9, 10, 11, 12, 13, 14, 15, 16, 17, 18, 19, 0, 1, 2, 3, 4, 5, 6, 7, 8, 9, 10, 11, 12, 13, 14, 15, 16, 17, 18, 19, 20, 21, 0, 1, 2, 3, 4, 5, 6, 7, 8, 9, 10, 11, 12, 13, 14, 15, 16, 17, 18, 19, 20, 21, 22, 23, 0, 1, 2, 3, 4, 5, 6, 7, 8, 9, 10, 11, 12, 13, 14, 15, 16, 17, 18, 19, 20, 21, 22, 23, 24, 25, 0, 1, 2, 3, 4, 5, 6, 7, 8, 9, 10, 11, 12, 13, 14, 15, 16, 17, 18, 19, 20, 21, 22, 23, 24, 25, 26, 27, 0, 1, 2, 3, 4, 5, 6, 7, 8, 9, 10, 11, 12, 13, 14, 15, 16, 17, 18, 19, 20, 21, 22, 23, 24, 25, 26, 27, 28, 29, 0, 1, 2, 3, 4, 5, 6, 7, 8, 9, 10, 11, 12, 13, 14, 15, 16, 17, 18, 19, 20, 21, 22, 23, 24, 25, 26, 27, 28, 29, 30, 31] : List ℕ).getD n 0

/-- The same, as the words the tables hold. -/
def qTab : S272.Idx → BitVec 32 := fun x => BitVec.ofNat 32 (qn (x 0).val)
def kTab : S272.Idx → BitVec 32 := fun x => BitVec.ofNat 32 (kn (x 0).val)

theorem lit0_eq : ∀ i : Fin 272, lit0 i = BitVec.ofNat 32 (qn i.val) := by decide +kernel
theorem lit1_eq : ∀ i : Fin 272, lit1 i = BitVec.ofNat 32 (kn i.val) := by decide +kernel

/-- The host's first constant is the table of query blocks; -/
theorem lit0_tab : (fun i : S272.Idx => lit0 (S272.rowMajor i)) = qTab := funext fun i =>
  (lit0_eq (S272.rowMajor i)).trans (congrArg (fun n => BitVec.ofNat 32 (qn n)) (Shape.rowMajor_val_one i))
/-- its second the table of key blocks. -/
theorem lit1_tab : (fun i : S272.Idx => lit1 (S272.rowMajor i)) = kTab := funext fun i =>
  (lit1_eq (S272.rowMajor i)).trans (congrArg (fun n => BitVec.ofNat 32 (kn n)) (Shape.rowMajor_val_one i))

/-- The tables' contents the pipeline runs at. -/
def tabs : pre0.Contents (Elt Bits) := fun | ⟨0, _⟩ => qTab | ⟨1, _⟩ => kTab | ⟨_ + 2, h⟩ => absurd h (by simp)

theorem inb_w0 : ∀ i : grid0.Coords, ∀ a, (cc0_transform_0 k0_off1_inb numel1_S1 tabs i a + 1) * S1024x768.size a ≤ S16384x768.size a := by decide +kernel
theorem inb_w1 : ∀ i : grid0.Coords, ∀ a, (cc0_transform_1 k0_off1_inb numel1_S1 tabs i a + 1) * S512x768.size a ≤ S16384x768.size a := by decide +kernel
theorem inb_w2 : ∀ i : grid0.Coords, ∀ a, (cc0_transform_2 k0_off1_inb numel1_S1 tabs i a + 1) * S480x512.size a ≤ S480x16384.size a := by decide +kernel
theorem inb_w3 : ∀ i : grid0.Coords, ∀ a, (cc0_transform_3 k0_off1_inb numel1_S1 tabs i a + 1) * S1024x384.size a ≤ S16384x384.size a := by decide +kernel

/-- Every window's block lies inside its array, and takes whole words of it. -/
theorem tabs_ok : ok0 (F := Bits) tabs :=
  ⟨fun i => ⟨inb_w0 i, .inr (Affine.block_words_dvd (s := S16384x768) (p := EltTy.packing .bf16) (by decide) (by decide))⟩,
    fun i => ⟨inb_w1 i, .inr (Affine.block_words_dvd (s := S16384x768) (p := EltTy.packing .bf16) (by decide) (by decide))⟩,
    fun i => ⟨inb_w2 i, .inr (Affine.block_words_dvd (s := S480x16384) (p := EltTy.packing .bf16) (by decide) (by decide))⟩,
    fun i => ⟨inb_w3 i, .inl rfl⟩⟩

/-- The tables as admissible contents, and the pipeline at them: 272 steps. -/
def adm : (pcfg0 (F := Bits)).Adm := ⟨tabs, tabs_ok⟩
abbrev cfgA : Pipeline.Cfg sig Λ₀ := cfg0 (F := Bits) adm
abbrev pcs : Fin 1 → Pipeline.Cfg sig Λ₀ := Pipeline.pin (pcfgs (F := Bits)) fun _ => adm
abbrev crd (t : Fin cfgA.N) : cfgA.grid.Coords := cfgA.grid.coords t

/-- Each window's staging buffer at step `t`. -/
abbrev ms0 (t : Fin cfgA.N) : Memref sig .tc .vmem S1024x768 .bf16 := spec0_0.stage (cfgA.slots t (0 : Fin 4))
abbrev hs0 (t : Fin cfgA.N) : (ms0 t).IsWhole := hstage0_0 ((cfgA.slots t (0 : Fin 4)).cast nbuf0_0)
abbrev ms1 (t : Fin cfgA.N) : Memref sig .tc .vmem S512x768 .bf16 := spec0_1.stage (cfgA.slots t (1 : Fin 4))
abbrev hs1 (t : Fin cfgA.N) : (ms1 t).IsWhole := hstage0_1 ((cfgA.slots t (1 : Fin 4)).cast nbuf0_1)
abbrev ms2 (t : Fin cfgA.N) : Memref sig .tc .vmem S480x512 .bf16 := spec0_2.stage (cfgA.slots t (2 : Fin 4))
abbrev hs2 (t : Fin cfgA.N) : (ms2 t).IsWhole := hstage0_2 ((cfgA.slots t (2 : Fin 4)).cast nbuf0_2)
abbrev ms3 (t : Fin cfgA.N) : Memref sig .tc .vmem S1024x384 .f32 := spec0_3.stage (cfgA.slots t (3 : Fin 4))
abbrev hs3 (t : Fin cfgA.N) : (ms3 t).IsWhole := hstage0_3 ((cfgA.slots t (3 : Fin 4)).cast nbuf0_3)

/-- The words the body reads at step `i`: its query block and its key block. -/
abbrev wQ (i : grid0.Coords) : BitVec 32 := View.readAt (Elt Bits) tbQ.view (Rect.unit (s := S272) (k0_off1 i) S1.size (k0_off1_inb i)).toLoadRect qTab (Shape.Idx.first (numel1_S1.symm ▸ Nat.one_pos))
abbrev wK (i : grid0.Coords) : BitVec 32 := View.readAt (Elt Bits) tbK.view (Rect.unit (s := S272) (k0_off1 i) S1.size (k0_off1_inb i)).toLoadRect kTab (Shape.Idx.first (numel1_S1.symm ▸ Nat.one_pos))

/-- The body's five decisions over those words: first key block; below the diagonal; first and second diagonal block; last. -/
abbrev isFirst (i : grid0.Coords) : Prop := Scalar.cmpi .ne (Scalar.extui (Scalar.cmpi .eq (wK i) 0#32)) 0#32 = 1#1
abbrev isBelow (i : grid0.Coords) : Prop := Scalar.cmpi .ne (Scalar.extui (Scalar.cmpi .slt (wK i) (Scalar.muli (wQ i) 2#32))) 0#32 = 1#1
abbrev isDiag0 (i : grid0.Coords) : Prop := Scalar.cmpi .ne (Scalar.extui (Scalar.cmpi .eq (wK i) (Scalar.addi (Scalar.muli (wQ i) 2#32) 0#32))) 0#32 = 1#1
abbrev isDiag1 (i : grid0.Coords) : Prop := Scalar.cmpi .ne (Scalar.extui (Scalar.cmpi .eq (wK i) (Scalar.addi (Scalar.muli (wQ i) 2#32) 1#32))) 0#32 = 1#1
abbrev isLast (i : grid0.Coords) : Prop := k0_cond5 (wQ i) (wK i) = 1#1

end Cert.Kernel.Attn

end
-- ==== Proof.Kernel.Runs.lean ====
/- The body of the attention kernel run along each of its five control paths: what it leaves in the two scratch buffers and in the output. -/
module

public import proofs.«01_k».proof.Proof.Gen.Kernel.Skeleton
public import proofs.«01_k».proof.Proof.Kernel.Tables

@[expose] public section

set_option maxRecDepth 16384
-- one declaration at a time: the runs and the decided facts are memory-heavy
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

set_option backward.proofsInPublic true in
set_option maxHeartbeats 8000000 in
/-- Path A, the first step: the scratch is set up, then the first diagonal block: what the body leaves in the scratch, with the proof that it does. -/
def runA (c : Dev nD) (i : grid0.Coords) (arg3 : Memref sig .tc .vmem S1024x768 .bf16) (harg3 : arg3.IsWhole) (arg4 : Memref sig .tc .vmem S512x768 .bf16) (harg4 : arg4.IsWhole) (arg5 : Memref sig .tc .vmem S480x512 .bf16) (harg5 : arg5.IsWhole) (arg6 : Memref sig .tc .vmem S1024x384 .f32) (harg6 : arg6.IsWhole)
    (x0 : S1024x768.Idx → Elt Bits .bf16) (x1 : S512x768.Idx → Elt Bits .bf16) (x2 : S480x512.Idx → Elt Bits .bf16)
    (h0 : isFirst i) (h1 : ¬isBelow i) (h2 : isDiag0 i) (h3 : ¬isDiag1 i) (h4 : ¬isLast i) :
    Σ' (outM : Buf (Elt Bits) ((c : Thread nD τ).loc cc0_scratch0)), { outA : Buf (Elt Bits) ((c : Thread nD τ).loc cc0_scratch1) //
      ∀ (y3 : S1024x384.Idx → Elt Bits .f32) (xa0 : Buf (Elt Bits) ((c : Thread nD τ).loc cc0_scratch0)) (xa1 : Buf (Elt Bits) ((c : Thread nD τ).loc cc0_scratch1)) (K : PUnit → sProp 𝕄),
        iprop(          (arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbQ.view.loc (c : Thread nD τ) ↦{fullShare.right} qTab)
          ∗ (tbK.view.loc (c : Thread nD τ) ↦{fullShare.right} kTab)
          ∗ owns (c : Thread nD τ) arg6 fullShare y3
          ∗ (scM.view.loc (c : Thread nD τ) ↦{fullShare} xa0)
          ∗ (scA.view.loc (c : Thread nD τ) ↦{fullShare} xa1)
          ∗ (iprop(          (arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbQ.view.loc (c : Thread nD τ) ↦{fullShare.right} qTab)
          ∗ (tbK.view.loc (c : Thread nD τ) ↦{fullShare.right} kTab)
          ∗ owns (c : Thread nD τ) arg6 fullShare y3
          ∗ (scM.view.loc (c : Thread nD τ) ↦{fullShare} outM)
          ∗ (scA.view.loc (c : Thread nD τ) ↦{fullShare} outA)          ) -∗ K ⟨⟩))
          ⊢ wp frame (wpE (defs₀ (F := Bits)) Variants.none c none) Set.univ (cc0_flash_prompt i tbQ (Memref.isWhole_whole _) tbK (Memref.isWhole_whole _) arg3 harg3 arg4 harg4 arg5 harg5 arg6 harg6 scM (Memref.isWhole_whole _) scA (Memref.isWhole_whole _)) K } :=
  ⟨_, _, fun y3 xa0 xa1 K => by
    unfold owns
    rw [cc0_flash_prompt_eq_skeleton]; unfold cc0_flash_prompt_skel
    iintro ⟨H0, H1, H2, HT0, HT1, ⟨%f3, %hf3, HO⟩, HS0, HS1, Hk⟩
    obtain rfl := harg6.eq_unread hf3
    have hS0 : scM.IsWhole := Memref.isWhole_whole _
    have hS1 : scA.IsWhole := Memref.isWhole_whole _
    have hT0 : tbQ.IsWhole := Memref.isWhole_whole _
    have hT1 : tbK.IsWhole := Memref.isWhole_whole _
    sl_exec! (disch := first | (guard_target = Scalar.cmpi = _; exact h0) | (guard_target = ¬(Scalar.cmpi = _); exact h1) | (guard_target = Scalar.cmpi = _; exact h2) | (guard_target = ¬(Scalar.cmpi = _); exact h3) | (guard_target = ¬(k0_cond5 _ _ = _); exact h4))
    sl_step
    iapply Hk
    isplitl [H0]; · iexact H0
    isplitl [H1]; · iexact H1
    isplitl [H2]; · iexact H2
    isplitl [HT0]; · iexact HT0
    isplitl [HT1]; · iexact HT1
    isplitl [HO]
    · iexists _; isplitr; · ipureintro; exact harg6.read_unread _
      iexact HO
    isplitl [HS0]; · iexact HS0
    iexact HS1⟩

set_option backward.proofsInPublic true in
set_option maxHeartbeats 8000000 in
/-- Path C, the first key block of a later query block: the scratch is set up, then the block in full: what the body leaves in the scratch, with the proof that it does. -/
def runC (c : Dev nD) (i : grid0.Coords) (arg3 : Memref sig .tc .vmem S1024x768 .bf16) (harg3 : arg3.IsWhole) (arg4 : Memref sig .tc .vmem S512x768 .bf16) (harg4 : arg4.IsWhole) (arg5 : Memref sig .tc .vmem S480x512 .bf16) (harg5 : arg5.IsWhole) (arg6 : Memref sig .tc .vmem S1024x384 .f32) (harg6 : arg6.IsWhole)
    (x0 : S1024x768.Idx → Elt Bits .bf16) (x1 : S512x768.Idx → Elt Bits .bf16) (x2 : S480x512.Idx → Elt Bits .bf16)
    (h0 : isFirst i) (h1 : isBelow i) (h2 : ¬isDiag0 i) (h3 : ¬isDiag1 i) (h4 : ¬isLast i) :
    Σ' (outM : Buf (Elt Bits) ((c : Thread nD τ).loc cc0_scratch0)), { outA : Buf (Elt Bits) ((c : Thread nD τ).loc cc0_scratch1) //
      ∀ (y3 : S1024x384.Idx → Elt Bits .f32) (xa0 : Buf (Elt Bits) ((c : Thread nD τ).loc cc0_scratch0)) (xa1 : Buf (Elt Bits) ((c : Thread nD τ).loc cc0_scratch1)) (K : PUnit → sProp 𝕄),
        iprop(          (arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbQ.view.loc (c : Thread nD τ) ↦{fullShare.right} qTab)
          ∗ (tbK.view.loc (c : Thread nD τ) ↦{fullShare.right} kTab)
          ∗ owns (c : Thread nD τ) arg6 fullShare y3
          ∗ (scM.view.loc (c : Thread nD τ) ↦{fullShare} xa0)
          ∗ (scA.view.loc (c : Thread nD τ) ↦{fullShare} xa1)
          ∗ (iprop(          (arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbQ.view.loc (c : Thread nD τ) ↦{fullShare.right} qTab)
          ∗ (tbK.view.loc (c : Thread nD τ) ↦{fullShare.right} kTab)
          ∗ owns (c : Thread nD τ) arg6 fullShare y3
          ∗ (scM.view.loc (c : Thread nD τ) ↦{fullShare} outM)
          ∗ (scA.view.loc (c : Thread nD τ) ↦{fullShare} outA)          ) -∗ K ⟨⟩))
          ⊢ wp frame (wpE (defs₀ (F := Bits)) Variants.none c none) Set.univ (cc0_flash_prompt i tbQ (Memref.isWhole_whole _) tbK (Memref.isWhole_whole _) arg3 harg3 arg4 harg4 arg5 harg5 arg6 harg6 scM (Memref.isWhole_whole _) scA (Memref.isWhole_whole _)) K } :=
  ⟨_, _, fun y3 xa0 xa1 K => by
    unfold owns
    rw [cc0_flash_prompt_eq_skeleton]; unfold cc0_flash_prompt_skel
    iintro ⟨H0, H1, H2, HT0, HT1, ⟨%f3, %hf3, HO⟩, HS0, HS1, Hk⟩
    obtain rfl := harg6.eq_unread hf3
    have hS0 : scM.IsWhole := Memref.isWhole_whole _
    have hS1 : scA.IsWhole := Memref.isWhole_whole _
    have hT0 : tbQ.IsWhole := Memref.isWhole_whole _
    have hT1 : tbK.IsWhole := Memref.isWhole_whole _
    sl_exec! (disch := first | (guard_target = Scalar.cmpi = _; exact h0) | (guard_target = Scalar.cmpi = _; exact h1) | (guard_target = ¬(Scalar.cmpi = _); exact h2) | (guard_target = ¬(Scalar.cmpi = _); exact h3) | (guard_target = ¬(k0_cond5 _ _ = _); exact h4))
    sl_step
    iapply Hk
    isplitl [H0]; · iexact H0
    isplitl [H1]; · iexact H1
    isplitl [H2]; · iexact H2
    isplitl [HT0]; · iexact HT0
    isplitl [HT1]; · iexact HT1
    isplitl [HO]
    · iexists _; isplitr; · ipureintro; exact harg6.read_unread _
      iexact HO
    isplitl [HS0]; · iexact HS0
    iexact HS1⟩

set_option backward.proofsInPublic true in
set_option maxHeartbeats 8000000 in
/-- Path D, a key block below the diagonal: what the body leaves in the scratch, with the proof that it does. -/
def runD (c : Dev nD) (i : grid0.Coords) (arg3 : Memref sig .tc .vmem S1024x768 .bf16) (harg3 : arg3.IsWhole) (arg4 : Memref sig .tc .vmem S512x768 .bf16) (harg4 : arg4.IsWhole) (arg5 : Memref sig .tc .vmem S480x512 .bf16) (harg5 : arg5.IsWhole) (arg6 : Memref sig .tc .vmem S1024x384 .f32) (harg6 : arg6.IsWhole)
    (x0 : S1024x768.Idx → Elt Bits .bf16) (x1 : S512x768.Idx → Elt Bits .bf16) (x2 : S480x512.Idx → Elt Bits .bf16) (xa0 : Buf (Elt Bits) ((c : Thread nD τ).loc cc0_scratch0)) (xa1 : Buf (Elt Bits) ((c : Thread nD τ).loc cc0_scratch1))
    (h0 : ¬isFirst i) (h1 : isBelow i) (h2 : ¬isDiag0 i) (h3 : ¬isDiag1 i) (h4 : ¬isLast i) :
    Σ' (outM : Buf (Elt Bits) ((c : Thread nD τ).loc cc0_scratch0)), { outA : Buf (Elt Bits) ((c : Thread nD τ).loc cc0_scratch1) //
      ∀ (y3 : S1024x384.Idx → Elt Bits .f32) (K : PUnit → sProp 𝕄),
        iprop(          (arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbQ.view.loc (c : Thread nD τ) ↦{fullShare.right} qTab)
          ∗ (tbK.view.loc (c : Thread nD τ) ↦{fullShare.right} kTab)
          ∗ owns (c : Thread nD τ) arg6 fullShare y3
          ∗ (scM.view.loc (c : Thread nD τ) ↦{fullShare} xa0)
          ∗ (scA.view.loc (c : Thread nD τ) ↦{fullShare} xa1)
          ∗ (iprop(          (arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbQ.view.loc (c : Thread nD τ) ↦{fullShare.right} qTab)
          ∗ (tbK.view.loc (c : Thread nD τ) ↦{fullShare.right} kTab)
          ∗ owns (c : Thread nD τ) arg6 fullShare y3
          ∗ (scM.view.loc (c : Thread nD τ) ↦{fullShare} outM)
          ∗ (scA.view.loc (c : Thread nD τ) ↦{fullShare} outA)          ) -∗ K ⟨⟩))
          ⊢ wp frame (wpE (defs₀ (F := Bits)) Variants.none c none) Set.univ (cc0_flash_prompt i tbQ (Memref.isWhole_whole _) tbK (Memref.isWhole_whole _) arg3 harg3 arg4 harg4 arg5 harg5 arg6 harg6 scM (Memref.isWhole_whole _) scA (Memref.isWhole_whole _)) K } :=
  ⟨_, _, fun y3 K => by
    unfold owns
    rw [cc0_flash_prompt_eq_skeleton]; unfold cc0_flash_prompt_skel
    iintro ⟨H0, H1, H2, HT0, HT1, ⟨%f3, %hf3, HO⟩, HS0, HS1, Hk⟩
    obtain rfl := harg6.eq_unread hf3
    have hS0 : scM.IsWhole := Memref.isWhole_whole _
    have hS1 : scA.IsWhole := Memref.isWhole_whole _
    have hT0 : tbQ.IsWhole := Memref.isWhole_whole _
    have hT1 : tbK.IsWhole := Memref.isWhole_whole _
    sl_exec! (disch := first | (guard_target = ¬(Scalar.cmpi = _); exact h0) | (guard_target = Scalar.cmpi = _; exact h1) | (guard_target = ¬(Scalar.cmpi = _); exact h2) | (guard_target = ¬(Scalar.cmpi = _); exact h3) | (guard_target = ¬(k0_cond5 _ _ = _); exact h4))
    sl_step
    iapply Hk
    isplitl [H0]; · iexact H0
    isplitl [H1]; · iexact H1
    isplitl [H2]; · iexact H2
    isplitl [HT0]; · iexact HT0
    isplitl [HT1]; · iexact HT1
    isplitl [HO]
    · iexists _; isplitr; · ipureintro; exact harg6.read_unread _
      iexact HO
    isplitl [HS0]; · iexact HS0
    iexact HS1⟩

set_option backward.proofsInPublic true in
set_option maxHeartbeats 8000000 in
/-- Path E, the first diagonal block: what the body leaves in the scratch, with the proof that it does. -/
def runE (c : Dev nD) (i : grid0.Coords) (arg3 : Memref sig .tc .vmem S1024x768 .bf16) (harg3 : arg3.IsWhole) (arg4 : Memref sig .tc .vmem S512x768 .bf16) (harg4 : arg4.IsWhole) (arg5 : Memref sig .tc .vmem S480x512 .bf16) (harg5 : arg5.IsWhole) (arg6 : Memref sig .tc .vmem S1024x384 .f32) (harg6 : arg6.IsWhole)
    (x0 : S1024x768.Idx → Elt Bits .bf16) (x1 : S512x768.Idx → Elt Bits .bf16) (x2 : S480x512.Idx → Elt Bits .bf16) (xa0 : Buf (Elt Bits) ((c : Thread nD τ).loc cc0_scratch0)) (xa1 : Buf (Elt Bits) ((c : Thread nD τ).loc cc0_scratch1))
    (h0 : ¬isFirst i) (h1 : ¬isBelow i) (h2 : isDiag0 i) (h3 : ¬isDiag1 i) (h4 : ¬isLast i) :
    Σ' (outM : Buf (Elt Bits) ((c : Thread nD τ).loc cc0_scratch0)), { outA : Buf (Elt Bits) ((c : Thread nD τ).loc cc0_scratch1) //
      ∀ (y3 : S1024x384.Idx → Elt Bits .f32) (K : PUnit → sProp 𝕄),
        iprop(          (arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbQ.view.loc (c : Thread nD τ) ↦{fullShare.right} qTab)
          ∗ (tbK.view.loc (c : Thread nD τ) ↦{fullShare.right} kTab)
          ∗ owns (c : Thread nD τ) arg6 fullShare y3
          ∗ (scM.view.loc (c : Thread nD τ) ↦{fullShare} xa0)
          ∗ (scA.view.loc (c : Thread nD τ) ↦{fullShare} xa1)
          ∗ (iprop(          (arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbQ.view.loc (c : Thread nD τ) ↦{fullShare.right} qTab)
          ∗ (tbK.view.loc (c : Thread nD τ) ↦{fullShare.right} kTab)
          ∗ owns (c : Thread nD τ) arg6 fullShare y3
          ∗ (scM.view.loc (c : Thread nD τ) ↦{fullShare} outM)
          ∗ (scA.view.loc (c : Thread nD τ) ↦{fullShare} outA)          ) -∗ K ⟨⟩))
          ⊢ wp frame (wpE (defs₀ (F := Bits)) Variants.none c none) Set.univ (cc0_flash_prompt i tbQ (Memref.isWhole_whole _) tbK (Memref.isWhole_whole _) arg3 harg3 arg4 harg4 arg5 harg5 arg6 harg6 scM (Memref.isWhole_whole _) scA (Memref.isWhole_whole _)) K } :=
  ⟨_, _, fun y3 K => by
    unfold owns
    rw [cc0_flash_prompt_eq_skeleton]; unfold cc0_flash_prompt_skel
    iintro ⟨H0, H1, H2, HT0, HT1, ⟨%f3, %hf3, HO⟩, HS0, HS1, Hk⟩
    obtain rfl := harg6.eq_unread hf3
    have hS0 : scM.IsWhole := Memref.isWhole_whole _
    have hS1 : scA.IsWhole := Memref.isWhole_whole _
    have hT0 : tbQ.IsWhole := Memref.isWhole_whole _
    have hT1 : tbK.IsWhole := Memref.isWhole_whole _
    sl_exec! (disch := first | (guard_target = ¬(Scalar.cmpi = _); exact h0) | (guard_target = ¬(Scalar.cmpi = _); exact h1) | (guard_target = Scalar.cmpi = _; exact h2) | (guard_target = ¬(Scalar.cmpi = _); exact h3) | (guard_target = ¬(k0_cond5 _ _ = _); exact h4))
    sl_step
    iapply Hk
    isplitl [H0]; · iexact H0
    isplitl [H1]; · iexact H1
    isplitl [H2]; · iexact H2
    isplitl [HT0]; · iexact HT0
    isplitl [HT1]; · iexact HT1
    isplitl [HO]
    · iexists _; isplitr; · ipureintro; exact harg6.read_unread _
      iexact HO
    isplitl [HS0]; · iexact HS0
    iexact HS1⟩

set_option backward.proofsInPublic true in
set_option maxHeartbeats 8000000 in
/-- Path B, the second diagonal block, and the output is written: what the body leaves in the scratch and stores in the output, with the proof that it does. -/
def runB (c : Dev nD) (i : grid0.Coords) (arg3 : Memref sig .tc .vmem S1024x768 .bf16) (harg3 : arg3.IsWhole) (arg4 : Memref sig .tc .vmem S512x768 .bf16) (harg4 : arg4.IsWhole) (arg5 : Memref sig .tc .vmem S480x512 .bf16) (harg5 : arg5.IsWhole) (arg6 : Memref sig .tc .vmem S1024x384 .f32) (harg6 : arg6.IsWhole)
    (x0 : S1024x768.Idx → Elt Bits .bf16) (x1 : S512x768.Idx → Elt Bits .bf16) (x2 : S480x512.Idx → Elt Bits .bf16) (xa0 : Buf (Elt Bits) ((c : Thread nD τ).loc cc0_scratch0)) (xa1 : Buf (Elt Bits) ((c : Thread nD τ).loc cc0_scratch1))
    (h0 : ¬isFirst i) (h1 : ¬isBelow i) (h2 : ¬isDiag0 i) (h3 : isDiag1 i) (h4 : isLast i) :
    Σ' (out : List (View.Piece (Elt Bits) S1024x384 .f32)) (outM : Buf (Elt Bits) ((c : Thread nD τ).loc cc0_scratch0)), { outA : Buf (Elt Bits) ((c : Thread nD τ).loc cc0_scratch1) //
      ∀ (K : PUnit → sProp 𝕄),
        iprop(          (arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbQ.view.loc (c : Thread nD τ) ↦{fullShare.right} qTab)
          ∗ (tbK.view.loc (c : Thread nD τ) ↦{fullShare.right} kTab)
          ∗ (∃ d, owns (c : Thread nD τ) arg6 fullShare d)
          ∗ (scM.view.loc (c : Thread nD τ) ↦{fullShare} xa0)
          ∗ (scA.view.loc (c : Thread nD τ) ↦{fullShare} xa1)
          ∗ (iprop(          (arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbQ.view.loc (c : Thread nD τ) ↦{fullShare.right} qTab)
          ∗ (tbK.view.loc (c : Thread nD τ) ↦{fullShare.right} kTab)
          ∗ (∃ f, arg6.view.loc (c : Thread nD τ) ↦[arg6.view.set]{fullShare} arg6.view.writes (Elt Bits) f out)
          ∗ (scM.view.loc (c : Thread nD τ) ↦{fullShare} outM)
          ∗ (scA.view.loc (c : Thread nD τ) ↦{fullShare} outA)          ) -∗ K ⟨⟩))
          ⊢ wp frame (wpE (defs₀ (F := Bits)) Variants.none c none) Set.univ (cc0_flash_prompt i tbQ (Memref.isWhole_whole _) tbK (Memref.isWhole_whole _) arg3 harg3 arg4 harg4 arg5 harg5 arg6 harg6 scM (Memref.isWhole_whole _) scA (Memref.isWhole_whole _)) K } :=
  ⟨_, _, _, fun K => by
    unfold owns
    rw [cc0_flash_prompt_eq_skeleton]; unfold cc0_flash_prompt_skel
    iintro ⟨H0, H1, H2, HT0, HT1, ⟨%d3, %f3, -, HO⟩, HS0, HS1, Hk⟩
    have hS0 : scM.IsWhole := Memref.isWhole_whole _
    have hS1 : scA.IsWhole := Memref.isWhole_whole _
    have hT0 : tbQ.IsWhole := Memref.isWhole_whole _
    have hT1 : tbK.IsWhole := Memref.isWhole_whole _
    sl_exec! (disch := first | (guard_target = ¬(Scalar.cmpi = _); exact h0) | (guard_target = ¬(Scalar.cmpi = _); exact h1) | (guard_target = ¬(Scalar.cmpi = _); exact h2) | (guard_target = Scalar.cmpi = _; exact h3) | (guard_target = k0_cond5 _ _ = _; exact h4))
    sl_step
    iapply Hk
    isplitl [H0]; · iexact H0
    isplitl [H1]; · iexact H1
    isplitl [H2]; · iexact H2
    isplitl [HT0]; · iexact HT0
    isplitl [HT1]; · iexact HT1
    isplitl [HO]; · iexists _; iexact HO
    isplitl [HS0]; · iexact HS0
    iexact HS1⟩

/-- One staging buffer of the output window, through which its contents are stated. -/
abbrev VO : View sig .tc .vmem S1024x384 .f32 := (Memref.whole cc0_stg3_0 : Memref sig .tc .vmem S1024x384 .f32).view

/-- The six stores of path B tile the output's block. -/
theorem cover_B (c : Dev nD) (i : grid0.Coords) (arg3 : Memref sig .tc .vmem S1024x768 .bf16) (harg3 : arg3.IsWhole) (arg4 : Memref sig .tc .vmem S512x768 .bf16) (harg4 : arg4.IsWhole) (arg5 : Memref sig .tc .vmem S480x512 .bf16) (harg5 : arg5.IsWhole) (arg6 : Memref sig .tc .vmem S1024x384 .f32) (harg6 : arg6.IsWhole)
    (x0 : S1024x768.Idx → Elt Bits .bf16) (x1 : S512x768.Idx → Elt Bits .bf16) (x2 : S480x512.Idx → Elt Bits .bf16) (xa0 : Buf (Elt Bits) ((c : Thread nD τ).loc cc0_scratch0)) (xa1 : Buf (Elt Bits) ((c : Thread nD τ).loc cc0_scratch1))
    (h0 : ¬isFirst i) (h1 : ¬isBelow i) (h2 : ¬isDiag0 i) (h3 : isDiag1 i) (h4 : isLast i) (y : S1024x384.Idx) :
    ∃ pc ∈ (runB c i arg3 harg3 arg4 harg4 arg5 harg5 arg6 harg6 x0 x1 x2 xa0 xa1 h0 h1 h2 h3 h4).1, y ∈ pc.1.set :=
  View.cover_of_tiledL (runB c i arg3 harg3 arg4 harg4 arg5 harg5 arg6 harg6 x0 x1 x2 xa0 xa1 h0 h1 h2 h3 h4).1 S1024x64.size (by sl_kernel_rfl) y

end Cert.Kernel.Attn

end
-- ==== Proof.Kernel.Steps.lean ====
/- The steps of the attention kernel one after the other: what the scratch and the output hold after each, as the data of the pipeline. -/
module

public import proofs.«01_k».proof.Proof.Kernel.Facts
public import proofs.«01_k».proof.Proof.Kernel.Runs

@[expose] public section

set_option maxRecDepth 16384
-- one declaration at a time: the runs and the decided facts are memory-heavy
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The path of step `t`, told by its key block and query block. -/
abbrev onA (t : Fin cfgA.N) : Prop := kn t.val = 0 ∧ qn t.val = 0
abbrev onC (t : Fin cfgA.N) : Prop := kn t.val = 0 ∧ qn t.val ≠ 0
abbrev onD (t : Fin cfgA.N) : Prop := kn t.val ≠ 0 ∧ kn t.val < 2 * qn t.val
abbrev onE (t : Fin cfgA.N) : Prop := kn t.val ≠ 0 ∧ kn t.val = 2 * qn t.val
abbrev onB (t : Fin cfgA.N) : Prop := kn t.val = 2 * qn t.val + 1

theorem condA (t : Fin cfgA.N) (q : onA t) : isFirst (crd t) ∧ ¬isBelow (crd t) ∧ isDiag0 (crd t) ∧ ¬isDiag1 (crd t) ∧ ¬isLast (crd t) := by
  obtain ⟨f0, f1, f2, f3, f4, -⟩ := facts t
  rw [f0, f1, f2, f3, f4]; unfold onA at q; omega

theorem condC (t : Fin cfgA.N) (q : onC t) : isFirst (crd t) ∧ isBelow (crd t) ∧ ¬isDiag0 (crd t) ∧ ¬isDiag1 (crd t) ∧ ¬isLast (crd t) := by
  obtain ⟨f0, f1, f2, f3, f4, -⟩ := facts t
  rw [f0, f1, f2, f3, f4]; unfold onC at q; omega

theorem condD (t : Fin cfgA.N) (q : onD t) : ¬isFirst (crd t) ∧ isBelow (crd t) ∧ ¬isDiag0 (crd t) ∧ ¬isDiag1 (crd t) ∧ ¬isLast (crd t) := by
  obtain ⟨f0, f1, f2, f3, f4, -⟩ := facts t
  rw [f0, f1, f2, f3, f4]; unfold onD at q; omega

theorem condE (t : Fin cfgA.N) (q : onE t) : ¬isFirst (crd t) ∧ ¬isBelow (crd t) ∧ isDiag0 (crd t) ∧ ¬isDiag1 (crd t) ∧ ¬isLast (crd t) := by
  obtain ⟨f0, f1, f2, f3, f4, -⟩ := facts t
  rw [f0, f1, f2, f3, f4]; unfold onE at q; omega

theorem condB (t : Fin cfgA.N) (q : onB t) : ¬isFirst (crd t) ∧ ¬isBelow (crd t) ∧ ¬isDiag0 (crd t) ∧ isDiag1 (crd t) ∧ isLast (crd t) := by
  obtain ⟨f0, f1, f2, f3, f4, -⟩ := facts t
  rw [f0, f1, f2, f3, f4]; unfold onB at q; omega

/-- What the arrays hold when the region is entered, buffer by buffer. -/
abbrev Entry := (c : Dev nD) → (b : Ref sig .tc) → Buf (Elt Bits) ((c : Thread nD τ).loc b)

variable (W : Entry)

/-- Window `w`'s block at step `t`. -/
def iblk (c : Dev nD) (w : Fin cfgA.W) (t : Fin cfgA.N) : ((cfgA.win w).xblock (crd t)).Idx → Elt Bits (cfgA.win w).elt :=
  ((cfgA.win w).blk t).view.read (Elt Bits) (W c (Pipeline.arrRef spec0 w))

/-- What the scratch holds after step `t`, from what it held before. -/
def step (c : Dev nD) (t : Fin cfgA.N) (prev : Buf (Elt Bits) ((c : Thread nD τ).loc cc0_scratch0) × Buf (Elt Bits) ((c : Thread nD τ).loc cc0_scratch1)) : Buf (Elt Bits) ((c : Thread nD τ).loc cc0_scratch0) × Buf (Elt Bits) ((c : Thread nD τ).loc cc0_scratch1) :=
  if q : onA t then ((runA c (crd t) (ms0 t) (hs0 t) (ms1 t) (hs1 t) (ms2 t) (hs2 t) (ms3 t) (hs3 t) (iblk W c (0 : Fin 4) t) (iblk W c (1 : Fin 4) t) (iblk W c (2 : Fin 4) t) (condA t q).1 (condA t q).2.1 (condA t q).2.2.1 (condA t q).2.2.2.1 (condA t q).2.2.2.2).1, (runA c (crd t) (ms0 t) (hs0 t) (ms1 t) (hs1 t) (ms2 t) (hs2 t) (ms3 t) (hs3 t) (iblk W c (0 : Fin 4) t) (iblk W c (1 : Fin 4) t) (iblk W c (2 : Fin 4) t) (condA t q).1 (condA t q).2.1 (condA t q).2.2.1 (condA t q).2.2.2.1 (condA t q).2.2.2.2).2.1)
  else if q : onC t then ((runC c (crd t) (ms0 t) (hs0 t) (ms1 t) (hs1 t) (ms2 t) (hs2 t) (ms3 t) (hs3 t) (iblk W c (0 : Fin 4) t) (iblk W c (1 : Fin 4) t) (iblk W c (2 : Fin 4) t) (condC t q).1 (condC t q).2.1 (condC t q).2.2.1 (condC t q).2.2.2.1 (condC t q).2.2.2.2).1, (runC c (crd t) (ms0 t) (hs0 t) (ms1 t) (hs1 t) (ms2 t) (hs2 t) (ms3 t) (hs3 t) (iblk W c (0 : Fin 4) t) (iblk W c (1 : Fin 4) t) (iblk W c (2 : Fin 4) t) (condC t q).1 (condC t q).2.1 (condC t q).2.2.1 (condC t q).2.2.2.1 (condC t q).2.2.2.2).2.1)
  else if q : onD t then ((runD c (crd t) (ms0 t) (hs0 t) (ms1 t) (hs1 t) (ms2 t) (hs2 t) (ms3 t) (hs3 t) (iblk W c (0 : Fin 4) t) (iblk W c (1 : Fin 4) t) (iblk W c (2 : Fin 4) t) prev.1 prev.2 (condD t q).1 (condD t q).2.1 (condD t q).2.2.1 (condD t q).2.2.2.1 (condD t q).2.2.2.2).1, (runD c (crd t) (ms0 t) (hs0 t) (ms1 t) (hs1 t) (ms2 t) (hs2 t) (ms3 t) (hs3 t) (iblk W c (0 : Fin 4) t) (iblk W c (1 : Fin 4) t) (iblk W c (2 : Fin 4) t) prev.1 prev.2 (condD t q).1 (condD t q).2.1 (condD t q).2.2.1 (condD t q).2.2.2.1 (condD t q).2.2.2.2).2.1)
  else if q : onE t then ((runE c (crd t) (ms0 t) (hs0 t) (ms1 t) (hs1 t) (ms2 t) (hs2 t) (ms3 t) (hs3 t) (iblk W c (0 : Fin 4) t) (iblk W c (1 : Fin 4) t) (iblk W c (2 : Fin 4) t) prev.1 prev.2 (condE t q).1 (condE t q).2.1 (condE t q).2.2.1 (condE t q).2.2.2.1 (condE t q).2.2.2.2).1, (runE c (crd t) (ms0 t) (hs0 t) (ms1 t) (hs1 t) (ms2 t) (hs2 t) (ms3 t) (hs3 t) (iblk W c (0 : Fin 4) t) (iblk W c (1 : Fin 4) t) (iblk W c (2 : Fin 4) t) prev.1 prev.2 (condE t q).1 (condE t q).2.1 (condE t q).2.2.1 (condE t q).2.2.2.1 (condE t q).2.2.2.2).2.1)
  else if q : onB t then ((runB c (crd t) (ms0 t) (hs0 t) (ms1 t) (hs1 t) (ms2 t) (hs2 t) (ms3 t) (hs3 t) (iblk W c (0 : Fin 4) t) (iblk W c (1 : Fin 4) t) (iblk W c (2 : Fin 4) t) prev.1 prev.2 (condB t q).1 (condB t q).2.1 (condB t q).2.2.1 (condB t q).2.2.2.1 (condB t q).2.2.2.2).2.1, (runB c (crd t) (ms0 t) (hs0 t) (ms1 t) (hs1 t) (ms2 t) (hs2 t) (ms3 t) (hs3 t) (iblk W c (0 : Fin 4) t) (iblk W c (1 : Fin 4) t) (iblk W c (2 : Fin 4) t) prev.1 prev.2 (condB t q).1 (condB t q).2.1 (condB t q).2.2.1 (condB t q).2.2.2.1 (condB t q).2.2.2.2).2.2.1)
  else prev

/-- What the scratch holds after step `n`. -/
def traj (c : Dev nD) : (n : ℕ) → n < cfgA.N → Buf (Elt Bits) ((c : Thread nD τ).loc cc0_scratch0) × Buf (Elt Bits) ((c : Thread nD τ).loc cc0_scratch1)
  | 0, h => step W c ⟨0, h⟩ (default, default)
  | n + 1, h => step W c ⟨n + 1, h⟩ (traj c n (Nat.lt_of_succ_lt h))

/-- What it held before position `n`. -/
def prev (c : Dev nD) (n : ℕ) (h : n ≤ cfgA.N) : Buf (Elt Bits) ((c : Thread nD τ).loc cc0_scratch0) × Buf (Elt Bits) ((c : Thread nD τ).loc cc0_scratch1) :=
  if h0 : n = 0 then (default, default) else traj W c (n - 1) (by omega)

theorem traj_eq (c : Dev nD) (t : Fin cfgA.N) : traj W c t.val t.isLt = step W c t (prev W c t.val t.isLt.le) := by
  obtain ⟨n, hn⟩ := t
  cases n with
  | zero => rfl
  | succ n => unfold prev; simp only [Nat.add_one_ne_zero, dif_neg, not_false_eq_true]; rfl

theorem prev_succ (c : Dev nD) (t : Fin cfgA.N) : prev W c (t.val + 1) t.isLt = step W c t (prev W c t.val t.isLt.le) := by
  rw [← traj_eq]; unfold prev; simp only [Nat.add_one_ne_zero, ↓reduceDIte, Nat.add_one_sub_one]

theorem step_A (c : Dev nD) (t : Fin cfgA.N) (prev : Buf (Elt Bits) ((c : Thread nD τ).loc cc0_scratch0) × Buf (Elt Bits) ((c : Thread nD τ).loc cc0_scratch1)) (q : onA t) :
    step W c t prev = ((runA c (crd t) (ms0 t) (hs0 t) (ms1 t) (hs1 t) (ms2 t) (hs2 t) (ms3 t) (hs3 t) (iblk W c (0 : Fin 4) t) (iblk W c (1 : Fin 4) t) (iblk W c (2 : Fin 4) t) (condA t q).1 (condA t q).2.1 (condA t q).2.2.1 (condA t q).2.2.2.1 (condA t q).2.2.2.2).1, (runA c (crd t) (ms0 t) (hs0 t) (ms1 t) (hs1 t) (ms2 t) (hs2 t) (ms3 t) (hs3 t) (iblk W c (0 : Fin 4) t) (iblk W c (1 : Fin 4) t) (iblk W c (2 : Fin 4) t) (condA t q).1 (condA t q).2.1 (condA t q).2.2.1 (condA t q).2.2.2.1 (condA t q).2.2.2.2).2.1) := by
  unfold step; rw [dif_pos q]
theorem step_C (c : Dev nD) (t : Fin cfgA.N) (prev : Buf (Elt Bits) ((c : Thread nD τ).loc cc0_scratch0) × Buf (Elt Bits) ((c : Thread nD τ).loc cc0_scratch1)) (q : onC t) :
    step W c t prev = ((runC c (crd t) (ms0 t) (hs0 t) (ms1 t) (hs1 t) (ms2 t) (hs2 t) (ms3 t) (hs3 t) (iblk W c (0 : Fin 4) t) (iblk W c (1 : Fin 4) t) (iblk W c (2 : Fin 4) t) (condC t q).1 (condC t q).2.1 (condC t q).2.2.1 (condC t q).2.2.2.1 (condC t q).2.2.2.2).1, (runC c (crd t) (ms0 t) (hs0 t) (ms1 t) (hs1 t) (ms2 t) (hs2 t) (ms3 t) (hs3 t) (iblk W c (0 : Fin 4) t) (iblk W c (1 : Fin 4) t) (iblk W c (2 : Fin 4) t) (condC t q).1 (condC t q).2.1 (condC t q).2.2.1 (condC t q).2.2.2.1 (condC t q).2.2.2.2).2.1) := by
  unfold step; rw [dif_neg (show ¬onA t by unfold onA at *; omega)]; rw [dif_pos q]
theorem step_D (c : Dev nD) (t : Fin cfgA.N) (prev : Buf (Elt Bits) ((c : Thread nD τ).loc cc0_scratch0) × Buf (Elt Bits) ((c : Thread nD τ).loc cc0_scratch1)) (q : onD t) :
    step W c t prev = ((runD c (crd t) (ms0 t) (hs0 t) (ms1 t) (hs1 t) (ms2 t) (hs2 t) (ms3 t) (hs3 t) (iblk W c (0 : Fin 4) t) (iblk W c (1 : Fin 4) t) (iblk W c (2 : Fin 4) t) prev.1 prev.2 (condD t q).1 (condD t q).2.1 (condD t q).2.2.1 (condD t q).2.2.2.1 (condD t q).2.2.2.2).1, (runD c (crd t) (ms0 t) (hs0 t) (ms1 t) (hs1 t) (ms2 t) (hs2 t) (ms3 t) (hs3 t) (iblk W c (0 : Fin 4) t) (iblk W c (1 : Fin 4) t) (iblk W c (2 : Fin 4) t) prev.1 prev.2 (condD t q).1 (condD t q).2.1 (condD t q).2.2.1 (condD t q).2.2.2.1 (condD t q).2.2.2.2).2.1) := by
  unfold step; rw [dif_neg (show ¬onA t by unfold onA at *; omega)]; rw [dif_neg (show ¬onC t by unfold onC at *; omega)]; rw [dif_pos q]
theorem step_E (c : Dev nD) (t : Fin cfgA.N) (prev : Buf (Elt Bits) ((c : Thread nD τ).loc cc0_scratch0) × Buf (Elt Bits) ((c : Thread nD τ).loc cc0_scratch1)) (q : onE t) :
    step W c t prev = ((runE c (crd t) (ms0 t) (hs0 t) (ms1 t) (hs1 t) (ms2 t) (hs2 t) (ms3 t) (hs3 t) (iblk W c (0 : Fin 4) t) (iblk W c (1 : Fin 4) t) (iblk W c (2 : Fin 4) t) prev.1 prev.2 (condE t q).1 (condE t q).2.1 (condE t q).2.2.1 (condE t q).2.2.2.1 (condE t q).2.2.2.2).1, (runE c (crd t) (ms0 t) (hs0 t) (ms1 t) (hs1 t) (ms2 t) (hs2 t) (ms3 t) (hs3 t) (iblk W c (0 : Fin 4) t) (iblk W c (1 : Fin 4) t) (iblk W c (2 : Fin 4) t) prev.1 prev.2 (condE t q).1 (condE t q).2.1 (condE t q).2.2.1 (condE t q).2.2.2.1 (condE t q).2.2.2.2).2.1) := by
  unfold step; rw [dif_neg (show ¬onA t by unfold onA at *; omega)]; rw [dif_neg (show ¬onC t by unfold onC at *; omega)]; rw [dif_neg (show ¬onD t by unfold onD at *; omega)]; rw [dif_pos q]
theorem step_B (c : Dev nD) (t : Fin cfgA.N) (prev : Buf (Elt Bits) ((c : Thread nD τ).loc cc0_scratch0) × Buf (Elt Bits) ((c : Thread nD τ).loc cc0_scratch1)) (q : onB t) :
    step W c t prev = ((runB c (crd t) (ms0 t) (hs0 t) (ms1 t) (hs1 t) (ms2 t) (hs2 t) (ms3 t) (hs3 t) (iblk W c (0 : Fin 4) t) (iblk W c (1 : Fin 4) t) (iblk W c (2 : Fin 4) t) prev.1 prev.2 (condB t q).1 (condB t q).2.1 (condB t q).2.2.1 (condB t q).2.2.2.1 (condB t q).2.2.2.2).2.1, (runB c (crd t) (ms0 t) (hs0 t) (ms1 t) (hs1 t) (ms2 t) (hs2 t) (ms3 t) (hs3 t) (iblk W c (0 : Fin 4) t) (iblk W c (1 : Fin 4) t) (iblk W c (2 : Fin 4) t) prev.1 prev.2 (condB t q).1 (condB t q).2.1 (condB t q).2.2.1 (condB t q).2.2.2.1 (condB t q).2.2.2.2).2.2.1) := by
  unfold step; rw [dif_neg (show ¬onA t by unfold onA at *; omega)]; rw [dif_neg (show ¬onC t by unfold onC at *; omega)]; rw [dif_neg (show ¬onD t by unfold onD at *; omega)]; rw [dif_neg (show ¬onE t by unfold onE at *; omega)]; rw [dif_pos q]

/-- What the output's staging buffer holds after step `t`: what path B stores in it, where `t` is on path B. -/
def outAt (c : Dev nD) (t : Fin cfgA.N) (prev : Buf (Elt Bits) ((c : Thread nD τ).loc cc0_scratch0) × Buf (Elt Bits) ((c : Thread nD τ).loc cc0_scratch1)) : S1024x384.Idx → Elt Bits .f32 :=
  if q : onB t then VO.read (Elt Bits) (VO.writes (Elt Bits) VO.junk (runB c (crd t) (ms0 t) (hs0 t) (ms1 t) (hs1 t) (ms2 t) (hs2 t) (ms3 t) (hs3 t) (iblk W c (0 : Fin 4) t) (iblk W c (1 : Fin 4) t) (iblk W c (2 : Fin 4) t) prev.1 prev.2 (condB t q).1 (condB t q).2.1 (condB t q).2.2.1 (condB t q).2.2.2.1 (condB t q).2.2.2.2).1) else default

/-- The output's buffer holds nothing before any step: each write-back follows its store at once. -/
theorem always_fresh (t : Fin cfgA.N) : cfgA.fresh (3 : Fin 4) t.val = true :=
  Pipeline.Cfg.fresh_tab cfgA (3 : Fin 4) (fun _ => true) rfl (fun t => by
    obtain ⟨-, -, -, -, -, f5, f6, -⟩ := facts t
    rw [f5, f6]; by_cases h : kn t.val = 2 * qn t.val + 1 <;> simp [h]) t.val t.isLt.le

/-- The invariant before position `t`: the scratch at what the steps so far left (anything before the first), and the tables. -/
def Inv (c : Dev nD) (t : Fin (cfgA.N + 1)) : sProp 𝕄 :=
  iprop((∃ a, ⌜t.val ≠ 0 → a = (prev W c t.val (Nat.le_of_lt_succ t.isLt)).1⌝ ∗ (scM.view.loc (c : Thread nD τ) ↦{fullShare} a))
    ∗ (∃ a, ⌜t.val ≠ 0 → a = (prev W c t.val (Nat.le_of_lt_succ t.isLt)).2⌝ ∗ (scA.view.loc (c : Thread nD τ) ↦{fullShare} a))
    ∗ (tbQ.view.loc (c : Thread nD τ) ↦{fullShare.right} qTab) ∗ (tbK.view.loc (c : Thread nD τ) ↦{fullShare.right} kTab))

/-- The pipeline's proof data. -/
def dats (_ : Fin 1) (c : Dev nD) : Dat τ (Elt Bits) Unit ℕ (UR sig nD τ) ℕ cfgA c where
  A w := W c (Pipeline.arrRef spec0 w)
  after w t := match w with
    | ⟨0, _⟩ => iblk W c (0 : Fin 4) t
    | ⟨1, _⟩ => iblk W c (1 : Fin 4) t
    | ⟨2, _⟩ => iblk W c (2 : Fin 4) t
    | ⟨3, _⟩ => outAt W c t (prev W c t.val t.isLt.le)
  Φ t := Inv W c t
  q _ := fullShare
  owed _ := 0

theorem after0 (c : Dev nD) (t : Fin cfgA.N) : (dats W 0 c).after (0 : Fin 4) t = iblk W c (0 : Fin 4) t := rfl
theorem after1 (c : Dev nD) (t : Fin cfgA.N) : (dats W 0 c).after (1 : Fin 4) t = iblk W c (1 : Fin 4) t := rfl
theorem after2 (c : Dev nD) (t : Fin cfgA.N) : (dats W 0 c).after (2 : Fin 4) t = iblk W c (2 : Fin 4) t := rfl
theorem after3 (c : Dev nD) (t : Fin cfgA.N) : (dats W 0 c).after (3 : Fin 4) t = outAt W c t (prev W c t.val t.isLt.le) := rfl

theorem before0 (c : Dev nD) (t : Fin cfgA.N) (d) : (dats W 0 c).before (0 : Fin 4) t d = iblk W c (0 : Fin 4) t :=
  ((dats W 0 c).before_in_eq_fetched (0 : Fin 4) rfl (fun _ => rfl) (fun _ _ _ => rfl) (fun t => by rw [after0]; unfold Dat.blockOf iblk; rfl) t d).trans
    (by unfold Dat.fetched Dat.blockOf iblk; rfl)
theorem before1 (c : Dev nD) (t : Fin cfgA.N) (d) : (dats W 0 c).before (1 : Fin 4) t d = iblk W c (1 : Fin 4) t :=
  ((dats W 0 c).before_in_eq_fetched (1 : Fin 4) rfl (fun _ => rfl) (fun _ _ _ => rfl) (fun t => by rw [after1]; unfold Dat.blockOf iblk; rfl) t d).trans
    (by unfold Dat.fetched Dat.blockOf iblk; rfl)
theorem before2 (c : Dev nD) (t : Fin cfgA.N) (d) : (dats W 0 c).before (2 : Fin 4) t d = iblk W c (2 : Fin 4) t :=
  ((dats W 0 c).before_in_eq_fetched (2 : Fin 4) rfl (fun _ => rfl) (fun _ _ _ => rfl) (fun t => by rw [after2]; unfold Dat.blockOf iblk; rfl) t d).trans
    (by unfold Dat.fetched Dat.blockOf iblk; rfl)

theorem before3 (c : Dev nD) (t : Fin cfgA.N) (d) : (dats W 0 c).before (3 : Fin 4) t d = d := by
  rw [(dats W 0 c).before_out_traj (3 : Fin 4) rfl (fun _ _ => rfl)
    (fun t _ _ hf => absurd (hf.symm.trans (always_fresh t)) Bool.false_ne_true) t.val t rfl d, always_fresh t]
  rfl

/-- Once a step has run, the scratch is what the steps left. -/
theorem held_at {ℓ : Loc nD τ sig} {P : Prop} (hp : P) (v : Buf (Elt Bits) ℓ) :
    (iprop(∃ a, ⌜P → a = v⌝ ∗ (ℓ ↦{fullShare} a)) : sProp 𝕄) ⊢ iprop(ℓ ↦{fullShare} v) := by
  iintro ⟨%a, %ha, H⟩
  obtain rfl := ha hp
  iexact H

end Cert.Kernel.Attn

end
-- ==== Proof.Kernel.Launch.lean ====
/- The launch of the attention call: the two constant tables are written, the region runs, and the frame claim follows. -/
module

public import proofs.«01_k».proof.Proof.Kernel.Body

@[expose] public section

set_option maxRecDepth 16384
-- one declaration at a time: the runs and the decided facts are memory-heavy
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (m : (ℓ : Loc nD τ sig) → Buf (Elt Bits) ℓ) (ρ : Dev nD → PrngReg)

/-- What the buffers hold when the region is entered: the two constants have been written. -/
abbrev V : Entry := fun c b => StableHlo.after hostOps0 (fun b => m (c, b)) b

/-- The rounds library's launch element. -/
def u₀ : UR sig nD τ :=
  initOf (Pipeline.cells pcs ((launch0 (F := Bits)).cellOf_inj fun _ => adm))
    (Pipeline.launchToks pcs ((launch0 (F := Bits)).cellOf_inj fun _ => adm))

theorem share_eq (W : Entry) (c : Dev nD) (w : Fin cfgA.W) : (dats W 0 c).share w = fullShare := by unfold Dat.share; split <;> rfl

/-- No host operation writes a buffer other than the two tables. -/
theorem V_of (c : Dev nD) (b : Ref sig .tc) (h0 : b ≠ main_c) (h1 : b ≠ main_c_0) : V m c b = m ((c : Thread nD τ).loc b) :=
  StableHlo.after_of_forall_not_mem (b := Proc.devRef .tc b) _ _ (by
    intro op hop
    simp only [List.mem_cons, List.mem_nil_iff, or_false] at hop
    rcases hop with rfl | rfl <;> simp only [StableHlo.nullary_writes, Finset.mem_singleton] <;>
      exact StableHlo.devRef_ne_of_ne ‹_›)

/-- The tables hold the blocks of each step. -/
theorem V_tabs (c : Dev nD) : ∀ j : Fin 2, V m c (pre0.ref j) = adm.1 j := fun
  | ⟨0, _⟩ => by
    refine Eq.trans ?_ lit0_tab
    rfl
  | ⟨1, _⟩ => by
    refine Eq.trans ?_ lit1_tab
    rfl
  | ⟨_ + 2, h⟩ => absurd h (by omega)

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first step, from the tables and the scratch buffers; -/
theorem inv_intro (W : Entry) (c : Dev nD) :
    iprop(BI.emp ∗ Pipeline.prefHeld pre0 c (fun _ => fullShare.right) adm.1 ∗ Pipeline.scopedRest spec0 c) ⊢ (dats W 0 c).Φ 0 := by
  rw [prefHeld_eq, scopedRest0_eq, show (dats W 0 c).Φ 0 = Inv W c 0 from rfl]
  unfold Inv
  iintro ⟨-, ⟨HT0, HT1⟩, ⟨%a0, HS0⟩, ⟨%a1, HS1⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HT0]
  · iexact HT0
  iexact HT1

/-- after the last it gives the scratch back. -/
theorem inv_exit (W : Entry) (c : Dev nD) : (dats W 0 c).Φ (Fin.last cfgA.N) ⊢ iprop(BI.emp ∗ Pipeline.scopedRest spec0 c) := by
  rw [scopedRest0_eq, show (dats W 0 c).Φ (Fin.last cfgA.N) = Inv W c (Fin.last _) from rfl]
  unfold Inv
  iintro ⟨⟨%a0, -, HS0⟩, ⟨%a1, -, HS1⟩, -, -⟩
  isplitr; · iempintro
  isplitl [HS0]
  · iexists a0; iexact HS0
  iexists a1; iexact HS1

/-- What every final state satisfies: each array at what the pipeline computes. -/
def Final (r : PUnit × MemSt nD τ sig (Elt Bits)) : Prop :=
  ∀ c : Dev nD, ∀ w : Fin cfgA.W, r.2.mem ((cfgA.win w).arr.view.loc (c : Thread nD τ)) = (dats (V m) 0 c).arrAt w cfgA.N

set_option backward.isDefEq.respectTransparency.types false in
set_option maxHeartbeats 4000000 in
/-- The launch: from any memory with zero counters every fair execution of @main terminates, each array at what the
    pipeline computes and every semaphore counter at zero. -/
theorem run_main : θ_run (defs (F := Bits)) (onTc (τ := τ) (main (F := Bits))) (s₀ m ρ) (fun r => Final m r ∧ r.2.sem = fun _ => 0) :=
  Pipeline.θ_run_region_noSem_pf_quiescent pcfgs (fun _ => adm) (dats (V m)) () ((launch0 (F := Bits)).cellOf_inj fun _ => adm) (0 : Fin 1)
    (launch0 (F := Bits)).win.to₀ (launch0 (F := Bits)).pre EP defs₀ Variants.none m ρ main
    (hbody := fun c => (body_obligation (V m) c).loose) (hne := (launch0 (F := Bits)).block_pos)
    (harr := (launch0 (F := Bits)).arr_whole) (hstage := (launch0 (F := Bits)).stage_whole) (howed := fun _ _ => rfl)
    (u₀ := u₀) (hu₀ := .rfl)
    (V := V m)
    (hmain := Pipeline.hmainP_prefix pcfgs 0 defs₀ Variants.none m main hostOps0 hostOps0_sub ⟨rfl, rfl⟩ main_chain)
    (hsplit := fun c => Pipeline.arrays_split pcs (dats (V m)) 0 (launch0 (F := Bits)).win.arr_inj c (launch0 (F := Bits)).arr_whole
      (share_eq (V m) c) _ _ fun _ => rfl)
    (hpf := V_tabs m)
    (X := fun _ => iprop(emp)) (Y := fun _ => iprop(emp)) (Z := fun _ => iprop(emp))
    (hX := fun c => by rw [unscopedRestP0_eq]; iintro -; isplitr <;> iempintro)
    (hin := inv_intro (V m))
    (hout := inv_exit (V m))
    (QY := fun _ _ => True)
    (hY := fun c s' => by
      iintro ⟨-, -, HSI⟩; imodintro
      isplitr; · ipureintro; trivial
      iexact HSI)
    (hQ := fun _ h hz => ⟨fun c => (h c).1, hz⟩)

/-- An argument ends as it was launched: it is an input window's array. -/
theorem arg_kept (c : Dev nD) (w : Fin 4) (h : (cfgA.win w).isOut = false) (h0 : Pipeline.arrRef spec0 w ≠ main_c) (h1 : Pipeline.arrRef spec0 w ≠ main_c_0) :
    (dats (V m) 0 c).arrAt w cfgA.N = m ((c : Thread nD τ).loc (Pipeline.arrRef spec0 w)) :=
  ((dats (V m) 0 c).arrAt_in w h _).trans (V_of m c _ h0 h1)

/-- The frame claim: every execution terminates, nothing faults, the arguments end unchanged and every counter is zero. -/
theorem frame : θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c (0 : Fin 4)).trans (arg_kept m c 0 rfl (by decide) (by decide)),
      (h.1 c (1 : Fin 4)).trans (arg_kept m c 1 rfl (by decide) (by decide)),
      (h.1 c (2 : Fin 4)).trans (arg_kept m c 2 rfl (by decide) (by decide))⟩, h.2⟩) (run_main m ρ)

end Cert.Kernel.Attn

end
-- ==== Proof.KernelIdeal.Body.lean ====
/- The body of the attention kernel meets the pipeline's obligation at every step, path by path. -/
module

public import proofs.«01_k».proof.Proof.KernelIdeal.Steps

@[expose] public section

set_option maxRecDepth 16384
-- one declaration at a time: the runs and the decided facts are memory-heavy
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The proof's resource algebra. -/
abbrev EP : Emb (UR sig nD τ) 𝕄 := emb₁

variable (W : Entry)

/-- The body at step `t` on its staging buffers. -/
abbrev bodyAt (t : Fin cfgA.N) : Prog (TpuEff nD τ sig (Elt Ideal) Λ₀ .tc) PUnit :=
  cc0_flash_prompt (crd t) (Memref.whole main_c) (Memref.isWhole_whole _) (Memref.whole main_c_0) (Memref.isWhole_whole _) (ms0 t) (hs0 t) (ms1 t) (hs1 t) (ms2 t) (hs2 t) (ms3 t) (hs3 t) (Memref.whole cc0_scratch0) (Memref.isWhole_whole _) (Memref.whole cc0_scratch1) (Memref.isWhole_whole _)

/-- What is to be shown of the body at step `t`: it keeps the invariant and leaves in each staging buffer what the data say. -/
def BodyAt (c : Dev nD) (t : Fin cfgA.N) : Prop :=
    iprop((dats W 0 c).Φ t.castSucc ∗ (dats W 0 c).owesAt () t.castSucc
        ∗ (∃ d, owns (c : Thread nD τ) (ms0 t) fullShare ((dats W 0 c).before (0 : Fin 4) t d))
        ∗ (∃ d, owns (c : Thread nD τ) (ms1 t) fullShare ((dats W 0 c).before (1 : Fin 4) t d))
        ∗ (∃ d, owns (c : Thread nD τ) (ms2 t) fullShare ((dats W 0 c).before (2 : Fin 4) t d))
        ∗ (∃ d, owns (c : Thread nD τ) (ms3 t) fullShare ((dats W 0 c).before (3 : Fin 4) t d)))
      ⊢ wp frame (wpE (defs₀ (F := Ideal)) Variants.none c none) Set.univ (bodyAt t) fun _ =>
          iprop((dats W 0 c).Φ t.succ ∗ (dats W 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats W 0 c).before w t d))
                  | true => owns (c : Thread nD τ) ((cfgA.win w).stage (cfgA.slots t w)) fullShare ((dats W 0 c).after w t)
                | false => owns (c : Thread nD τ) ((cfgA.win w).stage (cfgA.slots t w)) fullShare ((dats W 0 c).after w t))

set_option maxHeartbeats 4000000 in
/-- The body at a step of path A. -/
theorem sound_A (c : Dev nD) (t : Fin cfgA.N) (q : onA t) : BodyAt W c t := by
  obtain ⟨-, -, -, -, -, i3, f3, -⟩ := facts t
  have hh := condA t q
  have e3 : decide (kn t.val ≠ 2 * qn t.val + 1) = true := by unfold onA at q; exact decide_eq_true (by omega)
  have e4 : decide (kn t.val = 2 * qn t.val + 1) = false := by unfold onA at q; exact decide_eq_false (by omega)
  unfold BodyAt
  rw [bigSep_W0]
  rewrite [i3, e3]
  simp only [before0, before1, before2, before3, after0, after1, after2, after3, f3, e4]
  rewrite [show (dats W 0 c).Φ t.succ = Inv W c t.succ from rfl, show (dats W 0 c).Φ t.castSucc = Inv W c t.castSucc from rfl,
    show (dats W 0 c).owesAt () t.succ = (dats W 0 c).owesAt () t.castSucc from rfl]
  unfold Inv; simp only [Fin.val_castSucc, Fin.val_succ, prev_succ, step_A W c t _ q]
  iintro ⟨⟨⟨%a0, %ha0, HS0⟩, ⟨%a1, %ha1, HS1⟩, HT0, HT1⟩, Ho, ⟨%d0, H0⟩, ⟨%d1, H1⟩, ⟨%d2, H2⟩, ⟨%d3, H3⟩⟩
  iapply ((runA c (crd t) (ms0 t) (hs0 t) (ms1 t) (hs1 t) (ms2 t) (hs2 t) (ms3 t) (hs3 t) (iblk W c (0 : Fin 4) t) (iblk W c (1 : Fin 4) t) (iblk W c (2 : Fin 4) t) hh.1 hh.2.1 hh.2.2.1 hh.2.2.2.1 hh.2.2.2.2).2.2 _ a0 a1 _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexact H3
  isplitl [HS0]; · iexact HS0
  isplitl [HS1]; · iexact HS1
  iintro ⟨H0, H1, H2, HT0, HT1, H3, HS0, HS1⟩
  isplitl [HS0 HS1 HT0 HT1]
  · isplitl [HS0]
    · iexists _; isplitr; swap
      · iexact HS0
      · ipureintro; intro hn; rfl
    isplitl [HS1]
    · iexists _; isplitr; swap
      · iexact HS1
      · ipureintro; intro hn; rfl
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  iexists d3; iexact H3

set_option maxHeartbeats 4000000 in
/-- The body at a step of path C. -/
theorem sound_C (c : Dev nD) (t : Fin cfgA.N) (q : onC t) : BodyAt W c t := by
  obtain ⟨-, -, -, -, -, i3, f3, -⟩ := facts t
  have hh := condC t q
  have e3 : decide (kn t.val ≠ 2 * qn t.val + 1) = true := by unfold onC at q; exact decide_eq_true (by omega)
  have e4 : decide (kn t.val = 2 * qn t.val + 1) = false := by unfold onC at q; exact decide_eq_false (by omega)
  unfold BodyAt
  rw [bigSep_W0]
  rewrite [i3, e3]
  simp only [before0, before1, before2, before3, after0, after1, after2, after3, f3, e4]
  rewrite [show (dats W 0 c).Φ t.succ = Inv W c t.succ from rfl, show (dats W 0 c).Φ t.castSucc = Inv W c t.castSucc from rfl,
    show (dats W 0 c).owesAt () t.succ = (dats W 0 c).owesAt () t.castSucc from rfl]
  unfold Inv; simp only [Fin.val_castSucc, Fin.val_succ, prev_succ, step_C W c t _ q]
  iintro ⟨⟨⟨%a0, %ha0, HS0⟩, ⟨%a1, %ha1, HS1⟩, HT0, HT1⟩, Ho, ⟨%d0, H0⟩, ⟨%d1, H1⟩, ⟨%d2, H2⟩, ⟨%d3, H3⟩⟩
  iapply ((runC c (crd t) (ms0 t) (hs0 t) (ms1 t) (hs1 t) (ms2 t) (hs2 t) (ms3 t) (hs3 t) (iblk W c (0 : Fin 4) t) (iblk W c (1 : Fin 4) t) (iblk W c (2 : Fin 4) t) hh.1 hh.2.1 hh.2.2.1 hh.2.2.2.1 hh.2.2.2.2).2.2 _ a0 a1 _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexact H3
  isplitl [HS0]; · iexact HS0
  isplitl [HS1]; · iexact HS1
  iintro ⟨H0, H1, H2, HT0, HT1, H3, HS0, HS1⟩
  isplitl [HS0 HS1 HT0 HT1]
  · isplitl [HS0]
    · iexists _; isplitr; swap
      · iexact HS0
      · ipureintro; intro hn; rfl
    isplitl [HS1]
    · iexists _; isplitr; swap
      · iexact HS1
      · ipureintro; intro hn; rfl
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  iexists d3; iexact H3

set_option maxHeartbeats 4000000 in
/-- The body at a step of path D. -/
theorem sound_D (c : Dev nD) (t : Fin cfgA.N) (q : onD t) : BodyAt W c t := by
  obtain ⟨-, -, -, -, -, i3, f3, -⟩ := facts t
  have hh := condD t q
  have e3 : decide (kn t.val ≠ 2 * qn t.val + 1) = true := by unfold onD at q; exact decide_eq_true (by omega)
  have e4 : decide (kn t.val = 2 * qn t.val + 1) = false := by unfold onD at q; exact decide_eq_false (by omega)
  have hne : t.val ≠ 0 := by intro h; unfold onD at q; rw [h, kn_zero] at q; omega
  unfold BodyAt
  rw [bigSep_W0]
  rewrite [i3, e3]
  simp only [before0, before1, before2, before3, after0, after1, after2, after3, f3, e4]
  rewrite [show (dats W 0 c).Φ t.succ = Inv W c t.succ from rfl, show (dats W 0 c).Φ t.castSucc = Inv W c t.castSucc from rfl,
    show (dats W 0 c).owesAt () t.succ = (dats W 0 c).owesAt () t.castSucc from rfl]
  unfold Inv; simp only [Fin.val_castSucc, Fin.val_succ, prev_succ, step_D W c t _ q]
  iintro ⟨⟨HS0, HS1, HT0, HT1⟩, Ho, ⟨%d0, H0⟩, ⟨%d1, H1⟩, ⟨%d2, H2⟩, ⟨%d3, H3⟩⟩
  ihave HS0 := held_at hne _ $$ HS0
  ihave HS1 := held_at hne _ $$ HS1
  iapply ((runD c (crd t) (ms0 t) (hs0 t) (ms1 t) (hs1 t) (ms2 t) (hs2 t) (ms3 t) (hs3 t) (iblk W c (0 : Fin 4) t) (iblk W c (1 : Fin 4) t) (iblk W c (2 : Fin 4) t) (prev W c t.val t.isLt.le).1 (prev W c t.val t.isLt.le).2 hh.1 hh.2.1 hh.2.2.1 hh.2.2.2.1 hh.2.2.2.2).2.2 _ _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexact H3
  isplitl [HS0]; · iexact HS0
  isplitl [HS1]; · iexact HS1
  iintro ⟨H0, H1, H2, HT0, HT1, H3, HS0, HS1⟩
  isplitl [HS0 HS1 HT0 HT1]
  · isplitl [HS0]
    · iexists _; isplitr; swap
      · iexact HS0
      · ipureintro; intro hn; rfl
    isplitl [HS1]
    · iexists _; isplitr; swap
      · iexact HS1
      · ipureintro; intro hn; rfl
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  iexists d3; iexact H3

set_option maxHeartbeats 4000000 in
/-- The body at a step of path E. -/
theorem sound_E (c : Dev nD) (t : Fin cfgA.N) (q : onE t) : BodyAt W c t := by
  obtain ⟨-, -, -, -, -, i3, f3, -⟩ := facts t
  have hh := condE t q
  have e3 : decide (kn t.val ≠ 2 * qn t.val + 1) = true := by unfold onE at q; exact decide_eq_true (by omega)
  have e4 : decide (kn t.val = 2 * qn t.val + 1) = false := by unfold onE at q; exact decide_eq_false (by omega)
  have hne : t.val ≠ 0 := by intro h; unfold onE at q; rw [h, kn_zero] at q; omega
  unfold BodyAt
  rw [bigSep_W0]
  rewrite [i3, e3]
  simp only [before0, before1, before2, before3, after0, after1, after2, after3, f3, e4]
  rewrite [show (dats W 0 c).Φ t.succ = Inv W c t.succ from rfl, show (dats W 0 c).Φ t.castSucc = Inv W c t.castSucc from rfl,
    show (dats W 0 c).owesAt () t.succ = (dats W 0 c).owesAt () t.castSucc from rfl]
  unfold Inv; simp only [Fin.val_castSucc, Fin.val_succ, prev_succ, step_E W c t _ q]
  iintro ⟨⟨HS0, HS1, HT0, HT1⟩, Ho, ⟨%d0, H0⟩, ⟨%d1, H1⟩, ⟨%d2, H2⟩, ⟨%d3, H3⟩⟩
  ihave HS0 := held_at hne _ $$ HS0
  ihave HS1 := held_at hne _ $$ HS1
  iapply ((runE c (crd t) (ms0 t) (hs0 t) (ms1 t) (hs1 t) (ms2 t) (hs2 t) (ms3 t) (hs3 t) (iblk W c (0 : Fin 4) t) (iblk W c (1 : Fin 4) t) (iblk W c (2 : Fin 4) t) (prev W c t.val t.isLt.le).1 (prev W c t.val t.isLt.le).2 hh.1 hh.2.1 hh.2.2.1 hh.2.2.2.1 hh.2.2.2.2).2.2 _ _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexact H3
  isplitl [HS0]; · iexact HS0
  isplitl [HS1]; · iexact HS1
  iintro ⟨H0, H1, H2, HT0, HT1, H3, HS0, HS1⟩
  isplitl [HS0 HS1 HT0 HT1]
  · isplitl [HS0]
    · iexists _; isplitr; swap
      · iexact HS0
      · ipureintro; intro hn; rfl
    isplitl [HS1]
    · iexists _; isplitr; swap
      · iexact HS1
      · ipureintro; intro hn; rfl
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  iexists d3; iexact H3

set_option maxHeartbeats 4000000 in
/-- The body at a step of path B. -/
theorem sound_B (c : Dev nD) (t : Fin cfgA.N) (q : onB t) : BodyAt W c t := by
  obtain ⟨-, -, -, -, -, i3, f3, -⟩ := facts t
  have hh := condB t q
  have e3 : decide (kn t.val ≠ 2 * qn t.val + 1) = false := by unfold onB at q; exact decide_eq_false (by omega)
  have e4 : decide (kn t.val = 2 * qn t.val + 1) = true := by unfold onB at q; exact decide_eq_true (by omega)
  have hne : t.val ≠ 0 := by intro h; unfold onB at q; rw [h, kn_zero] at q; omega
  unfold BodyAt
  rw [bigSep_W0]
  rewrite [i3, e3]
  simp only [before0, before1, before2, before3, after0, after1, after2, after3, f3, e4]
  rewrite [show (dats W 0 c).Φ t.succ = Inv W c t.succ from rfl, show (dats W 0 c).Φ t.castSucc = Inv W c t.castSucc from rfl,
    show (dats W 0 c).owesAt () t.succ = (dats W 0 c).owesAt () t.castSucc from rfl]
  unfold Inv; simp only [Fin.val_castSucc, Fin.val_succ, prev_succ, step_B W c t _ q]
  iintro ⟨⟨HS0, HS1, HT0, HT1⟩, Ho, ⟨%d0, H0⟩, ⟨%d1, H1⟩, ⟨%d2, H2⟩, ⟨%d3, H3⟩⟩
  ihave HS0 := held_at hne _ $$ HS0
  ihave HS1 := held_at hne _ $$ HS1
  iapply ((runB c (crd t) (ms0 t) (hs0 t) (ms1 t) (hs1 t) (ms2 t) (hs2 t) (ms3 t) (hs3 t) (iblk W c (0 : Fin 4) t) (iblk W c (1 : Fin 4) t) (iblk W c (2 : Fin 4) t) (prev W c t.val t.isLt.le).1 (prev W c t.val t.isLt.le).2 hh.1 hh.2.1 hh.2.2.1 hh.2.2.2.1 hh.2.2.2.2).2.2.2 _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexists _; iexact H3
  isplitl [HS0]; · iexact HS0
  isplitl [HS1]; · iexact HS1
  iintro ⟨H0, H1, H2, HT0, HT1, ⟨%e3, H3⟩, HS0, HS1⟩
  isplitl [HS0 HS1 HT0 HT1]
  · isplitl [HS0]
    · iexists _; isplitr; swap
      · iexact HS0
      · ipureintro; intro hn; rfl
    isplitl [HS1]
    · iexists _; isplitr; swap
      · iexact HS1
      · ipureintro; intro hn; rfl
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  unfold owns; iexists _; isplitr; swap
  · iexact H3
  · ipureintro; unfold outAt; rw [dif_pos q]; exact View.read_writes_of_cover _ _ _ _ _ (cover_B c _ _ _ _ _ _ _ _ _ _ _ _ _ _ _ _ _ _ _)

/-- The body at every step. -/
theorem body_obligation (c : Dev nD) : BodyObligation (dats W 0 c) (defs₀ (F := Ideal)) Variants.none () Set.univ := fun t => by
  rw [bigSep_W0]
  obtain ⟨-, -, -, -, -, -, -, k1, -⟩ := facts t
  change BodyAt W c t
  by_cases qA : onA t; · exact sound_A W c t qA
  by_cases qC : onC t; · exact sound_C W c t qC
  by_cases qD : onD t; · exact sound_D W c t qD
  by_cases qE : onE t; · exact sound_E W c t qE
  exact sound_B W c t (by unfold onA onC onD onE at *; omega)

end Cert.KernelIdeal.Attn

end
-- ==== Proof.KernelIdeal.Launch.lean ====
/- The launch of the attention call: the two constant tables are written, the region runs, and the frame claim follows. -/
module

public import proofs.«01_k».proof.Proof.KernelIdeal.Body

@[expose] public section

set_option maxRecDepth 16384
-- one declaration at a time: the runs and the decided facts are memory-heavy
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- What the buffers hold when the region is entered: the two constants have been written. -/
abbrev V : Entry := fun c b => StableHlo.after hostOps0 (fun b => m (c, b)) b

/-- The rounds library's launch element. -/
def u₀ : UR sig nD τ :=
  initOf (Pipeline.cells pcs ((launch0 (F := Ideal)).cellOf_inj fun _ => adm))
    (Pipeline.launchToks pcs ((launch0 (F := Ideal)).cellOf_inj fun _ => adm))

theorem share_eq (W : Entry) (c : Dev nD) (w : Fin cfgA.W) : (dats W 0 c).share w = fullShare := by unfold Dat.share; split <;> rfl

/-- No host operation writes a buffer other than the two tables. -/
theorem V_of (c : Dev nD) (b : Ref sig .tc) (h0 : b ≠ main_c) (h1 : b ≠ main_c_0) : V m c b = m ((c : Thread nD τ).loc b) :=
  StableHlo.after_of_forall_not_mem (b := Proc.devRef .tc b) _ _ (by
    intro op hop
    simp only [List.mem_cons, List.mem_nil_iff, or_false] at hop
    rcases hop with rfl | rfl <;> simp only [StableHlo.nullary_writes, Finset.mem_singleton] <;>
      exact StableHlo.devRef_ne_of_ne ‹_›)

/-- The tables hold the blocks of each step. -/
theorem V_tabs (c : Dev nD) : ∀ j : Fin 2, V m c (pre0.ref j) = adm.1 j := fun
  | ⟨0, _⟩ => by
    refine Eq.trans ?_ lit0_tab
    rfl
  | ⟨1, _⟩ => by
    refine Eq.trans ?_ lit1_tab
    rfl
  | ⟨_ + 2, h⟩ => absurd h (by omega)

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first step, from the tables and the scratch buffers; -/
theorem inv_intro (W : Entry) (c : Dev nD) :
    iprop(BI.emp ∗ Pipeline.prefHeld pre0 c (fun _ => fullShare.right) adm.1 ∗ Pipeline.scopedRest spec0 c) ⊢ (dats W 0 c).Φ 0 := by
  rw [prefHeld_eq, scopedRest0_eq, show (dats W 0 c).Φ 0 = Inv W c 0 from rfl]
  unfold Inv
  iintro ⟨-, ⟨HT0, HT1⟩, ⟨%a0, HS0⟩, ⟨%a1, HS1⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HT0]
  · iexact HT0
  iexact HT1

/-- after the last it gives the scratch back. -/
theorem inv_exit (W : Entry) (c : Dev nD) : (dats W 0 c).Φ (Fin.last cfgA.N) ⊢ iprop(BI.emp ∗ Pipeline.scopedRest spec0 c) := by
  rw [scopedRest0_eq, show (dats W 0 c).Φ (Fin.last cfgA.N) = Inv W c (Fin.last _) from rfl]
  unfold Inv
  iintro ⟨⟨%a0, -, HS0⟩, ⟨%a1, -, HS1⟩, -, -⟩
  isplitr; · iempintro
  isplitl [HS0]
  · iexists a0; iexact HS0
  iexists a1; iexact HS1

/-- What every final state satisfies: each array at what the pipeline computes. -/
def Final (r : PUnit × MemSt nD τ sig (Elt Ideal)) : Prop :=
  ∀ c : Dev nD, ∀ w : Fin cfgA.W, r.2.mem ((cfgA.win w).arr.view.loc (c : Thread nD τ)) = (dats (V m) 0 c).arrAt w cfgA.N

set_option backward.isDefEq.respectTransparency.types false in
set_option maxHeartbeats 4000000 in
/-- The launch: from any memory with zero counters every fair execution of @main terminates, each array at what the
    pipeline computes and every semaphore counter at zero. -/
theorem run_main : θ_run (defs (F := Ideal)) (onTc (τ := τ) (main (F := Ideal))) (s₀ m ρ) (fun r => Final m r ∧ r.2.sem = fun _ => 0) :=
  Pipeline.θ_run_region_noSem_pf_quiescent pcfgs (fun _ => adm) (dats (V m)) () ((launch0 (F := Ideal)).cellOf_inj fun _ => adm) (0 : Fin 1)
    (launch0 (F := Ideal)).win.to₀ (launch0 (F := Ideal)).pre EP defs₀ Variants.none m ρ main
    (hbody := fun c => (body_obligation (V m) c).loose) (hne := (launch0 (F := Ideal)).block_pos)
    (harr := (launch0 (F := Ideal)).arr_whole) (hstage := (launch0 (F := Ideal)).stage_whole) (howed := fun _ _ => rfl)
    (u₀ := u₀) (hu₀ := .rfl)
    (V := V m)
    (hmain := Pipeline.hmainP_prefix pcfgs 0 defs₀ Variants.none m main hostOps0 hostOps0_sub ⟨rfl, rfl⟩ main_chain)
    (hsplit := fun c => Pipeline.arrays_split pcs (dats (V m)) 0 (launch0 (F := Ideal)).win.arr_inj c (launch0 (F := Ideal)).arr_whole
      (share_eq (V m) c) _ _ fun _ => rfl)
    (hpf := V_tabs m)
    (X := fun _ => iprop(emp)) (Y := fun _ => iprop(emp)) (Z := fun _ => iprop(emp))
    (hX := fun c => by rw [unscopedRestP0_eq]; iintro -; isplitr <;> iempintro)
    (hin := inv_intro (V m))
    (hout := inv_exit (V m))
    (QY := fun _ _ => True)
    (hY := fun c s' => by
      iintro ⟨-, -, HSI⟩; imodintro
      isplitr; · ipureintro; trivial
      iexact HSI)
    (hQ := fun _ h hz => ⟨fun c => (h c).1, hz⟩)

/-- An argument ends as it was launched: it is an input window's array. -/
theorem arg_kept (c : Dev nD) (w : Fin 4) (h : (cfgA.win w).isOut = false) (h0 : Pipeline.arrRef spec0 w ≠ main_c) (h1 : Pipeline.arrRef spec0 w ≠ main_c_0) :
    (dats (V m) 0 c).arrAt w cfgA.N = m ((c : Thread nD τ).loc (Pipeline.arrRef spec0 w)) :=
  ((dats (V m) 0 c).arrAt_in w h _).trans (V_of m c _ h0 h1)

/-- The frame claim: every execution terminates, nothing faults, the arguments end unchanged and every counter is zero. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c (0 : Fin 4)).trans (arg_kept m c 0 rfl (by decide) (by decide)),
      (h.1 c (1 : Fin 4)).trans (arg_kept m c 1 rfl (by decide) (by decide)),
      (h.1 c (2 : Fin 4)).trans (arg_kept m c 2 rfl (by decide) (by decide))⟩, h.2⟩) (run_main m ρ)

end Cert.KernelIdeal.Attn

end
-- ==== Proof.Rms.lean ====
/- The RMS norm of a row, and the operations that compute it for a block of rows. -/
module

public import Idealize.ShloMosaic.PureOps.Ideal
public import Idealize.ShloMosaic.PureOps.Ideal.Laws
public import Idealize.ShloMosaic.Lib.ValueIdx
public import Idealize.ShloMosaic.Lib.MatmulPlain
public import Idealize.ShloMosaic.Lib.Pipeline.Value

@[expose] public section

noncomputable section

namespace Cert.Rms

open Idealize.ShloMosaic Idealize.ShloMosaic.ValueIdx
open scoped BigOperators

/-- One over the square root of a row's mean square, `w` the word of the number of places, and a small number added to the mean. -/
def scaleBy {d : ℕ} (w : BitVec 32) (row : Fin d → EReal) : EReal :=
  Ideal.rsqrt (Ideal.div (∑ k, row k * row k) (Ideal.ofBits .f32 w) + Ideal.ofBits .f32 0x358637BD#32)

/-- The RMS norm of a row with weights `g`, at place `j`. -/
def normBy {d : ℕ} (w : BitVec 32) (row g : Fin d → EReal) (j : Fin d) : EReal := row j * scaleBy w row * g j

/-- The norm of a row of 1024 places, and of 256. -/
abbrev norm {d : ℕ} (row g : Fin d → EReal) (j : Fin d) : EReal := normBy 0x44800000#32 row g j
abbrev norm256 {d : ℕ} (row g : Fin d → EReal) (j : Fin d) : EReal := normBy 0x43800000#32 row g j

variable {n d : ℕ} {w : BitVec 32}

/-- The squares of a block's rows summed, divided, and the root taken: a column of scales. -/
theorem scale_apply (x : FVec Ideal ⟨2, ![n, d]⟩ .f32) (hr : (⟨2, ![n, d]⟩ : Shape).Reduces [1] ⟨1, ![n]⟩)
    (hs : (⟨1, ![n]⟩ : Shape).ShapeCasts ⟨2, ![n, 1]⟩) (hφ : FTy.f32 = .f32 ∨ FTy.f32 = .bf16) (hacc) (i : Fin n) :
    rsqrt (addf (divf (shapeCast ⟨2, ![n, 1]⟩ (multiReduction (F := Ideal) .add [1] ⟨1, ![n]⟩ (mulf x x) 0x00000000#32 hr hφ hacc) hs)
        (broadcast ⟨2, ![n, 1]⟩ (Scalar.ofBits (F := Ideal) .f32 w))) (broadcast ⟨2, ![n, 1]⟩ (Scalar.ofBits (F := Ideal) .f32 0x358637BD#32)))
      (ix2 i (0 : Fin 1)) = scaleBy w fun k => x (ix2 i k) := by
  refine congrArg Ideal.rsqrt (congrArg₂ (· + ·) (congrArg₂ Ideal.div ?_ rfl) rfl)
  refine (shapeCast_apply _ _ _ (ix1 i) (by rw [Shape.rowMajor_val_one, Shape.rowMajor_val_two]; show i.val = i.val * 1 + 0; omega)).trans ?_
  refine (Ideal.multiReduction_add_single (mulf x x) 0x00000000#32 hr hφ hacc (ix1 i)).trans ?_
  refine Finset.sum_congr rfl fun k _ => ?_
  have e : hr.lift (ix1 i) k = ix2 i k := funext fun a => Fin.ext (by
    match a with
    | ⟨0, _⟩ => rfl
    | ⟨1, _⟩ => rfl)
  rw [e]; rfl

/-- The block times the scales laid along its rows, times the weights laid along every row. -/
theorem norm_apply (x : FVec Ideal ⟨2, ![n, d]⟩ .f32) (s : FVec Ideal ⟨2, ![n, 1]⟩ .f32) (g : FVec Ideal ⟨2, ![1, d]⟩ .f32)
    (hs : (⟨2, ![n, 1]⟩ : Shape).Broadcasts ⟨2, ![n, d]⟩) (hg : (⟨2, ![1, d]⟩ : Shape).Broadcasts ⟨2, ![n, d]⟩) (i : Fin n) (j : Fin d)
    (h : s (ix2 i (0 : Fin 1)) = scaleBy w fun k => x (ix2 i k)) :
    mulf (mulf x (broadcastTo ⟨2, ![n, d]⟩ s hs)) (broadcastTo ⟨2, ![n, d]⟩ g hg) (ix2 i j)
      = normBy w (fun k => x (ix2 i k)) (fun k => g (ix2 (0 : Fin 1) k)) j := by
  refine congrArg₂ (· * ·) (congrArg₂ (· * ·) rfl (Eq.trans ?_ h)) ?_
  · exact broadcastTo_apply _ _ _ (ix2 i (0 : Fin 1)) (fun a => by
      match a with
      | ⟨0, _⟩ => show i.val = if n = 1 then 0 else i.val; have := i.isLt; split_ifs <;> omega
      | ⟨1, _⟩ => rfl)
  · exact broadcastTo_apply _ _ _ (ix2 (0 : Fin 1) j) (fun a => by
      match a with
      | ⟨0, _⟩ => rfl
      | ⟨1, _⟩ => show j.val = if d = 1 then 0 else j.val; have := j.isLt; split_ifs <;> omega)

/-- The host's squares of the rows summed, divided, and the root taken. -/
theorem host_scale_apply (x : FVec Ideal ⟨2, ![n, d]⟩ .f32) (hr : (⟨2, ![n, d]⟩ : Shape).ReducesTo [1] ⟨1, ![n]⟩) (h0 : 0 < (⟨0, ![]⟩ : Shape).numel)
    (hb : (⟨1, ![n]⟩ : Shape).BroadcastsInDim ⟨2, ![n, 1]⟩ ![0]) (hc hc' : (⟨0, ![]⟩ : Shape).BroadcastsInDim ⟨2, ![n, 1]⟩ ![]) (i : Fin n) :
    Host.rsqrt (addf (Host.divf (broadcastInDim ⟨2, ![n, 1]⟩ ![0] hb (Host.reduceAdd (mulf x x) (constant (F := Ideal) ⟨0, ![]⟩ .f32 0x00000000#32) hr h0))
        (broadcastInDim ⟨2, ![n, 1]⟩ ![] hc (constant (F := Ideal) ⟨0, ![]⟩ .f32 w)))
        (broadcastInDim ⟨2, ![n, 1]⟩ ![] hc' (constant (F := Ideal) ⟨0, ![]⟩ .f32 0x358637BD#32))) (ix2 i (0 : Fin 1))
      = scaleBy w fun k => x (ix2 i k) := by
  refine congrArg Ideal.rsqrt (congrArg₂ (· + ·) (congrArg₂ Ideal.div ?_ rfl) rfl)
  refine (broadcastInDim_apply _ hb _ _ (ix1 i) (fun a => by
    match a with
    | ⟨0, _⟩ => show i.val = if n = 1 then 0 else i.val; have := i.isLt; split_ifs <;> omega)).trans ?_
  simp only [Host.reduceAdd, Ideal.hostReduceAdd_def]
  have hs : (⟨2, ![n, d]⟩ : Shape).Reduces [1] ⟨1, ![n]⟩ := ⟨rfl, Nat.one_pos, hr.2⟩
  rw [Ideal.hostReduceAdd_single hr hs, show (constant (F := Ideal) ⟨0, ![]⟩ .f32 0x00000000#32 _ : EReal) = 0 by simp [constant, Ideal.ofBits, Ideal.ieee], zero_add]
  refine Finset.sum_congr rfl fun k _ => ?_
  have e : hs.lift (ix1 i) k = ix2 i k := funext fun a => Fin.ext (by
    match a with
    | ⟨0, _⟩ => rfl
    | ⟨1, _⟩ => rfl)
  exact congrArg (fun p => (x p : EReal) * x p) e

/-- The host's rows times their scales, times the weights. -/
theorem host_norm_apply (x : FVec Ideal ⟨2, ![n, d]⟩ .f32) (r : FVec Ideal ⟨2, ![n, 1]⟩ .f32) (g : FVec Ideal ⟨1, ![d]⟩ .f32)
    (hs : (⟨2, ![n, 1]⟩ : Shape).BroadcastsInDim ⟨2, ![n, d]⟩ ![0, 1]) (hg : (⟨1, ![d]⟩ : Shape).BroadcastsInDim ⟨2, ![1, d]⟩ ![1])
    (hg' : (⟨2, ![1, d]⟩ : Shape).BroadcastsInDim ⟨2, ![n, d]⟩ ![0, 1]) (i : Fin n) (j : Fin d)
    (h : r (ix2 i (0 : Fin 1)) = scaleBy w fun k => x (ix2 i k)) :
    mulf (mulf x (broadcastInDim ⟨2, ![n, d]⟩ ![0, 1] hs r)) (broadcastInDim ⟨2, ![n, d]⟩ ![0, 1] hg' (broadcastInDim ⟨2, ![1, d]⟩ ![1] hg g)) (ix2 i j)
      = normBy w (fun k => x (ix2 i k)) (fun k => g (ix1 k)) j := by
  refine congrArg₂ (· * ·) (congrArg₂ (· * ·) rfl (Eq.trans ?_ h)) ?_
  · exact broadcastInDim_apply _ hs r _ (ix2 i (0 : Fin 1)) (fun a => by
      match a with
      | ⟨0, _⟩ => show i.val = if n = 1 then 0 else i.val; have := i.isLt; split_ifs <;> omega
      | ⟨1, _⟩ => rfl)
  · refine (broadcastInDim_apply _ hg' _ _ (ix2 (0 : Fin 1) j) (fun a => by
      match a with
      | ⟨0, _⟩ => rfl
      | ⟨1, _⟩ => show j.val = if d = 1 then 0 else j.val; have := j.isLt; split_ifs <;> omega)).trans ?_
    exact broadcastInDim_apply _ hg g _ (ix1 j) (fun a => by
      match a with
      | ⟨0, _⟩ => show j.val = if d = 1 then 0 else j.val; have := j.isLt; split_ifs <;> omega)

/-- A product of two blocks onto zeros, element by element. -/
theorem matmul_apply {M K N : ℕ} {φ : FTy} (l : FVec Ideal ⟨2, ![M, K]⟩ φ) (r : FVec Ideal ⟨2, ![K, N]⟩ .bf16) (i : Fin M) (j : Fin N) :
    FloatOps.matmul (DotDims.plain M K N) none l r (constant (F := Ideal) ⟨2, ![M, N]⟩ .f32 0x00000000#32) (ix2 i j)
      = ∑ k : Fin K, (l (ix2 i k) : EReal) * r (ix2 k j) := by
  refine (Ideal.matmul_plain_apply none l r _ i j).trans ?_
  rw [show (constant (F := Ideal) ⟨2, ![M, N]⟩ .f32 0x00000000#32 (ix2 i j) : EReal) = 0 by simp [constant, Ideal.ofBits, Ideal.ieee], zero_add]

end Cert.Rms

end
-- ==== Proof.InProj.lean ====
/- The input projection's output array: each row's RMS norm times the weight matrix. -/
module

public import proofs.«01_k».proof.Proof.Gen.Kernel2Ideal.Value
public import proofs.«01_k».proof.Proof.Rms
public import Idealize.ShloMosaic.Lib.Pipeline.ValueKit.Geometry
public import Idealize.ShloMosaic.Lib.Pipeline.ValueKit.Acc

@[expose] public section

noncomputable section

namespace Cert.Kernel2Ideal.Proj

open Cert.Kernel2Ideal Cert.Kernel2Ideal.Gen
open Idealize.ShloMosaic Idealize.ShloMosaic.ValueIdx Idealize.ShloMosaic.TcCoe
open Cert.Rms
open scoped BigOperators

/-- One block of the body: the rows' norms times the matrix. -/
theorem pay_apply (x : Vec Ideal S512x1024 .f32) (g : Vec Ideal S1x1024 .f32) (w : Vec Ideal S1024x2816 .bf16) (i : Fin 512) (j : Fin 2816) :
    k0_pay1 x g w (ix2 i j) = ∑ k : Fin 1024, norm (fun k => x (ix2 i k)) (fun k => g (ix2 (0 : Fin 1) k)) k * w (ix2 k j) := by
  unfold k0_pay1
  refine (matmul_apply (φ := .bf16) _ w i j).trans (Finset.sum_congr rfl fun k _ => congrArg (· * (w (ix2 k j) : EReal)) ?_)
  refine (norm_apply x _ _ _ _ i k (scale_apply x _ _ _ _ i)).trans ?_
  refine congrArg (fun g => norm (fun k => x (ix2 i k)) g k) (funext fun k => ?_)
  exact shapeCast_apply g _ _ _ rfl

variable (m : (ℓ : Loc nD τ sig) → Buf (Elt Ideal) ℓ) (c : Dev nD)

/-- The arguments. -/
abbrev xA : S16384x1024.Idx → EReal := m ((c : Thread nD τ).loc main_arg0)
abbrev gA : S1024.Idx → EReal := m ((c : Thread nD τ).loc main_arg1)
abbrev wA : S1024x2816.Idx → EReal := m ((c : Thread nD τ).loc main_arg2)

/-- The output array. -/
def outG : S16384x2816.Idx → EReal := fun y =>
  ∑ k : Fin 1024, norm (fun k => xA m c (ix2 (y 0) k)) (fun k => gA m c (ix1 k)) k * wA m c (ix2 k (y 1))

/-- The weights of the norm reach the call as a one-row matrix. -/
theorem g_row (k : Fin 1024) : V m c main_v0 (ix2 (0 : Fin 1) k) = gA m c (ix1 k) := by
  have e : V m c main_v0 = shapeCast S1x1024 (gA m c) shapeCasts_S1024_S1x1024 := by rfl
  rw [e]
  exact shapeCast_apply _ _ _ (ix1 k) (by rw [Shape.rowMajor_val_one, Shape.rowMajor_val_two]; show k.val = 0 * 1024 + k.val; omega)

/-- Where the blocks lie. -/
theorem at0 : ∀ t : Fin cfg0.N, win0_0.index t = ![t.val, 0] := (by decide +kernel : ∀ t : Fin grid0.N, win0_0.index t = ![t.val, 0])
theorem at1 : ∀ t : Fin cfg0.N, win0_1.index t = ![0, 0] := (by decide +kernel : ∀ t : Fin grid0.N, win0_1.index t = ![0, 0])
theorem at2 : ∀ t : Fin cfg0.N, win0_2.index t = ![0, 0] := (by decide +kernel : ∀ t : Fin grid0.N, win0_2.index t = ![0, 0])
theorem at3 : ∀ t : Fin cfg0.N, win0_3.index t = ![t.val, 0] := (by decide +kernel : ∀ t : Fin grid0.N, win0_3.index t = ![t.val, 0])

theorem row_lt (t : Fin cfg0.N) (i : Fin 512) : 512 * t.val + i.val < 16384 := by
  have : t.val < 32 := t.isLt
  omega

/-- The blocks at their places. -/
theorem x_blk (t : Fin cfg0.N) (i : Fin 512) (k : Fin 1024) : iblk m c 0 t (ix2 i k) = xA m c (ix2 (⟨512 * t.val + i.val, row_lt t i⟩ : Fin 16384) k) := by
  blk_simp [iblk]
  rw [V_main_arg0]
  refine congrArg (xA m c) ?_
  blk_ext [at0]
  show t.val * 512 + i.val = 512 * t.val + i.val; omega
theorem g_blk (t : Fin cfg0.N) (k : Fin 1024) : iblk m c 1 t (ix2 (0 : Fin 1) k) = gA m c (ix1 k) := by
  rw [← g_row]
  blk_simp [iblk]
  refine congrArg (V m c main_v0) ?_
  blk_ext [at1]
theorem w_blk (t : Fin cfg0.N) (k : Fin 1024) (j : Fin 2816) : iblk m c 2 t (ix2 k j) = wA m c (ix2 k j) := by
  blk_simp [iblk]
  rw [V_main_arg2]
  refine congrArg (wA m c) ?_
  blk_ext [at2]

theorem out_eq : (dats m 0 c).arrAt 3 cfg0.N = outG m c := by
  refine (dats m 0 c).arrAt_eq_of_covers 3 _ (by decide +kernel) fun t hf y => ?_
  blk_simp
  rw [after0_3]
  frame_out
  obtain ⟨i, j, rfl⟩ : ∃ (i : Fin 512) (j : Fin 2816), y = ix2 i j := ⟨y 0, y 1, funext fun b => by match b with | ⟨0, _⟩ => rfl | ⟨1, _⟩ => rfl⟩
  have e : ((View.whole main_v1).slice (win0_3.rect t)).emb (ix2 i j) = ix2 (⟨512 * t.val + i.val, row_lt t i⟩ : Fin 16384) j := by
    blk_ext [at3]
    show t.val * 512 + i.val = 512 * t.val + i.val; omega
  rw [e]
  refine (pay_apply _ _ _ i j).trans ?_
  simp only [x_blk, g_blk, w_blk]
  rfl

end Cert.Kernel2Ideal.Proj

end
-- ==== Proof.InProjRef.lean ====
/- The reference's input projection, element by element, and its agreement with the kernel's. -/
module

public import proofs.«01_k».proof.Proof.Gen.Reference2Ideal.Read
public import proofs.«01_k».proof.Proof.InProj

@[expose] public section

noncomputable section

namespace Cert.Reference2Ideal.Proj

open Cert.Reference2Ideal Cert.Reference2Ideal.Gen Cert.Reference2Ideal.Read
open Idealize.ShloMosaic Idealize.ShloMosaic.ValueIdx
open Cert.Rms
open scoped BigOperators

variable (x : S16384x1024.Idx → EReal) (g : S1024.Idx → EReal) (w : S1024x2816.Idx → EReal)

/-- A row's norm. -/
theorem norm_eq (i : Fin 16384) (k : Fin 1024) :
    val_main_v12 (F := Ideal) x g (ix2 i k) = norm (fun k => x (ix2 i k)) (fun k => g (ix1 k)) k :=
  host_norm_apply x (val_main_v7 (F := Ideal) x) g _ _ _ i k (host_scale_apply x _ _ _ _ _ i)

/-- The two output arrays are one. -/
theorem same (m : (ℓ : Loc Cert.Kernel2Ideal.nD Cert.Kernel2Ideal.τ Cert.Kernel2Ideal.sig) → Buf (Elt Ideal) ℓ) (c : Dev Cert.Kernel2Ideal.nD) :
    val_main_v14 (F := Ideal) (Cert.Kernel2Ideal.Proj.xA m c) (Cert.Kernel2Ideal.Proj.gA m c) (Cert.Kernel2Ideal.Proj.wA m c) = Cert.Kernel2Ideal.Proj.outG m c := by
  funext y
  obtain ⟨i, j, rfl⟩ : ∃ (i : Fin 16384) (j : Fin 2816), y = ix2 i j := ⟨y 0, y 1, funext fun b => by match b with | ⟨0, _⟩ => rfl | ⟨1, _⟩ => rfl⟩
  refine (val_main_v14_apply _ _ _ (ix2 i j)).trans (Finset.sum_congr rfl fun k _ => ?_)
  rw [show lidx_main_v14 (ix2 i j) k = ix2 i k from funext fun a => by match a with | ⟨0, _⟩ => rfl | ⟨1, _⟩ => rfl,
    show ridx_main_v14 (ix2 i j) k = ix2 k j from funext fun a => by match a with | ⟨0, _⟩ => rfl | ⟨1, _⟩ => rfl, norm_eq]
  rfl

end Cert.Reference2Ideal.Proj

end
-- ==== Proof.Mixers.lean ====
/- The residual stream plus the three mixers' outputs times the weight matrix, and the host's operations that compute it. -/
module

public import proofs.«01_k».proof.Proof.Rms
public import Idealize.ShloMosaic.Lib.StackMember

@[expose] public section

noncomputable section

namespace Cert.Mixers

open Idealize.ShloMosaic Idealize.ShloMosaic.ValueIdx
open scoped BigOperators

/-- A number times its logistic. -/
def silu (z : EReal) : EReal := z * Ideal.logistic z

/-- A row of the residual stream after the projection, at place `j`: the row, plus the three mixers' rows times their rows of the
    matrix, the third mixer's row times the gates `z`. -/
def mixed (x : Fin 1024 → EReal) (a : Fin 256 → EReal) (b o z : Fin 384 → EReal) (w : Fin 1024 → Fin 1024 → EReal) (j : Fin 1024) : EReal :=
  x j + (∑ k : Fin 256, a k * w ⟨k.val, by omega⟩ j + ∑ k : Fin 384, b k * w ⟨256 + k.val, by omega⟩ j
    + ∑ k : Fin 384, o k * silu (z k) * w ⟨640 + k.val, by omega⟩ j)

variable {n : ℕ}

/-- The word of one. -/
theorem one_word : Ideal.ofBits .f32 0x3F800000#32 = 1 := by simp [Ideal.ofBits, Ideal.ieee]; rw [← EReal.coe_mul]; norm_num

/-- The third mixer's output times its gates, the gates columns of `z`. -/
def gated (o : FVec Ideal ⟨2, ![n, 384]⟩ .f32) (z : FVec Ideal ⟨2, ![n, 2816]⟩ .f32) (hs : (⟨2, ![n, 2816]⟩ : Shape).Slices ![0, 2304] ⟨2, ![n, 384]⟩)
    (h1 h2 : (⟨0, ![]⟩ : Shape).BroadcastsInDim ⟨2, ![n, 384]⟩ ![]) : FVec Ideal ⟨2, ![n, 384]⟩ .f32 :=
  let s : FVec Ideal ⟨2, ![n, 384]⟩ .f32 := extractStridedSlice ⟨2, ![n, 384]⟩ ![0, 2304] z hs
  mulf o (mulf s (Host.divf (broadcastInDim ⟨2, ![n, 384]⟩ ![] h2 (constant (F := Ideal) ⟨0, ![]⟩ .f32 0x3F800000#32))
    (addf (broadcastInDim ⟨2, ![n, 384]⟩ ![] h1 (constant (F := Ideal) ⟨0, ![]⟩ .f32 0x3F800000#32)) (Host.exp (Host.negf s)))))

theorem gated_apply (o : FVec Ideal ⟨2, ![n, 384]⟩ .f32) (z : FVec Ideal ⟨2, ![n, 2816]⟩ .f32) (hs h1 h2) (i : Fin n) (k : Fin 384) :
    gated o z hs h1 h2 (ix2 i k) = o (ix2 i k) * silu (z (ix2 i (⟨2304 + k.val, by omega⟩ : Fin 2816))) := by
  have e : extractStridedSlice ⟨2, ![n, 384]⟩ ![0, 2304] z hs (ix2 i k) = z (ix2 i (⟨2304 + k.val, by omega⟩ : Fin 2816)) :=
    congrArg z (funext fun a => Fin.ext (by
      match a with
      | ⟨0, _⟩ => exact Nat.zero_add _
      | ⟨1, _⟩ => rfl))
  rw [← e]
  refine congrArg ((o (ix2 i k) : EReal) * ·) (congrArg (_ * ·) ?_)
  exact congrArg₂ Ideal.div one_word (congrArg (· + _) one_word)

/-- The three mixers' outputs side by side: the piece whose first column is `p`, at its column `k`. -/
theorem mix {m : ℕ} (a : FVec Ideal ⟨2, ![n, 256]⟩ .f32) (b o : FVec Ideal ⟨2, ![n, 384]⟩ .f32)
    (hc : Shape.Concatenates [(⟨2, ![n, 256]⟩ : Shape), ⟨2, ![n, 384]⟩, ⟨2, ![n, 384]⟩] ⟨2, ![n, 1024]⟩ 1)
    (i : Fin n) (q p : ℕ) (hq : q < 3) (x : (⟨2, ![n, m]⟩ : Shape).Idx → EReal) (k : Fin m) (h : p + k.val < 1024)
    (hx : ([⟨⟨2, ![n, 256]⟩, a⟩, ⟨⟨2, ![n, 384]⟩, b⟩, ⟨⟨2, ![n, 384]⟩, o⟩] : List ((s : Shape) × (s.Idx → EReal)))[q] = ⟨⟨2, ![n, m]⟩, x⟩)
    (hp : ((([⟨⟨2, ![n, 256]⟩, a⟩, ⟨⟨2, ![n, 384]⟩, b⟩, ⟨⟨2, ![n, 384]⟩, o⟩] : List ((s : Shape) × (s.Idx → EReal))).take q).map (·.1)
      |>.map fun s => if h : s.rank = (⟨2, ![n, 1024]⟩ : Shape).rank then s.size ((1 : Fin 2).cast h.symm) else 0).sum = p) :
    concatenate ⟨2, ![n, 1024]⟩ 1 ([⟨⟨2, ![n, 256]⟩, a⟩, ⟨⟨2, ![n, 384]⟩, b⟩, ⟨⟨2, ![n, 384]⟩, o⟩] : List ((s : Shape) × (s.Idx → EReal))) hc
      (ix2 i (⟨p + k.val, h⟩ : Fin 1024)) = x (ix2 i k) := by
  refine concatenate_apply_piece (t := ⟨2, ![n, 1024]⟩) 1 [⟨⟨2, ![n, 256]⟩, a⟩, ⟨⟨2, ![n, 384]⟩, b⟩, ⟨⟨2, ![n, 384]⟩, o⟩] hc _ q hq _ x hx rfl p hp _ (fun b hb => ?_) rfl
  match b with
  | ⟨0, _⟩ => rfl
  | ⟨1, _⟩ => exact absurd rfl hb

/-- A sum over the 1024 columns, mixer by mixer. -/
theorem sum_split (f : Fin 1024 → EReal) :
    ∑ k, f k = ∑ k : Fin 256, f ⟨k.val, by omega⟩ + ∑ k : Fin 384, f ⟨256 + k.val, by omega⟩ + ∑ k : Fin 384, f ⟨640 + k.val, by omega⟩ := by
  refine (Fin.sum_univ_add (a := 256 + 384) (b := 384) f).trans (congrArg₂ (· + ·) ?_ rfl)
  exact Fin.sum_univ_add (a := 256) (b := 384) fun k => f (Fin.castAdd 384 k)

/-- The host's row after the projection. -/
theorem host_mixed (x : FVec Ideal ⟨2, ![n, 1024]⟩ .f32) (a : FVec Ideal ⟨2, ![n, 256]⟩ .f32) (b o : FVec Ideal ⟨2, ![n, 384]⟩ .f32)
    (z : FVec Ideal ⟨2, ![n, 2816]⟩ .f32) (w : FVec Ideal ⟨2, ![1024, 1024]⟩ .f32) (hs h1 h2)
    (hc : Shape.Concatenates [(⟨2, ![n, 256]⟩ : Shape), ⟨2, ![n, 384]⟩, ⟨2, ![n, 384]⟩] ⟨2, ![n, 1024]⟩ 1) (i : Fin n) (j : Fin 1024) :
    addf x (Host.dotGeneral (φ₁ := .f32) (DotDims.plain n 1024 1024) none (concatenate ⟨2, ![n, 1024]⟩ 1
        ([⟨⟨2, ![n, 256]⟩, a⟩, ⟨⟨2, ![n, 384]⟩, b⟩, ⟨⟨2, ![n, 384]⟩, gated o z hs h1 h2⟩] : List ((s : Shape) × (s.Idx → EReal))) hc) w) (ix2 i j)
      = mixed (fun k => x (ix2 i k)) (fun k => a (ix2 i k)) (fun k => b (ix2 i k)) (fun k => o (ix2 i k))
          (fun k => z (ix2 i (⟨2304 + k.val, by omega⟩ : Fin 2816))) (fun k j => w (ix2 k j)) j := by
  refine congrArg ((x (ix2 i j) : EReal) + ·) ?_
  refine (Idealize.ShloMosaic.StackMember.dotGeneral_plain_apply none _ w i j).trans ((sum_split _).trans (congrArg₂ (· + ·) (congrArg₂ (· + ·) ?_ ?_) ?_))
  · refine Finset.sum_congr rfl fun k _ => congrArg (· * (_ : EReal)) ?_
    exact Eq.trans (congrArg _ (congrArg (ix2 i) (Fin.ext (Nat.zero_add _).symm))) (mix a b _ hc i 0 0 (by decide) a k (by omega) rfl rfl)
  · exact Finset.sum_congr rfl fun k _ => congrArg (· * (_ : EReal)) (mix a b _ hc i 1 256 (by decide) b k (by omega) rfl rfl)
  · exact Finset.sum_congr rfl fun k _ => congrArg (· * (_ : EReal)) ((mix a b _ hc i 2 640 (by decide) _ k (by omega) rfl rfl).trans (gated_apply o z hs h1 h2 i k))

end Cert.Mixers

end
-- ==== Proof.OutProj.lean ====
/- The output projection's arrays: the residual stream plus the mixers' outputs times the weight matrix, and its RMS norm. -/
module

public import proofs.«01_k».proof.Proof.Gen.Kernel3Ideal.Value
public import proofs.«01_k».proof.Proof.Mixers
public import Idealize.ShloMosaic.Lib.Pipeline.ValueKit.Geometry
public import Idealize.ShloMosaic.Lib.Pipeline.ValueKit.Acc

@[expose] public section

noncomputable section

namespace Cert.Kernel3Ideal.Proj

open Cert.Kernel3Ideal Cert.Kernel3Ideal.Gen
open Idealize.ShloMosaic Idealize.ShloMosaic.ValueIdx Idealize.ShloMosaic.TcCoe
open Cert.Rms Cert.Mixers
open scoped BigOperators

section
variable (o z : Vec Ideal S512x384 .f32) (a : Vec Ideal S512x256 .f32) (wa : Vec Ideal S256x1024 .bf16) (b : Vec Ideal S512x384 .f32)
  (wb wc : Vec Ideal S384x1024 .bf16) (x : Vec Ideal S512x1024 .f32)

/-- One block of the first output. -/
theorem pay_x (i : Fin 512) (j : Fin 1024) :
    k0_pay2 o z a wa b wb wc x (ix2 i j) = x (ix2 i j) + (∑ k : Fin 256, a (ix2 i k) * wa (ix2 k j) + ∑ k : Fin 384, b (ix2 i k) * wb (ix2 k j)
      + ∑ k : Fin 384, o (ix2 i k) * silu (z (ix2 i k)) * wc (ix2 k j)) := by
  unfold k0_pay2
  exact congrArg ((x (ix2 i j) : EReal) + ·) (congrArg₂ (· + ·)
    (congrArg₂ (· + ·) (matmul_apply (φ := .bf16) _ wa i j) (matmul_apply (φ := .bf16) _ wb i j)) (matmul_apply (φ := .bf16) _ wc i j))

/-- One block of the second output: its rows' norms. -/
theorem pay_n (g : Vec Ideal S1x1024 .f32) (i : Fin 512) (j : Fin 1024) :
    k0_pay1 (k0_pay2 o z a wa b wb wc x) (k0_pay3 g) (k0_pay4 o z a wa b wb wc x) (ix2 i j)
      = norm (fun k => k0_pay2 o z a wa b wb wc x (ix2 i k)) (fun k => g (ix2 (0 : Fin 1) k)) j := by
  unfold k0_pay1 k0_pay4 k0_pay3
  generalize k0_pay2 o z a wa b wb wc x = y
  refine (norm_apply y _ _ _ _ i j (scale_apply y _ _ _ _ i)).trans ?_
  refine congrArg (fun g => norm (fun k => y (ix2 i k)) g j) (funext fun k => ?_)
  exact shapeCast_apply g _ _ _ rfl
end

variable (m : (ℓ : Loc nD τ sig) → Buf (Elt Ideal) ℓ) (c : Dev nD)

/-- The arguments. -/
abbrev xA : S16384x1024.Idx → EReal := m ((c : Thread nD τ).loc main_arg0)
abbrev aA : S16384x256.Idx → EReal := m ((c : Thread nD τ).loc main_arg1)
abbrev bA : S16384x384.Idx → EReal := m ((c : Thread nD τ).loc main_arg2)
abbrev oA : S16384x384.Idx → EReal := m ((c : Thread nD τ).loc main_arg3)
abbrev zA : S16384x2816.Idx → EReal := m ((c : Thread nD τ).loc main_arg4)
abbrev wA : S1024x1024.Idx → EReal := m ((c : Thread nD τ).loc main_arg5)
abbrev gA : S1024.Idx → EReal := m ((c : Thread nD τ).loc main_arg6)

/-- The first output's row `i`: the gates are columns 2304 to 2687 of `z`. -/
def row (i : Fin 16384) : Fin 1024 → EReal :=
  mixed (fun k => xA m c (ix2 i k)) (fun k => aA m c (ix2 i k)) (fun k => bA m c (ix2 i k)) (fun k => oA m c (ix2 i k))
    (fun k => zA m c (ix2 i (⟨2304 + k.val, by omega⟩ : Fin 2816))) (fun k j => wA m c (ix2 k j))

/-- The output arrays. -/
def outX : S16384x1024.Idx → EReal := fun y => row m c (y 0) (y 1)
def outN : S16384x1024.Idx → EReal := fun y => norm (row m c (y 0)) (fun k => gA m c (ix1 k)) (y 1)

/-- The weights of the norm reach the call as a one-row matrix. -/
theorem g_row (k : Fin 1024) : V m c main_v0 (ix2 (0 : Fin 1) k) = gA m c (ix1 k) := by
  have e : V m c main_v0 = shapeCast S1x1024 (gA m c) shapeCasts_S1024_S1x1024 := by rfl
  rw [e]
  exact shapeCast_apply _ _ _ (ix1 k) (by rw [Shape.rowMajor_val_one, Shape.rowMajor_val_two]; show k.val = 0 * 1024 + k.val; omega)

/-- Where the blocks lie. -/
theorem at0 : ∀ t : Fin cfg0.N, win0_0.index t = ![t.val, 0] := (by decide +kernel : ∀ t : Fin grid0.N, win0_0.index t = ![t.val, 0])
theorem at1 : ∀ t : Fin cfg0.N, win0_1.index t = ![t.val, 0] := (by decide +kernel : ∀ t : Fin grid0.N, win0_1.index t = ![t.val, 0])
theorem at2 : ∀ t : Fin cfg0.N, win0_2.index t = ![t.val, 0] := (by decide +kernel : ∀ t : Fin grid0.N, win0_2.index t = ![t.val, 0])
theorem at3 : ∀ t : Fin cfg0.N, win0_3.index t = ![t.val, 0] := (by decide +kernel : ∀ t : Fin grid0.N, win0_3.index t = ![t.val, 0])
theorem at4 : ∀ t : Fin cfg0.N, win0_4.index t = ![t.val, 6] := (by decide +kernel : ∀ t : Fin grid0.N, win0_4.index t = ![t.val, 6])
theorem at5 : ∀ t : Fin cfg0.N, win0_5.index t = ![0, 0] := (by decide +kernel : ∀ t : Fin grid0.N, win0_5.index t = ![0, 0])
theorem at6 : ∀ t : Fin cfg0.N, win0_6.index t = ![0, 0] := (by decide +kernel : ∀ t : Fin grid0.N, win0_6.index t = ![0, 0])
theorem at7 : ∀ t : Fin cfg0.N, win0_7.index t = ![t.val, 0] := (by decide +kernel : ∀ t : Fin grid0.N, win0_7.index t = ![t.val, 0])
theorem at8 : ∀ t : Fin cfg0.N, win0_8.index t = ![t.val, 0] := (by decide +kernel : ∀ t : Fin grid0.N, win0_8.index t = ![t.val, 0])

theorem row_lt (t : Fin cfg0.N) (i : Fin 512) : 512 * t.val + i.val < 16384 := by
  have : t.val < 32 := t.isLt
  omega
/-- The row of the arrays that is row `i` of block `t`. -/
abbrev at_ (t : Fin cfg0.N) (i : Fin 512) : Fin 16384 := ⟨512 * t.val + i.val, row_lt t i⟩

/-- The blocks at their places. -/
theorem x_blk (t : Fin cfg0.N) (i : Fin 512) (k : Fin 1024) : iblk m c 0 t (ix2 i k) = xA m c (ix2 (at_ t i) k) := by
  blk_simp [iblk]
  rw [V_main_arg0]
  refine congrArg (xA m c) ?_
  blk_ext [at0]
  show t.val * 512 + i.val = 512 * t.val + i.val; omega
theorem a_blk (t : Fin cfg0.N) (i : Fin 512) (k : Fin 256) : iblk m c 1 t (ix2 i k) = aA m c (ix2 (at_ t i) k) := by
  blk_simp [iblk]
  rw [V_main_arg1]
  refine congrArg (aA m c) ?_
  blk_ext [at1]
  show t.val * 512 + i.val = 512 * t.val + i.val; omega
theorem b_blk (t : Fin cfg0.N) (i : Fin 512) (k : Fin 384) : iblk m c 2 t (ix2 i k) = bA m c (ix2 (at_ t i) k) := by
  blk_simp [iblk]
  rw [V_main_arg2]
  refine congrArg (bA m c) ?_
  blk_ext [at2]
  show t.val * 512 + i.val = 512 * t.val + i.val; omega
theorem o_blk (t : Fin cfg0.N) (i : Fin 512) (k : Fin 384) : iblk m c 3 t (ix2 i k) = oA m c (ix2 (at_ t i) k) := by
  blk_simp [iblk]
  rw [V_main_arg3]
  refine congrArg (oA m c) ?_
  blk_ext [at3]
  show t.val * 512 + i.val = 512 * t.val + i.val; omega
theorem z_blk (t : Fin cfg0.N) (i : Fin 512) (k : Fin 384) : X0_4 m c t (ix2 i k) = zA m c (ix2 (at_ t i) (⟨2304 + k.val, by omega⟩ : Fin 2816)) := by
  unfold X0_4 Pipeline.Window.fill
  rw [dif_pos (moved0_4 t _)]
  blk_simp [iblk]
  rw [V_main_arg4]
  refine congrArg (zA m c) ?_
  blk_ext [at4]
  · show t.val * 512 + i.val = 512 * t.val + i.val; omega
theorem w_blk (t : Fin cfg0.N) (k : Fin 1024) (j : Fin 1024) : iblk m c 5 t (ix2 k j) = wA m c (ix2 k j) := by
  blk_simp [iblk]
  rw [V_main_arg5]
  refine congrArg (wA m c) ?_
  blk_ext [at5]
theorem g_blk (t : Fin cfg0.N) (k : Fin 1024) : iblk m c 6 t (ix2 (0 : Fin 1) k) = gA m c (ix1 k) := by
  rw [← g_row]
  blk_simp [iblk]
  refine congrArg (V m c main_v0) ?_
  blk_ext [at6]

/-- The matrix's rows from `p` on, as the body loads them. -/
theorem w_ld (t : Fin cfg0.N) {n : ℕ} (p : ℕ) (inb : ∀ a, (![p, 0] : Fin 2 → ℕ) a + (![n, 1024] : Fin 2 → ℕ) a ≤ S1024x1024.size a) (k : Fin n) (j : Fin 1024)
    (h : p + k.val < 1024) :
    View.ld (Val := Elt Ideal) (S := S1024x1024) (e' := .bf16) (iblk m c 5 t) (Rect.unit (s := S1024x1024) ![p, 0] ![n, 1024] inb) (ix2 k j)
      = wA m c (ix2 (⟨p + k.val, h⟩ : Fin 1024) j) := by
  rw [← w_blk m c t]
  refine congrArg (iblk m c 5 t) (funext fun b => Fin.ext ?_)
  match b with
  | ⟨0, _⟩ => show p + 1 * k.val = p + k.val; omega
  | ⟨1, _⟩ => show 0 + 1 * j.val = j.val; omega

/-- The first output's block at point `t` over the arrays. -/
theorem row_blk (t : Fin cfg0.N) (i : Fin 512) (j : Fin 1024) :
    k0_pay2 (iblk m c 3 t) (X0_4 m c t) (iblk m c 1 t)
      (View.ld (iblk m c 5 t) (Rect.unit ![0, 0] ![256, 1024] inb_S1024x1024_S256x1024_0_0)) (iblk m c 2 t)
      (View.ld (iblk m c 5 t) (Rect.unit ![256, 0] ![384, 1024] inb_S1024x1024_S384x1024_256_0))
      (View.ld (iblk m c 5 t) (Rect.unit ![640, 0] ![384, 1024] inb_S1024x1024_S384x1024_640_0)) (iblk m c 0 t) (ix2 i j)
      = row m c (at_ t i) j := by
  refine (pay_x _ _ _ _ _ _ _ _ i j).trans ?_
  unfold row mixed
  refine congrArg₂ (· + ·) (x_blk m c t i j) (congrArg₂ (· + ·) (congrArg₂ (· + ·) ?_ ?_) ?_)
  · refine Finset.sum_congr rfl fun k _ => congrArg₂ (· * ·) (a_blk m c t i k) ((w_ld m c t 0 _ k j (by omega)).trans ?_)
    exact congrArg (wA m c) (congrArg (ix2 · j) (Fin.ext (by show 0 + k.val = k.val; omega)))
  · exact Finset.sum_congr rfl fun k _ => congrArg₂ (· * ·) (b_blk m c t i k) (w_ld m c t 256 _ k j (by omega))
  · exact Finset.sum_congr rfl fun k _ => congrArg₂ (· * ·) (congrArg₂ (· * ·) (o_blk m c t i k) (congrArg silu (z_blk m c t i k))) (w_ld m c t 640 _ k j (by omega))

/-- An index of a block from its coordinates. -/
theorem split (y : S512x1024.Idx) : ∃ (i : Fin 512) (j : Fin 1024), y = ix2 i j :=
  ⟨y 0, y 1, funext fun b => by match b with | ⟨0, _⟩ => rfl | ⟨1, _⟩ => rfl⟩

theorem outX_eq : (dats m 0 c).arrAt 7 cfg0.N = outX m c := by
  refine (dats m 0 c).arrAt_eq_of_covers 7 _ (by decide +kernel) fun t hf y => ?_
  blk_simp
  rw [after0_7]
  unfold outsAt0
  frame_out
  obtain ⟨i, j, rfl⟩ := split y
  have e : ((View.whole main_v1_0).slice (win0_7.rect t)).emb (ix2 i j) = ix2 (at_ t i) j := by
    blk_ext [at7]
    show t.val * 512 + i.val = 512 * t.val + i.val; omega
  rw [e]
  exact row_blk m c t i j

theorem outN_eq : (dats m 0 c).arrAt 8 cfg0.N = outN m c := by
  refine (dats m 0 c).arrAt_eq_of_covers 8 _ (by decide +kernel) fun t hf y => ?_
  blk_simp
  rw [after0_8]
  unfold outsAt0
  frame_out
  obtain ⟨i, j, rfl⟩ := split y
  have e : ((View.whole main_v1_1).slice (win0_8.rect t)).emb (ix2 i j) = ix2 (at_ t i) j := by
    blk_ext [at8]
    show t.val * 512 + i.val = 512 * t.val + i.val; omega
  rw [e]
  refine (pay_n _ _ _ _ _ _ _ _ _ i j).trans ?_
  exact congrArg₂ (fun r g => norm r g j) (funext fun k => row_blk m c t i k) (funext fun k => g_blk m c t k)

end Cert.Kernel3Ideal.Proj

end
-- ==== Proof.OutProjRef.lean ====
/- The reference's output projection, element by element, and its agreement with the kernel's. -/
module

public import proofs.«01_k».proof.Proof.Gen.Reference3Ideal.Read
public import proofs.«01_k».proof.Proof.OutProj

@[expose] public section

noncomputable section

namespace Cert.Reference3Ideal.Proj

open Cert.Reference3Ideal Cert.Reference3Ideal.Gen Cert.Reference3Ideal.Read
open Idealize.ShloMosaic Idealize.ShloMosaic.ValueIdx
open Cert.Rms
open Cert.Mixers
open scoped BigOperators

variable (x0 : S16384x1024.Idx → EReal) (x1 : S16384x256.Idx → EReal) (x2 x3 : S16384x384.Idx → EReal) (x4 : S16384x2816.Idx → EReal)
  (x5 : S1024x1024.Idx → EReal) (x6 : S1024.Idx → EReal)

/-- A row of the first output. -/
theorem row_eq (i : Fin 16384) (j : Fin 1024) :
    val_main_v6 (F := Ideal) x0 x1 x2 x3 x4 x5 (ix2 i j) = mixed (fun k => x0 (ix2 i k)) (fun k => x1 (ix2 i k)) (fun k => x2 (ix2 i k))
      (fun k => x3 (ix2 i k)) (fun k => x4 (ix2 i (⟨2304 + k.val, by omega⟩ : Fin 2816))) (fun k j => x5 (ix2 k j)) j :=
  Cert.Mixers.host_mixed x0 x1 x2 x3 x4 _ _ _ _ _ i j

/-- The second output is the norm of the first. -/
theorem norm_eq (i : Fin 16384) (j : Fin 1024) :
    val_main_v19 (F := Ideal) x0 x1 x2 x3 x4 x5 x6 (ix2 i j) = norm (fun k => val_main_v6 (F := Ideal) x0 x1 x2 x3 x4 x5 (ix2 i k)) (fun k => x6 (ix1 k)) j :=
  host_norm_apply (val_main_v6 (F := Ideal) x0 x1 x2 x3 x4 x5) (val_main_v14 (F := Ideal) x0 x1 x2 x3 x4 x5) x6 _ _ _ i j (host_scale_apply _ _ _ _ _ _ i)

/-- An index from its coordinates. -/
theorem split (y : S16384x1024.Idx) : ∃ (i : Fin 16384) (j : Fin 1024), y = ix2 i j :=
  ⟨y 0, y 1, funext fun b => by match b with | ⟨0, _⟩ => rfl | ⟨1, _⟩ => rfl⟩

open Cert.Kernel3Ideal.Proj (xA aA bA oA zA wA gA outX outN)

variable (m : (ℓ : Loc Cert.Kernel3Ideal.nD Cert.Kernel3Ideal.τ Cert.Kernel3Ideal.sig) → Buf (Elt Ideal) ℓ) (c : Dev Cert.Kernel3Ideal.nD)

/-- The output arrays agree. -/
theorem same_x : val_main_v6 (F := Ideal) (xA m c) (aA m c) (bA m c) (oA m c) (zA m c) (wA m c) = outX m c := by
  funext y
  obtain ⟨i, j, rfl⟩ := split y
  exact row_eq (xA m c) (aA m c) (bA m c) (oA m c) (zA m c) (wA m c) i j
theorem same_n : val_main_v19 (F := Ideal) (xA m c) (aA m c) (bA m c) (oA m c) (zA m c) (wA m c) (gA m c) = outN m c := by
  funext y
  obtain ⟨i, j, rfl⟩ := split y
  refine (norm_eq (xA m c) (aA m c) (bA m c) (oA m c) (zA m c) (wA m c) (gA m c) i j).trans ?_
  exact congrArg (fun r => norm r _ j) (funext fun k => row_eq (xA m c) (aA m c) (bA m c) (oA m c) (zA m c) (wA m c) i k)

end Cert.Reference3Ideal.Proj

end
-- ==== Proof.Rope.lean ====
/- The rotary embedding of a row, as the kernel computes it over 128 lanes by two rotations of the lanes, and as its plain form. -/
module

public import proofs.«01_k».proof.Proof.Rms
public import Idealize.ShloMosaic.Lib.KernelVsHost

@[expose] public section

noncomputable section

namespace Cert.Rope

open Idealize.ShloMosaic Idealize.ShloMosaic.ValueIdx
open scoped BigOperators

/-- The sixteen frequencies: powers of ten thousand. -/
def freqs (h h' : (⟨0, ![]⟩ : Shape).BroadcastsInDim ⟨1, ![16]⟩ ![]) : FVec Ideal ⟨1, ![16]⟩ .f32 :=
  Host.powf (broadcastInDim ⟨1, ![16]⟩ ![] h (constant (F := Ideal) ⟨0, ![]⟩ .f32 0x461C4000#32))
    (Host.divf (Host.negf (sitofp .f32 (iotaInDim ⟨1, ![16]⟩ 32 0))) (broadcastInDim ⟨1, ![16]⟩ ![] h' (constant (F := Ideal) ⟨0, ![]⟩ .f32 0x41800000#32)))
def freq (j : Fin 16) : EReal := freqs (by decide) (by decide) (ix1 j)

/-- The cosine and the sine of a position's angle. -/
def cs (p : EReal) (j : Fin 16) : EReal := FloatOps.hostUnary (F := Ideal) (φ := .f32) .cos (p * freq j)
def sn (p : EReal) (j : Fin 16) : EReal := FloatOps.hostUnary (F := Ideal) (φ := .f32) .sin (p * freq j)

/-- The rotary embedding of 32 places at position `p`. -/
def turn (x : Fin 32 → EReal) (p : EReal) (j : Fin 32) : EReal :=
  if h : j.val < 16 then x j * cs p ⟨j.val, h⟩ - x ⟨j.val + 16, by omega⟩ * sn p ⟨j.val, h⟩
  else x ⟨j.val - 16, by omega⟩ * sn p ⟨j.val - 16, by omega⟩ + x j * cs p ⟨j.val - 16, by omega⟩

/-- The tables' 32 places: the cosines twice, and the sines, the first half negated. -/
def c32 (p : EReal) (j : Fin 32) : EReal := if h : j.val < 16 then cs p ⟨j.val, h⟩ else cs p ⟨j.val - 16, by omega⟩
def s32 (p : EReal) (j : Fin 32) : EReal := if h : j.val < 16 then -sn p ⟨j.val, h⟩ else sn p ⟨j.val - 16, by omega⟩

/-- A row of the queries' tables: 64 places that do not turn, 32 that do, and zeros. -/
def qc (p : EReal) (j : Fin 128) : EReal := if j.val < 64 then 1 else if h : j.val < 96 then c32 p ⟨j.val - 64, by omega⟩ else 0
def qs (p : EReal) (j : Fin 128) : EReal := if j.val < 64 then 0 else if h : j.val < 96 then s32 p ⟨j.val - 64, by omega⟩ else 0
/-- A row of the keys' tables: 32 places and zeros. -/
def kc (p : EReal) (j : Fin 128) : EReal := if h : j.val < 32 then c32 p ⟨j.val, h⟩ else 0
def ks (p : EReal) (j : Fin 128) : EReal := if h : j.val < 32 then s32 p ⟨j.val, h⟩ else 0

/-- What the kernel does with a row: the place times the first table, and the place 16 away in its group of 32, times the second. -/
def rot (x c s : Fin 128 → EReal) (j : Fin 128) : EReal :=
  x j * c j + (if j.val % 32 < 16 then x ⟨(j.val + 16) % 128, by omega⟩ else x ⟨(j.val + 112) % 128, by omega⟩) * s j

/-- With a place's two table entries the turned place. -/
theorem turn_eq (x : Fin 32 → EReal) (p : EReal) (j : Fin 32) :
    x j * c32 p j + (if h : j.val < 16 then x ⟨j.val + 16, by omega⟩ else x ⟨j.val - 16, by omega⟩) * s32 p j = turn x p j := by
  unfold turn c32 s32
  by_cases h : j.val < 16
  · simp only [dif_pos h]
    rw [mul_neg, ← sub_eq_add_neg]
  · simp only [dif_neg h]
    exact add_comm _ _

/-- A head's row after the turn: 64 places as they were, 32 turned, and zeros. -/
def head (x : Fin 128 → EReal) (p : EReal) (j : Fin 128) : EReal :=
  if j.val < 64 then x j else if h : j.val < 96 then turn (fun k => x ⟨64 + k.val, by omega⟩) p ⟨j.val - 64, by omega⟩ else 0
/-- A key's row after the turn: 32 places turned, and zeros. -/
def key (x : Fin 128 → EReal) (p : EReal) (j : Fin 128) : EReal :=
  if h : j.val < 32 then turn (fun k => x ⟨k.val, by omega⟩) p ⟨j.val, h⟩ else 0

theorem rot_q (x : Fin 128 → EReal) (p : EReal) (j : Fin 128) : rot x (qc p) (qs p) j = head x p j := by
  unfold rot qc qs head
  by_cases h : j.val < 64
  · simp only [if_pos h]
    rw [mul_one, mul_zero, add_zero]
  by_cases h' : j.val < 96
  · simp only [if_neg h, dif_pos h']
    rw [← turn_eq]
    refine congrArg₂ (· + ·) (congrArg (· * _) (congrArg x (Fin.ext (by show j.val = 64 + (j.val - 64); omega)))) (congrArg (· * _) ?_)
    by_cases g : j.val - 64 < 16
    · rw [if_pos (show j.val % 32 < 16 by omega), dif_pos g]
      exact congrArg x (Fin.ext (by show (j.val + 16) % 128 = 64 + (j.val - 64 + 16); omega))
    · rw [if_neg (show ¬j.val % 32 < 16 by omega), dif_neg g]
      exact congrArg x (Fin.ext (by show (j.val + 112) % 128 = 64 + (j.val - 64 - 16); omega))
  · simp only [if_neg h, dif_neg h']
    rw [mul_zero, mul_zero, add_zero]

theorem rot_k (x : Fin 128 → EReal) (p : EReal) (j : Fin 128) : rot x (kc p) (ks p) j = key x p j := by
  unfold rot kc ks key
  by_cases h : j.val < 32
  · simp only [dif_pos h]
    rw [← turn_eq]
    refine congrArg₂ (· + ·) rfl (congrArg (· * _) ?_)
    by_cases g : j.val < 16
    · rw [if_pos (show j.val % 32 < 16 by omega), dif_pos g]
      exact congrArg x (Fin.ext (by show (j.val + 16) % 128 = j.val + 16; omega))
    · rw [if_neg (show ¬j.val % 32 < 16 by omega), dif_neg g]
      exact congrArg x (Fin.ext (by show (j.val + 112) % 128 = j.val - 16; omega))
  · simp only [dif_neg h]
    rw [mul_zero, mul_zero, add_zero]

/-- The lanes in the first half of their group of 32, as the kernel finds them: a remainder made nonnegative, compared with 16. -/
def lanes (hi : (⟨2, ![512, 128]⟩ : Shape).Iotas .tc 32 [1]) (hb : (⟨2, ![512, 128]⟩ : Shape).Broadcasts ⟨2, ![512, 128]⟩) : IVec ⟨2, ![512, 128]⟩ 1 :=
  let w : BitVec 32 := Scalar.select (Scalar.cmpi .eq 32#32 0#32) 1#32 32#32
  let r : IVec ⟨2, ![512, 128]⟩ 32 := remsi (iota .tc ⟨2, ![512, 128]⟩ 32 [1] hi) (broadcast ⟨2, ![512, 128]⟩ w)
  cmpi .slt (select (andi (xori (cmpi .slt r (broadcast ⟨2, ![512, 128]⟩ 0#32)) (broadcastTo ⟨2, ![512, 128]⟩ (broadcast ⟨2, ![512, 128]⟩ (Scalar.cmpi .slt w 0#32)) hb))
    (cmpi .ne r (broadcast ⟨2, ![512, 128]⟩ 0#32))) (addi r (broadcast ⟨2, ![512, 128]⟩ w)) r) (broadcast ⟨2, ![512, 128]⟩ 16#32)

/-- One lane's word. -/
theorem lane_word : ∀ j : Fin 128,
    let w : BitVec 32 := Scalar.select (Scalar.cmpi .eq 32#32 0#32) 1#32 32#32
    let r : BitVec 32 := IntOp.remsi .vector (BitVec.ofNat 32 (0 * 128 + j.val)) w
    IntOp.cmpi .slt (Scalar.select (IntOp.andi (IntOp.xori (IntOp.cmpi .slt r 0#32) (Scalar.cmpi .slt w 0#32)) (IntOp.cmpi .ne r 0#32)) (IntOp.addi r w) r) 16#32
      = if j.val % 32 < 16 then 1#1 else 0#1 := by
  decide +kernel

theorem lanes_apply (hi hb) (i : Fin 512) (j : Fin 128) : lanes hi hb (ix2 i j) = if j.val % 32 < 16 then 1#1 else 0#1 := by
  rw [← lane_word]
  rfl

/-- The turn of a block of rows. -/
def turnBlock (x c s : FVec Ideal ⟨2, ![512, 128]⟩ .f32) (hi : (⟨2, ![512, 128]⟩ : Shape).Iotas .tc 32 [1]) (hb : (⟨2, ![512, 128]⟩ : Shape).Broadcasts ⟨2, ![512, 128]⟩) (hr : (⟨2, ![512, 128]⟩ : Shape).Rotates 1 none) : FVec Ideal ⟨2, ![512, 128]⟩ .f32 :=
  addf (mulf x c) (mulf (select (lanes hi hb) (dynamicRotate 1 112#32 none x hr) (dynamicRotate 1 16#32 none x hr)) s)

theorem turnBlock_apply (x c s : FVec Ideal ⟨2, ![512, 128]⟩ .f32) (hi hb hr) (i : Fin 512) (j : Fin 128) :
    turnBlock x c s hi hb hr (ix2 i j) = rot (fun k => x (ix2 i k)) (fun k => c (ix2 i k)) (fun k => s (ix2 i k)) j := by
  refine congrArg (_ + ·) (congrArg (· * (s (ix2 i j) : EReal)) ?_)
  show (if lanes hi hb (ix2 i j) = 1#1 then _ else _) = _
  rw [lanes_apply]
  by_cases h : j.val % 32 < 16
  · rw [if_pos h, if_pos h, if_pos rfl]
    refine dynamicRotate_apply 1 112#32 x hr (ix2 i j) (ix2 i ⟨(j.val + 16) % 128, by omega⟩) fun b => ?_
    match b with
    | ⟨0, _⟩ => rfl
    | ⟨1, _⟩ => show (j.val + 16) % 128 = (j.val + 128 - 112 % 128) % 128; omega
  · rw [if_neg h, if_neg h, if_neg (by decide)]
    refine dynamicRotate_apply 1 16#32 x hr (ix2 i j) (ix2 i ⟨(j.val + 112) % 128, by omega⟩) fun b => ?_
    match b with
    | ⟨0, _⟩ => rfl
    | ⟨1, _⟩ => show (j.val + 112) % 128 = (j.val + 128 - 16 % 128) % 128; omega

/-- A head's columns, from column `o` on, turned and scaled. -/
def headBlock (q : FVec Ideal ⟨2, ![512, 768]⟩ .f32) (o : ℕ) (hs : (⟨2, ![512, 768]⟩ : Shape).Slices ![0, o] ⟨2, ![512, 128]⟩)
    (c s : FVec Ideal ⟨2, ![512, 128]⟩ .f32) (hi : (⟨2, ![512, 128]⟩ : Shape).Iotas .tc 32 [1]) (hb : (⟨2, ![512, 128]⟩ : Shape).Broadcasts ⟨2, ![512, 128]⟩) (hr : (⟨2, ![512, 128]⟩ : Shape).Rotates 1 none) : FVec Ideal ⟨2, ![512, 128]⟩ .f32 :=
  mulf (turnBlock (extractStridedSlice ⟨2, ![512, 128]⟩ ![0, o] q hs) c s hi hb hr) (broadcast ⟨2, ![512, 128]⟩ (Scalar.ofBits (F := Ideal) .f32 0x3DD105EC#32))

/-- The scale of the scores. -/
def w96 : EReal := Ideal.ofBits .f32 0x3DD105EC#32

/-- Six heads in a row of 768, each turned and scaled. -/
def heads (x : Fin 768 → EReal) (p : EReal) (h : Fin 6) (j : Fin 128) : EReal := head (fun k => x ⟨128 * h.val + k.val, by omega⟩) p j * w96

/-- The last 32 places of a head are zeros, and a sum over a head is one over the others. -/
theorem sum_heads (x : Fin 768 → EReal) (p : EReal) (h : Fin 6) (f : Fin 128 → EReal) :
    ∑ l, heads x p h l * f l = ∑ l : Fin 96, heads x p h ⟨l.val, by omega⟩ * f ⟨l.val, by omega⟩ := by
  refine (Fin.sum_univ_add (a := 96) (b := 32) fun l => heads x p h l * f l).trans ?_
  rw [Finset.sum_eq_zero (s := Finset.univ) (f := fun i : Fin 32 => _), add_zero]
  · rfl
  · intro l _
    have e : heads x p h (Fin.natAdd 96 l) = 0 := by
      unfold heads head
      rw [if_neg (show ¬((Fin.natAdd 96 l).val < 64) by rw [Fin.val_natAdd]; omega), dif_neg (show ¬((Fin.natAdd 96 l).val < 96) by rw [Fin.val_natAdd]; omega), zero_mul]
    rw [e, zero_mul]

theorem headBlock_apply (q : FVec Ideal ⟨2, ![512, 768]⟩ .f32) (h : Fin 6) (o : ℕ) (ho : o = 128 * h.val) (hs c s hi hb hr) (i : Fin 512) (j : Fin 128) (p : EReal)
    (hc : ∀ k, c (ix2 i k) = qc p k) (hsn : ∀ k, s (ix2 i k) = qs p k) :
    headBlock q o hs c s hi hb hr (ix2 i j) = heads (fun k => q (ix2 i k)) p h j := by
  subst ho
  refine congrArg (· * w96) ?_
  refine (turnBlock_apply _ c s hi hb hr i j).trans ?_
  rw [show (fun k => c (ix2 i k)) = qc p from funext hc, show (fun k => s (ix2 i k)) = qs p from funext hsn, rot_q]
  refine congrArg (head · p j) (funext fun k => congrArg q (funext fun a => Fin.ext (by
    match a with
    | ⟨0, _⟩ => exact Nat.zero_add _
    | ⟨1, _⟩ => rfl)))

end Cert.Rope

end
-- ==== Proof.Tables.lean ====
/- The rotary tables as the host computes them from the positions, entry by entry. -/
module

public import proofs.«01_k».proof.Proof.Rope

@[expose] public section

noncomputable section

namespace Cert.Rope

open Idealize.ShloMosaic Idealize.ShloMosaic.ValueIdx

/-- The side conditions of the tables' operations over `n` positions. -/
structure Fits (n : ℕ) : Prop where
  b0 : (⟨0, ![]⟩ : Shape).BroadcastsInDim ⟨1, ![16]⟩ ![]
  b1 : (⟨1, ![n]⟩ : Shape).BroadcastsInDim ⟨2, ![n, 1]⟩ ![0]
  b2 : (⟨1, ![16]⟩ : Shape).BroadcastsInDim ⟨2, ![1, 16]⟩ ![1]
  b3 : (⟨2, ![n, 1]⟩ : Shape).BroadcastsInDim ⟨2, ![n, 16]⟩ ![0, 1]
  b4 : (⟨2, ![1, 16]⟩ : Shape).BroadcastsInDim ⟨2, ![n, 16]⟩ ![0, 1]
  b5 : (⟨0, ![]⟩ : Shape).BroadcastsInDim ⟨2, ![n, 64]⟩ ![]
  b6 : (⟨0, ![]⟩ : Shape).BroadcastsInDim ⟨2, ![n, 32]⟩ ![]
  c2 : Shape.Concatenates [⟨2, ![n, 16]⟩, ⟨2, ![n, 16]⟩] ⟨2, ![n, 32]⟩ 1
  c3 : Shape.Concatenates [⟨2, ![n, 64]⟩, ⟨2, ![n, 32]⟩, ⟨2, ![n, 32]⟩] ⟨2, ![n, 128]⟩ 1
  pd : (⟨2, ![n, 32]⟩ : Shape).Pads ![0, 0] ![0, 96] ![0, 0] ⟨2, ![n, 128]⟩
  ne : 0 < (⟨0, ![]⟩ : Shape).numel

variable {n : ℕ} (F : Fits n) (p : FVec Ideal ⟨1, ![n]⟩ .f32)

/-- Every position times every frequency. -/
def angles : FVec Ideal ⟨2, ![n, 16]⟩ .f32 :=
  mulf (broadcastInDim ⟨2, ![n, 16]⟩ ![0, 1] F.b3 (broadcastInDim ⟨2, ![n, 1]⟩ ![0] F.b1 p))
    (broadcastInDim ⟨2, ![n, 16]⟩ ![0, 1] F.b4 (broadcastInDim ⟨2, ![1, 16]⟩ ![1] F.b2 (freqs F.b0 F.b0)))

/-- Two blocks of 16 columns side by side. -/
def pair (x y : FVec Ideal ⟨2, ![n, 16]⟩ .f32) : FVec Ideal ⟨2, ![n, 32]⟩ .f32 :=
  concatenate ⟨2, ![n, 32]⟩ 1 [⟨⟨2, ![n, 16]⟩, x⟩, ⟨⟨2, ![n, 16]⟩, y⟩] F.c2

/-- A block of 32 columns between 64 columns of one word and 32 of zeros. -/
def wide (w : BitVec 32) (x : FVec Ideal ⟨2, ![n, 32]⟩ .f32) : FVec Ideal ⟨2, ![n, 128]⟩ .f32 :=
  concatenate ⟨2, ![n, 128]⟩ 1 [⟨⟨2, ![n, 64]⟩, broadcastInDim ⟨2, ![n, 64]⟩ ![] F.b5 (constant (F := Ideal) ⟨0, ![]⟩ .f32 w)⟩, ⟨⟨2, ![n, 32]⟩, x⟩,
    ⟨⟨2, ![n, 32]⟩, broadcastInDim ⟨2, ![n, 32]⟩ ![] F.b6 (constant (F := Ideal) ⟨0, ![]⟩ .f32 0x00000000#32)⟩] F.c3

/-- A block of 32 columns before 96 of zeros. -/
def long (x : FVec Ideal ⟨2, ![n, 32]⟩ .f32) : FVec Ideal ⟨2, ![n, 128]⟩ .f32 :=
  pad ⟨2, ![n, 128]⟩ ![0, 0] ![0, 96] ![0, 0] x (sitofp (F := Ideal) .f32 (constantI ⟨0, ![]⟩ 32 0#32)) F.pd F.ne

/-- The cosines twice; the sines, the first half negated. -/
def cosT : FVec Ideal ⟨2, ![n, 32]⟩ .f32 := pair F (Host.cos (angles F p)) (Host.cos (angles F p))
def sinT : FVec Ideal ⟨2, ![n, 32]⟩ .f32 := pair F (Host.negf (Host.sin (angles F p))) (Host.sin (angles F p))

theorem angles_apply (i : Fin n) (j : Fin 16) : angles F p (ix2 i j) = (p (ix1 i) : EReal) * freq j := by
  refine congrArg₂ (· * ·) ?_ ?_
  · refine (broadcastInDim_apply _ F.b3 _ _ (ix2 i (0 : Fin 1)) (fun a => by
      match a with
      | ⟨0, _⟩ => show i.val = if n = 1 then 0 else i.val; have := i.isLt; split_ifs <;> omega
      | ⟨1, _⟩ => rfl)).trans ?_
    exact broadcastInDim_apply _ F.b1 p _ (ix1 i) (fun a => by
      match a with
      | ⟨0, _⟩ => show i.val = if n = 1 then 0 else i.val; have := i.isLt; split_ifs <;> omega)
  · refine (broadcastInDim_apply _ F.b4 _ _ (ix2 (0 : Fin 1) j) (fun a => by
      match a with
      | ⟨0, _⟩ => rfl
      | ⟨1, _⟩ => rfl)).trans ?_
    exact broadcastInDim_apply _ F.b2 _ _ (ix1 j) (fun a => by
      match a with
      | ⟨0, _⟩ => rfl)

theorem pair_apply (x y : FVec Ideal ⟨2, ![n, 16]⟩ .f32) (i : Fin n) (j : Fin 32) :
    pair F x y (ix2 i j) = if h : j.val < 16 then x (ix2 i ⟨j.val, h⟩) else y (ix2 i ⟨j.val - 16, by omega⟩) := by
  have o : ∀ (k : Fin 16) (b : Fin 2), b ≠ 1 → (ix2 i k b).val = (ix2 i j b).val := fun k b hb => by
    match b with
    | ⟨0, _⟩ => rfl
    | ⟨1, _⟩ => exact absurd rfl hb
  by_cases h : j.val < 16
  · rw [dif_pos h]
    exact concatenate_apply_piece (t := ⟨2, ![n, 32]⟩) 1 [⟨⟨2, ![n, 16]⟩, x⟩, ⟨⟨2, ![n, 16]⟩, y⟩] F.c2 _ 0 (Nat.succ_pos _) _ x rfl rfl 0 rfl _ (o _) (Nat.zero_add _)
  · rw [dif_neg h]
    exact concatenate_apply_piece (t := ⟨2, ![n, 32]⟩) 1 [⟨⟨2, ![n, 16]⟩, x⟩, ⟨⟨2, ![n, 16]⟩, y⟩] F.c2 _ 1 (Nat.succ_lt_succ (Nat.succ_pos _)) _ y rfl rfl 16 rfl _ (o _)
      (by show 16 + (j.val - 16) = j.val; omega)

theorem zero_word : (Ideal.ofBits .f32 0x00000000#32 : EReal) = 0 := by simp [Ideal.ofBits, Ideal.ieee]

theorem wide_apply (w : BitVec 32) (x : FVec Ideal ⟨2, ![n, 32]⟩ .f32) (i : Fin n) (j : Fin 128) :
    wide F w x (ix2 i j) = if j.val < 64 then Ideal.ofBits .f32 w else if h : j.val < 96 then x (ix2 i ⟨j.val - 64, by omega⟩) else 0 := by
  have o : ∀ {d : ℕ} (k : Fin d) (b : Fin 2), b ≠ 1 → (ix2 i k b).val = (ix2 i j b).val := fun k b hb => by
    match b with
    | ⟨0, _⟩ => rfl
    | ⟨1, _⟩ => exact absurd rfl hb
  by_cases h : j.val < 64
  · rw [if_pos h]
    exact concatenate_apply_piece (t := ⟨2, ![n, 128]⟩) 1 [⟨⟨2, ![n, 64]⟩, _⟩, ⟨⟨2, ![n, 32]⟩, _⟩, ⟨⟨2, ![n, 32]⟩, _⟩] F.c3 _ 0 (Nat.succ_pos _) _
      (broadcastInDim ⟨2, ![n, 64]⟩ ![] F.b5 (constant (F := Ideal) ⟨0, ![]⟩ .f32 w)) rfl rfl 0 rfl
      (ix2 i (⟨j.val, h⟩ : Fin 64)) (o _) (Nat.zero_add _)
  by_cases h' : j.val < 96
  · rw [if_neg h, dif_pos h']
    exact concatenate_apply_piece (t := ⟨2, ![n, 128]⟩) 1 [⟨⟨2, ![n, 64]⟩, _⟩, ⟨⟨2, ![n, 32]⟩, _⟩, ⟨⟨2, ![n, 32]⟩, _⟩] F.c3 _ 1 (Nat.succ_lt_succ (Nat.succ_pos _)) _ x rfl rfl 64 rfl _ (o _)
      (by show 64 + (j.val - 64) = j.val; omega)
  · rw [if_neg h, dif_neg h']
    refine (concatenate_apply_piece (t := ⟨2, ![n, 128]⟩) 1 [⟨⟨2, ![n, 64]⟩, _⟩, ⟨⟨2, ![n, 32]⟩, _⟩, ⟨⟨2, ![n, 32]⟩, _⟩] F.c3 _ 2 (Nat.succ_lt_succ (Nat.succ_lt_succ (Nat.succ_pos _))) _
      (broadcastInDim ⟨2, ![n, 32]⟩ ![] F.b6 (constant (F := Ideal) ⟨0, ![]⟩ .f32 0x00000000#32)) rfl rfl 96 rfl (ix2 i (⟨j.val - 96, by omega⟩ : Fin 32)) (o _)
      (by show 96 + (j.val - 96) = j.val; omega)).trans zero_word

theorem long_apply (x : FVec Ideal ⟨2, ![n, 32]⟩ .f32) (i : Fin n) (j : Fin 128) :
    long F x (ix2 i j) = if h : j.val < 32 then x (ix2 i ⟨j.val, h⟩) else 0 := by
  by_cases h : j.val < 32
  · rw [dif_pos h]
    exact pad_apply_of_inside _ _ _ x _ F.pd F.ne _ (ix2 i ⟨j.val, h⟩) fun a => by
      match a with
      | ⟨0, _⟩ => show i.val = 0 + i.val * (0 + 1); omega
      | ⟨1, _⟩ => show j.val = 0 + j.val * (0 + 1); omega
  · rw [dif_neg h]
    refine (pad_apply_of_not_inside _ _ _ x _ F.pd F.ne _ 1 fun hh => h ?_).trans ?_
    · have := hh.2.2
      have e : (j.val - 0) / (0 + 1) < 32 := this
      omega
    · show ((((0#32).toInt : ℤ) : ℝ) : EReal) = 0
      simp

/-- The tables' rows. -/
theorem cosT_apply (i : Fin n) (j : Fin 32) : cosT F p (ix2 i j) = c32 (p (ix1 i)) j := by
  refine (pair_apply F _ _ i j).trans ?_
  unfold c32
  by_cases h : j.val < 16
  · rw [dif_pos h, dif_pos h]; exact congrArg _ (angles_apply F p i _)
  · rw [dif_neg h, dif_neg h]; exact congrArg _ (angles_apply F p i _)
theorem sinT_apply (i : Fin n) (j : Fin 32) : sinT F p (ix2 i j) = s32 (p (ix1 i)) j := by
  refine (pair_apply F _ _ i j).trans ?_
  unfold s32
  by_cases h : j.val < 16
  · rw [dif_pos h, dif_pos h]; exact congrArg (fun a => -(FloatOps.hostUnary (F := Ideal) (φ := .f32) .sin a : EReal)) (angles_apply F p i _)
  · rw [dif_neg h, dif_neg h]; exact congrArg _ (angles_apply F p i _)

theorem one_word : (Ideal.ofBits .f32 0x3F800000#32 : EReal) = 1 := by
  simp [Ideal.ofBits, Ideal.ieee]
  rw [← EReal.coe_mul]; norm_num

theorem qc_apply (i : Fin n) (j : Fin 128) : wide F 0x3F800000#32 (cosT F p) (ix2 i j) = qc (p (ix1 i)) j := by
  rw [wide_apply, one_word]; simp only [cosT_apply]; rfl
theorem qs_apply (i : Fin n) (j : Fin 128) : wide F 0x00000000#32 (sinT F p) (ix2 i j) = qs (p (ix1 i)) j := by
  rw [wide_apply, zero_word]; simp only [sinT_apply]; rfl
theorem kc_apply (i : Fin n) (j : Fin 128) : long F (cosT F p) (ix2 i j) = kc (p (ix1 i)) j := by
  rw [long_apply]; simp only [cosT_apply]; rfl
theorem ks_apply (i : Fin n) (j : Fin 128) : long F (sinT F p) (ix2 i j) = ks (p (ix1 i)) j := by
  rw [long_apply]; simp only [sinT_apply]; rfl

end Cert.Rope

end
-- ==== Proof.PrepSample.lean ====
/- The samples' queries and latents, as the kernel computes them from the projected samples. -/
module

public import proofs.«01_k».proof.Proof.Gen.Kernel4Ideal.Value
public import proofs.«01_k».proof.Proof.Tables
public import Idealize.ShloMosaic.Lib.Pipeline.ValueKit.Geometry
public import Idealize.ShloMosaic.Lib.Pipeline.ValueKit.Acc

@[expose] public section

noncomputable section

namespace Cert.Kernel4Ideal.Prep

open Cert.Kernel4Ideal Cert.Kernel4Ideal.Gen
open Idealize.ShloMosaic Idealize.ShloMosaic.ValueIdx Idealize.ShloMosaic.TcCoe
open Cert.Rms Cert.Rope
open scoped BigOperators

/-- The queries of a block, heads side by side: the rows' norms times the matrix. -/
theorem pay_q (x : Vec Ideal S512x256 .f32) (g : Vec Ideal S1x256 .f32) (w : Vec Ideal S256x768 .bf16) (i : Fin 512) (j : Fin 768) :
    k0_pay2 x g w (ix2 i j) = ∑ k : Fin 256, norm256 (fun k => x (ix2 i k)) (fun k => g (ix2 (0 : Fin 1) k)) k * w (ix2 k j) := by
  unfold k0_pay2
  refine (matmul_apply (φ := .bf16) _ w i j).trans (Finset.sum_congr rfl fun k _ => congrArg (· * (w (ix2 k j) : EReal)) ?_)
  refine (norm_apply x _ _ _ _ i k (scale_apply x _ _ _ _ i)).trans ?_
  exact congrArg (fun g => norm256 (fun k => x (ix2 i k)) g k) (funext fun k => shapeCast_apply g _ _ _ rfl)

/-- The latents of a block. -/
theorem pay_c (x : Vec Ideal S512x256 .f32) (g : Vec Ideal S1x256 .f32) (i : Fin 512) (j : Fin 256) :
    k0_pay29 x g (ix2 i j) = norm256 (fun k => x (ix2 i k)) (fun k => g (ix2 (0 : Fin 1) k)) j := by
  unfold k0_pay29
  refine (norm_apply x _ _ _ _ i j (scale_apply x _ _ _ _ i)).trans ?_
  exact congrArg (fun g => norm256 (fun k => x (ix2 i k)) g j) (funext fun k => shapeCast_apply g _ _ _ rfl)

/-- The turned keys of a block, zeros after 32 places. -/
theorem pay_kr (x c s : Vec Ideal S512x128 .f32) (i : Fin 512) (j : Fin 128) (p : EReal) (hc : ∀ k, c (ix2 i k) = kc p k) (hs : ∀ k, s (ix2 i k) = ks p k) :
    turnBlock x (k0_pay30 c) (k0_pay31 s) iota_S512x128_d1_w32 broadcasts_S512x128_S512x128 rotates_S512x128_d1 (ix2 i j) = key (fun k => x (ix2 i k)) p j := by
  refine (turnBlock_apply x _ _ _ _ _ i j).trans ?_
  rw [show (fun k => k0_pay30 c (ix2 i k)) = kc p from funext fun k => (shapeCast_apply c _ _ _ rfl).trans (hc k),
    show (fun k => k0_pay31 s (ix2 i k)) = ks p from funext fun k => (shapeCast_apply s _ _ _ rfl).trans (hs k), rot_k]

theorem pay_k32 (x c s : Vec Ideal S512x128 .f32) (i : Fin 512) (j : Fin 32) (p : EReal) (hc : ∀ k, c (ix2 i k) = kc p k) (hs : ∀ k, s (ix2 i k) = ks p k) :
    k0_pay32 x (k0_pay30 c) (k0_pay31 s) (iota .tc S512x128 32 [1] iota_S512x128_d1_w32) 112#32 (ix2 i j) = turn (fun k => x (ix2 i (⟨k.val, by omega⟩ : Fin 128))) p j := by
  show extractStridedSlice S512x32 ![0, 0] (turnBlock x (k0_pay30 c) (k0_pay31 s) iota_S512x128_d1_w32 broadcasts_S512x128_S512x128 rotates_S512x128_d1)
    slices_S512x128_o0_0_S512x32 (ix2 i j) = _
  refine (extractStridedSlice_apply _ _ _ (ix2 i j) (ix2 i (⟨j.val, by omega⟩ : Fin 128)) fun a => by
    match a with
    | ⟨0, _⟩ => exact (Nat.zero_add _).symm
    | ⟨1, _⟩ => exact (Nat.zero_add _).symm).trans ?_
  exact (pay_kr x c s i _ p hc hs).trans (dif_pos j.isLt)

/-- One head's rows times its matrix. -/
theorem pay_a (v : FVec Ideal S512x128 .f32) (w : Vec Ideal S1x128x384 .bf16) (i : Fin 512) (j : Fin 384) :
    k0_pay33 v w (ix2 i j) = ∑ l : Fin 128, (v (ix2 i l) : EReal) * w (ix3 (0 : Fin 1) l j) := by
  unfold k0_pay33
  refine (matmul_apply (φ := .bf16) _ _ i j).trans (Finset.sum_congr rfl fun l _ => congrArg ((v (ix2 i l) : EReal) * ·) ?_)
  exact shapeCast_apply w _ _ (ix3 (0 : Fin 1) l j) (by
    rw [Shape.rowMajor_val_three, Shape.rowMajor_val_two]; show (0 * 128 + l.val) * 384 + j.val = l.val * 384 + j.val; omega)

variable (m : (ℓ : Loc nD τ sig) → Buf (Elt Ideal) ℓ) (c : Dev nD)

/-- The arguments. -/
abbrev zA : S1024x2816.Idx → EReal := m ((c : Thread nD τ).loc main_arg0)
abbrev qA : S256.Idx → EReal := m ((c : Thread nD τ).loc main_arg1)
abbrev kA : S256.Idx → EReal := m ((c : Thread nD τ).loc main_arg2)
abbrev wA : S256x768.Idx → EReal := m ((c : Thread nD τ).loc main_arg3)
abbrev aA : S6x128x384.Idx → EReal := m ((c : Thread nD τ).loc main_arg4)

/-- The eight positions of a sample, and the position of a row. -/
def p8 : FVec Ideal S8 .f32 := addf (broadcastInDim S8 ![] bcast_S_S8 (constant (F := Ideal) S_ .f32 0x46800000#32)) (sitofp .f32 (iotaInDim S8 32 0))
def pos (r : Fin 1024) : EReal := p8 (ix1 (⟨r.val % 8, by omega⟩ : Fin 8))

/-- A row's queries before the turn. -/
def qrow (r : Fin 1024) (j : Fin 768) : EReal :=
  ∑ k : Fin 256, norm256 (fun k => zA m c (ix2 r (⟨1024 + k.val, by omega⟩ : Fin 2816))) (fun k => qA m c (ix1 k)) k * wA m c (ix2 k j)

/-- The output arrays. -/
def outC : S1024x256.Idx → EReal := fun y => norm256 (fun k => zA m c (ix2 (y 0) (⟨1280 + k.val, by omega⟩ : Fin 2816))) (fun k => kA m c (ix1 k)) (y 1)
def outK : S1024x32.Idx → EReal := fun y => turn (fun k => zA m c (ix2 (y 0) (⟨2688 + k.val, by omega⟩ : Fin 2816))) (pos (y 0)) (y 1)
def outQ : S1024x2304.Idx → EReal := fun y =>
  ∑ l : Fin 128, heads (qrow m c (y 0)) (pos (y 0)) ⟨(y 1).val / 384, Nat.div_lt_of_lt_mul (y 1).isLt⟩ l
    * aA m c (ix3 (⟨(y 1).val / 384, Nat.div_lt_of_lt_mul (y 1).isLt⟩ : Fin 6) l (⟨(y 1).val % 384, Nat.mod_lt _ (by decide)⟩ : Fin 384))

/-- The weights of the norms reach the call as one-row matrices. -/
theorem q_row (k : Fin 256) : V m c main_v47 (ix2 (0 : Fin 1) k) = qA m c (ix1 k) := by
  have e : V m c main_v47 = shapeCast S1x256 (qA m c) shapeCasts_S256_S1x256 := by rfl
  rw [e]
  exact shapeCast_apply _ _ _ (ix1 k) (by rw [Shape.rowMajor_val_one, Shape.rowMajor_val_two]; show k.val = 0 * 256 + k.val; omega)
theorem k_row (k : Fin 256) : V m c main_v48 (ix2 (0 : Fin 1) k) = kA m c (ix1 k) := by
  have e : V m c main_v48 = shapeCast S1x256 (kA m c) shapeCasts_S256_S1x256 := by rfl
  rw [e]
  exact shapeCast_apply _ _ _ (ix1 k) (by rw [Shape.rowMajor_val_one, Shape.rowMajor_val_two]; show k.val = 0 * 256 + k.val; omega)

theorem fits : Fits 8 := ⟨bcast_S_S16, bcast_S8_S8x1_0, bcast_S16_S1x16_1, bcast_S8x1_S8x16_0_1, bcast_S1x16_S8x16_0_1, bcast_S_S8x64, bcast_S_S8x32,
  concatenates_S8x16_S8x16_S8x32_d1, concatenates_S8x64_S8x32_S8x32_S8x128_d1, by decide, by decide⟩

/-- A table of eight rows repeated for every sample. -/
def tile (x : FVec Ideal S8x128 .f32) : FVec Ideal S1024x128 .f32 :=
  shapeCast S1024x128 (broadcastInDim S128x8x1x128 ![0, 1, 2, 3] bcast_S1x8x1x128_S128x8x1x128_0_1_2_3 (shapeCast S1x8x1x128 x shapeCasts_S8x128_S1x8x1x128)) shapeCasts_S128x8x1x128_S1024x128

theorem tile_apply (x : FVec Ideal S8x128 .f32) (r : Fin 1024) (j : Fin 128) : tile x (ix2 r j) = x (ix2 (⟨r.val % 8, by omega⟩ : Fin 8) j) := by
  refine (shapeCast_apply _ _ _ (ix4 (⟨r.val / 8, by omega⟩ : Fin 128) (⟨r.val % 8, by omega⟩ : Fin 8) (0 : Fin 1) j) (by
    rw [Shape.rowMajor_val_four, Shape.rowMajor_val_two]
    show ((r.val / 8 * 8 + r.val % 8) * 1 + 0) * 128 + j.val = r.val * 128 + j.val; omega)).trans ?_
  refine (broadcastInDim_apply _ _ _ _ (ix4 (0 : Fin 1) (⟨r.val % 8, by omega⟩ : Fin 8) (0 : Fin 1) j) (fun a => by
    match a with
    | ⟨0, _⟩ => rfl
    | ⟨1, _⟩ => rfl
    | ⟨2, _⟩ => rfl
    | ⟨3, _⟩ => rfl)).trans ?_
  exact shapeCast_apply x _ _ (ix2 (⟨r.val % 8, by omega⟩ : Fin 8) j) (by
    rw [Shape.rowMajor_val_four, Shape.rowMajor_val_two]
    show r.val % 8 * 128 + j.val = ((0 * 8 + r.val % 8) * 1 + 0) * 128 + j.val; omega)

/-- The four tables' rows. -/
theorem qc_row (r : Fin 1024) (j : Fin 128) : V m c main_v37 (ix2 r j) = qc (pos r) j := by
  rw [show V m c main_v37 = tile (wide fits 0x3F800000#32 (cosT fits p8)) by rfl, tile_apply, qc_apply]; rfl
theorem qs_row (r : Fin 1024) (j : Fin 128) : V m c main_v40 (ix2 r j) = qs (pos r) j := by
  rw [show V m c main_v40 = tile (wide fits 0x00000000#32 (sinT fits p8)) by rfl, tile_apply, qs_apply]; rfl
theorem kc_row (r : Fin 1024) (j : Fin 128) : V m c main_v43 (ix2 r j) = kc (pos r) j := by
  rw [show V m c main_v43 = tile (long fits (cosT fits p8)) by rfl, tile_apply, kc_apply]; rfl
theorem ks_row (r : Fin 1024) (j : Fin 128) : V m c main_v46 (ix2 r j) = ks (pos r) j := by
  rw [show V m c main_v46 = tile (long fits (sinT fits p8)) by rfl, tile_apply, ks_apply]; rfl

/-- Where the blocks lie. -/
theorem at0 : ∀ t : Fin cfg0.N, win0_0.index t = ![t.val, 4] := (by decide +kernel : ∀ t : Fin grid0.N, win0_0.index t = ![t.val, 4])
theorem at1 : ∀ t : Fin cfg0.N, win0_1.index t = ![t.val, 5] := (by decide +kernel : ∀ t : Fin grid0.N, win0_1.index t = ![t.val, 5])
theorem at2 : ∀ t : Fin cfg0.N, win0_2.index t = ![t.val, 21] := (by decide +kernel : ∀ t : Fin grid0.N, win0_2.index t = ![t.val, 21])
theorem at3 : ∀ t : Fin cfg0.N, win0_3.index t = ![0, 0] := (by decide +kernel : ∀ t : Fin grid0.N, win0_3.index t = ![0, 0])
theorem at4 : ∀ t : Fin cfg0.N, win0_4.index t = ![0, 0] := (by decide +kernel : ∀ t : Fin grid0.N, win0_4.index t = ![0, 0])
theorem at5 : ∀ t : Fin cfg0.N, win0_5.index t = ![0, 0] := (by decide +kernel : ∀ t : Fin grid0.N, win0_5.index t = ![0, 0])
theorem at6 : ∀ t : Fin cfg0.N, win0_6.index t = ![t.val, 0] := (by decide +kernel : ∀ t : Fin grid0.N, win0_6.index t = ![t.val, 0])
theorem at7 : ∀ t : Fin cfg0.N, win0_7.index t = ![t.val, 0] := (by decide +kernel : ∀ t : Fin grid0.N, win0_7.index t = ![t.val, 0])
theorem at8 : ∀ t : Fin cfg0.N, win0_8.index t = ![t.val, 0] := (by decide +kernel : ∀ t : Fin grid0.N, win0_8.index t = ![t.val, 0])
theorem at9 : ∀ t : Fin cfg0.N, win0_9.index t = ![t.val, 0] := (by decide +kernel : ∀ t : Fin grid0.N, win0_9.index t = ![t.val, 0])
theorem at10 : ∀ t : Fin cfg0.N, win0_10.index t = ![0, 0, 0] := (by decide +kernel : ∀ t : Fin grid0.N, win0_10.index t = ![0, 0, 0])
theorem at11 : ∀ t : Fin cfg0.N, win0_11.index t = ![t.val, 0] := (by decide +kernel : ∀ t : Fin grid0.N, win0_11.index t = ![t.val, 0])
theorem at12 : ∀ t : Fin cfg0.N, win0_12.index t = ![t.val, 0] := (by decide +kernel : ∀ t : Fin grid0.N, win0_12.index t = ![t.val, 0])
theorem at13 : ∀ t : Fin cfg0.N, win0_13.index t = ![t.val, 0] := (by decide +kernel : ∀ t : Fin grid0.N, win0_13.index t = ![t.val, 0])

theorem row_lt (t : Fin cfg0.N) (i : Fin 512) : 512 * t.val + i.val < 1024 := by
  have : t.val < 2 := t.isLt
  omega
/-- The row of the arrays that is row `i` of block `t`. -/
abbrev at_ (t : Fin cfg0.N) (i : Fin 512) : Fin 1024 := ⟨512 * t.val + i.val, row_lt t i⟩

/-- The blocks at their places. -/
theorem xq_blk (t : Fin cfg0.N) (i : Fin 512) (k : Fin 256) : iblk m c 0 t (ix2 i k) = zA m c (ix2 (at_ t i) (⟨1024 + k.val, by omega⟩ : Fin 2816)) := by
  blk_simp [iblk]
  rw [V_main_arg0]
  refine congrArg (zA m c) ?_
  blk_ext [at0]
  show t.val * 512 + i.val = 512 * t.val + i.val; omega
theorem xc_blk (t : Fin cfg0.N) (i : Fin 512) (k : Fin 256) : iblk m c 1 t (ix2 i k) = zA m c (ix2 (at_ t i) (⟨1280 + k.val, by omega⟩ : Fin 2816)) := by
  blk_simp [iblk]
  rw [V_main_arg0]
  refine congrArg (zA m c) ?_
  blk_ext [at1]
  show t.val * 512 + i.val = 512 * t.val + i.val; omega
theorem xk_blk (t : Fin cfg0.N) (i : Fin 512) (k : Fin 128) : iblk m c 2 t (ix2 i k) = zA m c (ix2 (at_ t i) (⟨2688 + k.val, by omega⟩ : Fin 2816)) := by
  blk_simp [iblk]
  rw [V_main_arg0]
  refine congrArg (zA m c) ?_
  blk_ext [at2]
  show t.val * 512 + i.val = 512 * t.val + i.val; omega
theorem gq_blk (t : Fin cfg0.N) (k : Fin 256) : iblk m c 3 t (ix2 (0 : Fin 1) k) = qA m c (ix1 k) := by
  rw [← q_row]
  blk_simp [iblk]
  refine congrArg (V m c main_v47) ?_
  blk_ext [at3]
theorem gk_blk (t : Fin cfg0.N) (k : Fin 256) : iblk m c 4 t (ix2 (0 : Fin 1) k) = kA m c (ix1 k) := by
  rw [← k_row]
  blk_simp [iblk]
  refine congrArg (V m c main_v48) ?_
  blk_ext [at4]
theorem w_blk (t : Fin cfg0.N) (k : Fin 256) (j : Fin 768) : iblk m c 5 t (ix2 k j) = wA m c (ix2 k j) := by
  blk_simp [iblk]
  rw [V_main_arg3]
  refine congrArg (wA m c) ?_
  blk_ext [at5]
theorem qc_blk (t : Fin cfg0.N) (i : Fin 512) (k : Fin 128) : iblk m c 6 t (ix2 i k) = qc (pos (at_ t i)) k := by
  rw [← qc_row m c]
  blk_simp [iblk]
  refine congrArg (V m c main_v37) ?_
  blk_ext [at6]
  show t.val * 512 + i.val = 512 * t.val + i.val; omega
theorem qs_blk (t : Fin cfg0.N) (i : Fin 512) (k : Fin 128) : iblk m c 7 t (ix2 i k) = qs (pos (at_ t i)) k := by
  rw [← qs_row m c]
  blk_simp [iblk]
  refine congrArg (V m c main_v40) ?_
  blk_ext [at7]
  show t.val * 512 + i.val = 512 * t.val + i.val; omega
theorem kc_blk (t : Fin cfg0.N) (i : Fin 512) (k : Fin 128) : iblk m c 8 t (ix2 i k) = kc (pos (at_ t i)) k := by
  rw [← kc_row m c]
  blk_simp [iblk]
  refine congrArg (V m c main_v43) ?_
  blk_ext [at8]
  show t.val * 512 + i.val = 512 * t.val + i.val; omega
theorem ks_blk (t : Fin cfg0.N) (i : Fin 512) (k : Fin 128) : iblk m c 9 t (ix2 i k) = ks (pos (at_ t i)) k := by
  rw [← ks_row m c]
  blk_simp [iblk]
  refine congrArg (V m c main_v46) ?_
  blk_ext [at9]
  show t.val * 512 + i.val = 512 * t.val + i.val; omega
theorem a_blk (t : Fin cfg0.N) (h : Fin 6) (l : Fin 128) (j : Fin 384) : iblk m c 10 t (ix3 h l j) = aA m c (ix3 h l j) := by
  blk_simp [iblk]
  rw [V_main_arg4]
  refine congrArg (aA m c) ?_
  blk_ext [at10]

/-- A head's matrix, as the body loads it. -/
theorem a_ld (t : Fin cfg0.N) (h : Fin 6) (inb : ∀ a, (![h.val, 0, 0] : Fin 3 → ℕ) a + S1x128x384.size a ≤ S6x128x384.size a) (l : Fin 128) (j : Fin 384) :
    View.ld (Val := Elt Ideal) (S := S6x128x384) (e' := .bf16) (iblk m c 10 t) (Rect.unit (s := S6x128x384) ![h.val, 0, 0] S1x128x384.size inb) (ix3 (0 : Fin 1) l j)
      = aA m c (ix3 h l j) := by
  rw [← a_blk m c t]
  refine congrArg (iblk m c 10 t) (funext fun b => Fin.ext ?_)
  match b with
  | ⟨0, _⟩ => show h.val + 1 * 0 = h.val; omega
  | ⟨1, _⟩ => show 0 + 1 * l.val = l.val; omega
  | ⟨2, _⟩ => show 0 + 1 * j.val = j.val; omega

/-- The shared values of the six heads. -/
abbrev Qb (t : Fin cfg0.N) : FVec Ideal S512x768 .f32 :=
  k0_pay2 (View.ld (Val := Elt Ideal) (iblk m c 0 t) r0_0) (View.ld (Val := Elt Ideal) (iblk m c 3 t) r0_1) (View.ld (Val := Elt Ideal) (iblk m c 5 t) r0_2)
abbrev Cb (t : Fin cfg0.N) : FVec Ideal S512x128 .f32 := k0_pay3 (View.ld (Val := Elt Ideal) (iblk m c 6 t) r0_3)
abbrev Sb (t : Fin cfg0.N) : FVec Ideal S512x128 .f32 := k0_pay4 (View.ld (Val := Elt Ideal) (iblk m c 7 t) r0_3)

theorem z2 : (![0, 0] : Fin 2 → ℕ) = fun _ => 0 := funext fun a => by match a with | ⟨0, _⟩ => rfl | ⟨1, _⟩ => rfl

theorem Qb_apply (t : Fin cfg0.N) (i : Fin 512) (j : Fin 768) : Qb m c t (ix2 i j) = qrow m c (at_ t i) j := by
  unfold Qb
  rw [show View.ld (Val := Elt Ideal) (iblk m c 0 t) r0_0 = iblk m c 0 t from View.ld_unit_zero z2 _ _,
    show View.ld (Val := Elt Ideal) (iblk m c 3 t) r0_1 = iblk m c 3 t from View.ld_unit_zero z2 _ _,
    show View.ld (Val := Elt Ideal) (iblk m c 5 t) r0_2 = iblk m c 5 t from View.ld_unit_zero z2 _ _]
  refine (pay_q _ _ _ i j).trans ?_
  simp only [xq_blk, gq_blk, w_blk]
  rfl
theorem Cb_apply (t : Fin cfg0.N) (i : Fin 512) (j : Fin 128) : Cb m c t (ix2 i j) = qc (pos (at_ t i)) j := by
  unfold Cb
  rw [show View.ld (Val := Elt Ideal) (iblk m c 6 t) r0_3 = iblk m c 6 t from View.ld_unit_zero z2 _ _]
  exact (shapeCast_apply _ _ _ _ rfl).trans (qc_blk m c t i j)
theorem Sb_apply (t : Fin cfg0.N) (i : Fin 512) (j : Fin 128) : Sb m c t (ix2 i j) = qs (pos (at_ t i)) j := by
  unfold Sb
  rw [show View.ld (Val := Elt Ideal) (iblk m c 7 t) r0_3 = iblk m c 7 t from View.ld_unit_zero z2 _ _]
  exact (shapeCast_apply _ _ _ _ rfl).trans (qs_blk m c t i j)

/-- What the queries' block at point `t` holds. -/
def G (t : Fin cfg0.N) : S512x2304.Idx → EReal := fun y => outQ m c (ix2 (at_ t (y 0)) (y 1))

/-- One head's store: its rows are turned, scaled and multiplied by its matrix. -/
theorem head_store (t : Fin cfg0.N) (h : Fin 6) (o p : ℕ) (ho : o = 128 * h.val) (hp : p = 384 * h.val) (hs : S512x768.Slices ![0, o] S512x128)
    (inb : ∀ a, (![h.val, 0, 0] : Fin 3 → ℕ) a + S1x128x384.size a ≤ S6x128x384.size a)
    (inp : ∀ a, (![0, p] : Fin 2 → ℕ) a + S512x384.size a ≤ S512x2304.size a) (x : S512x384.Idx) :
    k0_pay33 (headBlock (Qb m c t) o hs (Cb m c t) (Sb m c t) iota_S512x128_d1_w32 broadcasts_S512x128_S512x128 rotates_S512x128_d1)
        (View.ld (Val := Elt Ideal) (S := S6x128x384) (e' := .bf16) (iblk m c 10 t) (Rect.unit (s := S6x128x384) ![h.val, 0, 0] S1x128x384.size inb)) x
      = G m c t ((Rect.unit (s := S512x2304) ![0, p] S512x384.size inp).emb x) := by
  obtain ⟨i, j, rfl⟩ : ∃ (i : Fin 512) (j : Fin 384), x = ix2 i j := ⟨x 0, x 1, funext fun b => by match b with | ⟨0, _⟩ => rfl | ⟨1, _⟩ => rfl⟩
  have e : (Rect.unit (s := S512x2304) ![0, p] S512x384.size inp).emb (ix2 i j) = ix2 i (⟨384 * h.val + j.val, by omega⟩ : Fin 2304) := by
    subst hp
    refine funext fun b => Fin.ext ?_
    match b with
    | ⟨0, _⟩ => show 0 + 1 * i.val = i.val; omega
    | ⟨1, _⟩ => show 384 * h.val + 1 * j.val = 384 * h.val + j.val; omega
  rw [e]
  have e1 : (⟨(384 * h.val + j.val) / 384, by omega⟩ : Fin 6) = h := Fin.ext (by show (384 * h.val + j.val) / 384 = h.val; omega)
  have e2 : (⟨(384 * h.val + j.val) % 384, by omega⟩ : Fin 384) = j := Fin.ext (by show (384 * h.val + j.val) % 384 = j.val; omega)
  refine (pay_a _ _ i j).trans ?_
  show _ = ∑ l : Fin 128, heads (qrow m c (at_ t i)) (pos (at_ t i)) ⟨(384 * h.val + j.val) / 384, _⟩ l * aA m c (ix3 (⟨(384 * h.val + j.val) / 384, _⟩ : Fin 6) l (⟨(384 * h.val + j.val) % 384, _⟩ : Fin 384))
  rw [e1, e2]
  refine Finset.sum_congr rfl fun l _ => congrArg₂ (· * ·) ?_ (a_ld m c t h inb l j)
  refine (headBlock_apply _ h o ho hs _ _ _ _ _ i l (pos (at_ t i)) (Cb_apply m c t i) (Sb_apply m c t i)).trans ?_
  exact congrArg (fun q => heads q (pos (at_ t i)) h l) (funext fun k => Qb_apply m c t i k)

theorem outC_eq : (dats m 0 c).arrAt 11 cfg0.N = outC m c := by
  refine (dats m 0 c).arrAt_eq_of_covers 11 _ (by decide +kernel) fun t hf y => ?_
  blk_simp
  rw [after0_11]
  frame_out
  obtain ⟨i, j, rfl⟩ : ∃ (i : Fin 512) (j : Fin 256), y = ix2 i j := ⟨y 0, y 1, funext fun b => by match b with | ⟨0, _⟩ => rfl | ⟨1, _⟩ => rfl⟩
  have e : ((View.whole main_v49_0).slice (win0_11.rect t)).emb (ix2 i j) = ix2 (at_ t i) j := by
    blk_ext [at11]
    show t.val * 512 + i.val = 512 * t.val + i.val; omega
  rw [e]
  refine (pay_c _ _ i j).trans ?_
  simp only [xc_blk, gk_blk]
  rfl

theorem outK_eq : (dats m 0 c).arrAt 12 cfg0.N = outK m c := by
  refine (dats m 0 c).arrAt_eq_of_covers 12 _ (by decide +kernel) fun t hf y => ?_
  blk_simp
  rw [after0_12]
  frame_out
  obtain ⟨i, j, rfl⟩ : ∃ (i : Fin 512) (j : Fin 32), y = ix2 i j := ⟨y 0, y 1, funext fun b => by match b with | ⟨0, _⟩ => rfl | ⟨1, _⟩ => rfl⟩
  have e : ((View.whole main_v49_1).slice (win0_12.rect t)).emb (ix2 i j) = ix2 (at_ t i) j := by
    blk_ext [at12]
    show t.val * 512 + i.val = 512 * t.val + i.val; omega
  rw [e]
  refine (pay_k32 (iblk m c 2 t) _ _ i j (pos (at_ t i)) (kc_blk m c t i) (ks_blk m c t i)).trans ?_
  simp only [xk_blk]
  rfl

theorem outQ_eq : (dats m 0 c).arrAt 13 cfg0.N = outQ m c := by
  refine (dats m 0 c).arrAt_eq_of_covers 13 _ (by decide +kernel) fun t hf y => ?_
  blk_simp
  rw [after0_13]
  unfold_out out0_13
  refine (View.canon_apply_of_pieces (G m c t) _ ?_ y (cover0_13 _ _ _ _ _ _ y)).trans ?_
  · intro pc hpc
    rcases List.mem_cons.mp hpc with rfl | hpc
    · exact fun x => head_store m c t 5 640 1920 rfl rfl slices_S512x768_o0_640_S512x128 inb_S6x128x384_S1x128x384_5_0_0 inb_S512x2304_S512x384_0_1920 x
    rcases List.mem_cons.mp hpc with rfl | hpc
    · exact fun x => head_store m c t 4 512 1536 rfl rfl slices_S512x768_o0_512_S512x128 inb_S6x128x384_S1x128x384_4_0_0 inb_S512x2304_S512x384_0_1536 x
    rcases List.mem_cons.mp hpc with rfl | hpc
    · exact fun x => head_store m c t 3 384 1152 rfl rfl slices_S512x768_o0_384_S512x128 inb_S6x128x384_S1x128x384_3_0_0 inb_S512x2304_S512x384_0_1152 x
    rcases List.mem_cons.mp hpc with rfl | hpc
    · exact fun x => head_store m c t 2 256 768 rfl rfl slices_S512x768_o0_256_S512x128 inb_S6x128x384_S1x128x384_2_0_0 inb_S512x2304_S512x384_0_768 x
    rcases List.mem_cons.mp hpc with rfl | hpc
    · exact fun x => head_store m c t 1 128 384 rfl rfl slices_S512x768_o0_128_S512x128 inb_S6x128x384_S1x128x384_1_0_0 inb_S512x2304_S512x384_0_384 x
    rcases List.mem_cons.mp hpc with rfl | hpc
    · exact fun x => head_store m c t 0 0 0 rfl rfl slices_S512x768_o0_0_S512x128 inb_S6x128x384_S1x128x384_0_0_0 inb_S512x2304_S512x384_0_0 x
    exact absurd hpc (List.not_mem_nil)
  · obtain ⟨i, j, rfl⟩ : ∃ (i : Fin 512) (j : Fin 2304), y = ix2 i j := ⟨y 0, y 1, funext fun b => by match b with | ⟨0, _⟩ => rfl | ⟨1, _⟩ => rfl⟩
    have e : ((View.whole main_v49_2).slice (win0_13.rect t)).emb (ix2 i j) = ix2 (at_ t i) j := by
      blk_ext [at13]
      show t.val * 512 + i.val = 512 * t.val + i.val; omega
    rw [e]
    rfl

end Cert.Kernel4Ideal.Prep

end
-- ==== Proof.Turned.lean ====
/- The reference's rotary embedding, element by element: halves of 32 places multiplied by cosines and sines and put together again. -/
module

public import proofs.«01_k».proof.Proof.Tables

@[expose] public section

noncomputable section

namespace Cert.Rope

open Idealize.ShloMosaic Idealize.ShloMosaic.ValueIdx

variable {n q : ℕ}

/-- Two pieces side by side along the last of three axes. -/
theorem join_apply {a b d : ℕ} (x : FVec Ideal ⟨3, ![n, q, a]⟩ .f32) (y : FVec Ideal ⟨3, ![n, q, b]⟩ .f32)
    (hc : Shape.Concatenates [⟨3, ![n, q, a]⟩, ⟨3, ![n, q, b]⟩] ⟨3, ![n, q, d]⟩ 2) (i : Fin n) (h : Fin q) (j : Fin d) (hd : d = a + b) :
    concatenate ⟨3, ![n, q, d]⟩ 2 [⟨⟨3, ![n, q, a]⟩, x⟩, ⟨⟨3, ![n, q, b]⟩, y⟩] hc (ix3 i h j)
      = if g : j.val < a then x (ix3 i h ⟨j.val, g⟩) else y (ix3 i h ⟨j.val - a, by omega⟩) := by
  have o : ∀ {e : ℕ} (k : Fin e) (b : Fin 3), b ≠ 2 → (ix3 i h k b).val = (ix3 i h j b).val := fun k b hb => by
    match b with
    | ⟨0, _⟩ => rfl
    | ⟨1, _⟩ => rfl
    | ⟨2, _⟩ => exact absurd rfl hb
  by_cases g : j.val < a
  · rw [dif_pos g]
    exact concatenate_apply_piece (t := ⟨3, ![n, q, d]⟩) 2 [⟨⟨3, ![n, q, a]⟩, x⟩, ⟨⟨3, ![n, q, b]⟩, y⟩] hc _ 0 (Nat.succ_pos _) _ x rfl rfl 0 rfl _ (o _) (Nat.zero_add _)
  · rw [dif_neg g]
    exact concatenate_apply_piece (t := ⟨3, ![n, q, d]⟩) 2 [⟨⟨3, ![n, q, a]⟩, x⟩, ⟨⟨3, ![n, q, b]⟩, y⟩] hc _ 1 (Nat.succ_lt_succ (Nat.succ_pos _)) _ y rfl rfl a rfl _ (o _)
      (by show a + (j.val - a) = j.val; omega)

/-- A part of the last of three axes. -/
theorem part_apply {a d o : ℕ} (x : FVec Ideal ⟨3, ![n, q, d]⟩ .f32) (hs : (⟨3, ![n, q, d]⟩ : Shape).Slices ![0, 0, o] ⟨3, ![n, q, a]⟩)
    (i : Fin n) (h : Fin q) (j : Fin a) (k : Fin d) (hk : k.val = o + j.val) :
    extractStridedSlice ⟨3, ![n, q, a]⟩ ![0, 0, o] x hs (ix3 i h j) = x (ix3 i h k) :=
  extractStridedSlice_apply _ _ _ _ _ fun b => by
    match b with
    | ⟨0, _⟩ => exact (Nat.zero_add _).symm
    | ⟨1, _⟩ => exact (Nat.zero_add _).symm
    | ⟨2, _⟩ => exact hk

/-- The embedding of 32 places from their halves. -/
def halves (x : FVec Ideal ⟨3, ![n, q, 32]⟩ .f32) (c s : FVec Ideal ⟨3, ![n, q, 16]⟩ .f32) (h0 : (⟨3, ![n, q, 32]⟩ : Shape).Slices ![0, 0, 0] ⟨3, ![n, q, 16]⟩)
    (h1 : (⟨3, ![n, q, 32]⟩ : Shape).Slices ![0, 0, 16] ⟨3, ![n, q, 16]⟩) (hc : Shape.Concatenates [⟨3, ![n, q, 16]⟩, ⟨3, ![n, q, 16]⟩] ⟨3, ![n, q, 32]⟩ 2) : FVec Ideal ⟨3, ![n, q, 32]⟩ .f32 :=
  concatenate ⟨3, ![n, q, 32]⟩ 2
    [⟨⟨3, ![n, q, 16]⟩, subf (mulf (extractStridedSlice ⟨3, ![n, q, 16]⟩ ![0, 0, 0] x h0) c) (mulf (extractStridedSlice ⟨3, ![n, q, 16]⟩ ![0, 0, 16] x h1) s)⟩,
     ⟨⟨3, ![n, q, 16]⟩, addf (mulf (extractStridedSlice ⟨3, ![n, q, 16]⟩ ![0, 0, 0] x h0) s) (mulf (extractStridedSlice ⟨3, ![n, q, 16]⟩ ![0, 0, 16] x h1) c)⟩] hc

theorem halves_apply (x : FVec Ideal ⟨3, ![n, q, 32]⟩ .f32) (c s : FVec Ideal ⟨3, ![n, q, 16]⟩ .f32) (h0 h1 hc) (i : Fin n) (h : Fin q) (j : Fin 32) (p : EReal)
    (hcs : ∀ k, c (ix3 i h k) = cs p k) (hsn : ∀ k, s (ix3 i h k) = sn p k) :
    halves x c s h0 h1 hc (ix3 i h j) = turn (fun k => x (ix3 i h k)) p j := by
  refine (join_apply _ _ hc i h j rfl).trans ?_
  unfold turn
  by_cases g : j.val < 16
  · rw [dif_pos g, dif_pos g]
    exact congrArg₂ (· - ·) (congrArg₂ (· * ·) (part_apply x h0 i h _ j (Nat.zero_add _).symm) (hcs _))
      (congrArg₂ (· * ·) (part_apply x h1 i h _ ⟨j.val + 16, by omega⟩ (Nat.add_comm _ _)) (hsn _))
  · rw [dif_neg g, dif_neg g]
    exact congrArg₂ (· + ·) (congrArg₂ (· * ·) (part_apply x h0 i h _ ⟨j.val - 16, by omega⟩ (Nat.zero_add _).symm) (hsn _))
      (congrArg₂ (· * ·) (part_apply x h1 i h _ j (by show j.val = 16 + (j.val - 16); omega)) (hcs _))

/-- A head: 64 places as they are, and the next 32 turned. -/
theorem head_apply (y : FVec Ideal ⟨3, ![n, q, 128]⟩ .f32) (c s : FVec Ideal ⟨3, ![n, q, 16]⟩ .f32) (h0 h1 hc)
    (ha : (⟨3, ![n, q, 128]⟩ : Shape).Slices ![0, 0, 0] ⟨3, ![n, q, 64]⟩) (hb : (⟨3, ![n, q, 128]⟩ : Shape).Slices ![0, 0, 64] ⟨3, ![n, q, 32]⟩)
    (hd : Shape.Concatenates [⟨3, ![n, q, 64]⟩, ⟨3, ![n, q, 32]⟩] ⟨3, ![n, q, 96]⟩ 2) (i : Fin n) (h : Fin q) (j : Fin 96) (p : EReal)
    (hcs : ∀ k, c (ix3 i h k) = cs p k) (hsn : ∀ k, s (ix3 i h k) = sn p k) :
    concatenate ⟨3, ![n, q, 96]⟩ 2 [⟨⟨3, ![n, q, 64]⟩, extractStridedSlice ⟨3, ![n, q, 64]⟩ ![0, 0, 0] y ha⟩,
        ⟨⟨3, ![n, q, 32]⟩, halves (extractStridedSlice ⟨3, ![n, q, 32]⟩ ![0, 0, 64] y hb) c s h0 h1 hc⟩] hd (ix3 i h j)
      = head (fun k => y (ix3 i h k)) p ⟨j.val, by omega⟩ := by
  refine (join_apply _ _ hd i h j rfl).trans ?_
  unfold head
  by_cases g : j.val < 64
  · rw [dif_pos g, if_pos g]
    exact part_apply y ha i h _ _ (Nat.zero_add _).symm
  · rw [dif_neg g, if_neg g, dif_pos (show j.val < 96 from j.isLt)]
    refine (halves_apply _ c s h0 h1 hc i h _ p hcs hsn).trans ?_
    exact congrArg (turn · p _) (funext fun k => part_apply y hb i h k _ rfl)

/-- A table's rows repeated along a middle axis. -/
theorem mid_apply (t : FVec Ideal ⟨2, ![n, 16]⟩ .f32) (hb : (⟨2, ![n, 16]⟩ : Shape).BroadcastsInDim ⟨3, ![n, 1, 16]⟩ ![0, 2]) (i : Fin n) (k : Fin 16) :
    broadcastInDim ⟨3, ![n, 1, 16]⟩ ![0, 2] hb t (ix3 i (0 : Fin 1) k) = t (ix2 i k) :=
  broadcastInDim_apply _ hb t _ _ fun a => by
    match a with
    | ⟨0, _⟩ => show i.val = if n = 1 then 0 else i.val; have := i.isLt; split_ifs <;> omega
    | ⟨1, _⟩ => rfl
theorem mids_apply (t : FVec Ideal ⟨2, ![n, 16]⟩ .f32) (hb : (⟨2, ![n, 16]⟩ : Shape).BroadcastsInDim ⟨3, ![n, 1, 16]⟩ ![0, 2])
    (hb' : (⟨3, ![n, 1, 16]⟩ : Shape).BroadcastsInDim ⟨3, ![n, q, 16]⟩ ![0, 1, 2]) (i : Fin n) (h : Fin q) (k : Fin 16) :
    broadcastInDim ⟨3, ![n, q, 16]⟩ ![0, 1, 2] hb' (broadcastInDim ⟨3, ![n, 1, 16]⟩ ![0, 2] hb t) (ix3 i h k) = t (ix2 i k) :=
  (broadcastInDim_apply _ hb' _ _ (ix3 i (0 : Fin 1) k) fun a => by
    match a with
    | ⟨0, _⟩ => show i.val = if n = 1 then 0 else i.val; have := i.isLt; split_ifs <;> omega
    | ⟨1, _⟩ => rfl
    | ⟨2, _⟩ => rfl).trans (mid_apply t hb i k)

/-- The angles' cosines and sines. -/
theorem cos_apply (F : Fits n) (p : FVec Ideal ⟨1, ![n]⟩ .f32) (i : Fin n) (k : Fin 16) : Host.cos (angles F p) (ix2 i k) = cs (p (ix1 i)) k :=
  congrArg (FloatOps.hostUnary (F := Ideal) (φ := .f32) .cos) (angles_apply F p i k)
theorem sin_apply (F : Fits n) (p : FVec Ideal ⟨1, ![n]⟩ .f32) (i : Fin n) (k : Fin 16) : Host.sin (angles F p) (ix2 i k) = sn (p (ix1 i)) k :=
  congrArg (FloatOps.hostUnary (F := Ideal) (φ := .f32) .sin) (angles_apply F p i k)

end Cert.Rope

end
-- ==== Proof.PrepSampleRef.lean ====
/- The reference's samples' queries and latents, element by element, and their agreement with the kernel's. -/
module

public import proofs.«01_k».proof.Proof.Gen.Reference4Ideal.Read
public import proofs.«01_k».proof.Proof.PrepSample
public import proofs.«01_k».proof.Proof.Turned

@[expose] public section

noncomputable section

namespace Cert.Reference4Ideal.Prep

open Cert.Reference4Ideal Cert.Reference4Ideal.Gen Cert.Reference4Ideal.Read
open Idealize.ShloMosaic Idealize.ShloMosaic.ValueIdx
open Cert.Rms Cert.Rope
open Cert.Kernel4Ideal.Prep (zA qA kA wA aA pos p8 qrow outC outK outQ)
open scoped BigOperators

/-- The tables' side conditions over all rows. -/
theorem fits : Fits 1024 := ⟨by decide, by decide, by decide, by decide, by decide, by decide, by decide, by decide, by decide, by decide, by decide⟩

/-- A row's position. -/
theorem pos_eq (i : Fin 1024) : val_main_v5 (F := Ideal) (ix1 i) = pos i := by
  refine (val_main_v5_apply _).trans ((val_main_v4_apply _).trans ((val_main_v3_apply _).trans ?_))
  show p8 _ = p8 _
  refine congrArg p8 (funext fun a => Fin.ext ?_)
  match a with
  | ⟨0, _⟩ => show 0 * 8 + i.val % 8 = i.val % 8; omega

theorem cos_eq (i : Fin 1024) (k : Fin 16) : val_main_v37 (F := Ideal) (ix2 i k) = cs (pos i) k :=
  (cos_apply fits (val_main_v5 (F := Ideal)) i k).trans (congrArg (cs · k) (pos_eq i))
theorem sin_eq (i : Fin 1024) (k : Fin 16) : val_main_v39 (F := Ideal) (ix2 i k) = sn (pos i) k :=
  (sin_apply fits (val_main_v5 (F := Ideal)) i k).trans (congrArg (sn · k) (pos_eq i))

variable (m : (ℓ : Loc Cert.Kernel4Ideal.nD Cert.Kernel4Ideal.τ Cert.Kernel4Ideal.sig) → Buf (Elt Ideal) ℓ) (c : Dev Cert.Kernel4Ideal.nD)

/-- A part of a row. -/
theorem cut {d o : ℕ} (x : S1024x2816.Idx → EReal) (hs : S1024x2816.Slices ![0, o] ⟨2, ![1024, d]⟩) (i : Fin 1024) (k : Fin d) (g : o + k.val < 2816) :
    extractStridedSlice ⟨2, ![1024, d]⟩ ![0, o] x hs (ix2 i k) = x (ix2 i (⟨o + k.val, g⟩ : Fin 2816)) :=
  extractStridedSlice_apply _ _ _ _ _ fun b => by
    match b with
    | ⟨0, _⟩ => exact (Nat.zero_add _).symm
    | ⟨1, _⟩ => rfl

/-- The latents. -/
theorem same_c : val_main_v70 (F := Ideal) (zA m c) (kA m c) = outC m c := by
  funext y
  obtain ⟨i, j, rfl⟩ : ∃ (i : Fin 1024) (j : Fin 256), y = ix2 i j := ⟨y 0, y 1, funext fun b => by match b with | ⟨0, _⟩ => rfl | ⟨1, _⟩ => rfl⟩
  refine (host_norm_apply (val_main_v7 (F := Ideal) (zA m c)) (val_main_v65 (F := Ideal) (zA m c)) (kA m c) _ _ _ i j (host_scale_apply _ _ _ _ _ _ i)).trans ?_
  exact congrArg (fun r => norm256 r _ j) (funext fun k => cut (zA m c) _ i k (by omega))

/-- The turned keys. -/
theorem same_k : val_main_v96 (F := Ideal) (zA m c) = outK m c := by
  funext y
  obtain ⟨i, j, rfl⟩ : ∃ (i : Fin 1024) (j : Fin 32), y = ix2 i j := ⟨y 0, y 1, funext fun b => by match b with | ⟨0, _⟩ => rfl | ⟨1, _⟩ => rfl⟩
  refine (shapeCast_apply (val_main_v95 (F := Ideal) (zA m c)) _ (ix2 i j) (ix3 i (0 : Fin 1) j) (by
    rw [Shape.rowMajor_val_three, Shape.rowMajor_val_two]; show (i.val * 1 + 0) * 32 + j.val = i.val * 32 + j.val; omega)).trans ?_
  refine (halves_apply (val_main_v71 (F := Ideal) (zA m c)) (val_main_v84 (F := Ideal)) (val_main_v86 (F := Ideal)) _ _ _ i (0 : Fin 1) j (pos i)
    (fun k => (mid_apply (val_main_v83 (F := Ideal)) _ i k).trans (cos_eq i k)) (fun k => (mid_apply (val_main_v85 (F := Ideal)) _ i k).trans (sin_eq i k))).trans ?_
  refine congrArg (turn · (pos i) j) (funext fun k => ?_)
  refine (broadcastInDim_apply _ _ (val_main_v8 (F := Ideal) (zA m c)) _ (ix2 i k) fun a => by
    match a with
    | ⟨0, _⟩ => rfl
    | ⟨1, _⟩ => rfl).trans ?_
  exact cut (zA m c) _ i k (by omega)

/-- A row's queries before the turn. -/
theorem row_eq (i : Fin 1024) (j : Fin 768) : val_main_v23 (F := Ideal) (zA m c) (qA m c) (wA m c) (ix2 i j) = qrow m c i j := by
  refine (val_main_v23_apply _ _ _ (ix2 i j)).trans (Finset.sum_congr rfl fun k _ => ?_)
  rw [show lidx_main_v23 (ix2 i j) k = ix2 i k from funext fun a => by match a with | ⟨0, _⟩ => rfl | ⟨1, _⟩ => rfl,
    show ridx_main_v23 (ix2 i j) k = ix2 k j from funext fun a => by match a with | ⟨0, _⟩ => rfl | ⟨1, _⟩ => rfl]
  refine congrArg₂ (· * ·) ?_ rfl
  refine (host_norm_apply (val_main_v6 (F := Ideal) (zA m c)) (val_main_v16 (F := Ideal) (zA m c)) (qA m c) _ _ _ i k (host_scale_apply _ _ _ _ _ _ i)).trans ?_
  exact congrArg (fun r => norm256 r _ k) (funext fun k => cut (zA m c) _ i k (by omega))

/-- The heads, turned and scaled. -/
theorem heads_eq (i : Fin 1024) (h : Fin 6) (j : Fin 96) :
    val_main_v57 (F := Ideal) (zA m c) (qA m c) (wA m c) (ix3 i h j) = heads (qrow m c i) (pos i) h ⟨j.val, by omega⟩ := by
  refine congrArg (· * w96) ?_
  refine (head_apply (val_main_v24 (F := Ideal) (zA m c) (qA m c) (wA m c)) (val_main_v43 (F := Ideal)) (val_main_v45 (F := Ideal)) _ _ _ _ _ _ i h j (pos i)
    (fun k => (mids_apply (val_main_v37 (F := Ideal)) _ _ i h k).trans (cos_eq i k)) (fun k => (mids_apply (val_main_v39 (F := Ideal)) _ _ i h k).trans (sin_eq i k))).trans ?_
  refine congrArg (head · (pos i) _) (funext fun k => ?_)
  refine (shapeCast_apply (val_main_v23 (F := Ideal) (zA m c) (qA m c) (wA m c)) _ (ix3 i h k) (ix2 i (⟨128 * h.val + k.val, by omega⟩ : Fin 768)) (by
    rw [Shape.rowMajor_val_three, Shape.rowMajor_val_two]; show i.val * 768 + (128 * h.val + k.val) = (i.val * 6 + h.val) * 128 + k.val; omega)).trans ?_
  exact row_eq m c i _

/-- The queries in the latents' space. -/
theorem same_q : val_main_v102 (F := Ideal) (zA m c) (qA m c) (wA m c) (aA m c) = outQ m c := by
  funext y
  obtain ⟨i, j, rfl⟩ : ∃ (i : Fin 1024) (j : Fin 2304), y = ix2 i j := ⟨y 0, y 1, funext fun b => by match b with | ⟨0, _⟩ => rfl | ⟨1, _⟩ => rfl⟩
  have hh : j.val / 384 < 6 := by omega
  have hj : j.val % 384 < 384 := by omega
  refine (val_main_v101_apply (F := Ideal) _ _ _ _ (ix2 i j)).trans ?_
  rw [show idx_main_v101 (ix2 i j) = ix3 i (⟨j.val / 384, hh⟩ : Fin 6) (⟨j.val % 384, hj⟩ : Fin 384) from funext fun a => Fin.ext (by
    match a with
    | ⟨0, _⟩ => show (i.val * 2304 + j.val) / 2304 = i.val; omega
    | ⟨1, _⟩ => show (i.val * 2304 + j.val) / 384 % 6 = j.val / 384; omega
    | ⟨2, _⟩ => show (i.val * 2304 + j.val) % 384 = j.val % 384; omega)]
  refine (val_main_v100_apply (F := Ideal) _ _ _ _ _).trans ((val_main_v99_apply _ _ _ _ _).trans ?_)
  refine Eq.trans ?_ (sum_heads (qrow m c i) (pos i) ⟨j.val / 384, hh⟩ fun l => aA m c (ix3 (⟨j.val / 384, hh⟩ : Fin 6) l (⟨j.val % 384, hj⟩ : Fin 384))).symm
  refine Finset.sum_congr rfl fun k _ => (mul_comm _ _).trans (congrArg₂ (· * ·) ?_ ?_)
  · refine Eq.trans (congrArg (val_main_v57 (F := Ideal) (zA m c) (qA m c) (wA m c)) (funext fun a => ?_)) (heads_eq m c i ⟨j.val / 384, hh⟩ k)
    match a with
    | ⟨0, _⟩ => rfl
    | ⟨1, _⟩ => rfl
    | ⟨2, _⟩ => rfl
  · refine (val_main_v97_apply (F := Ideal) (aA m c) _).trans (congrArg (aA m c) (funext fun a => ?_))
    match a with
    | ⟨0, _⟩ => rfl
    | ⟨1, _⟩ => rfl
    | ⟨2, _⟩ => rfl

end Cert.Reference4Ideal.Prep

end
-- ==== Proof.InProjSample.lean ====
/- The input projection of the samples: the blocks are computed as in the prompt's projection, over fewer rows. -/
module

public import proofs.«01_k».proof.Proof.Gen.Kernel6Ideal.Value
public import proofs.«01_k».proof.Proof.InProj
public import Idealize.ShloMosaic.Lib.Pipeline.ValueKit.Geometry
public import Idealize.ShloMosaic.Lib.Pipeline.ValueKit.Acc

@[expose] public section

noncomputable section

namespace Cert.Kernel6Ideal.Proj

open Cert.Kernel6Ideal Cert.Kernel6Ideal.Gen
open Idealize.ShloMosaic Idealize.ShloMosaic.ValueIdx Idealize.ShloMosaic.TcCoe
open Cert.Rms
open scoped BigOperators

variable (m : (ℓ : Loc nD τ sig) → Buf (Elt Ideal) ℓ) (c : Dev nD)

/-- The arguments. -/
abbrev xA : S1024x1024.Idx → EReal := m ((c : Thread nD τ).loc main_arg0)
abbrev gA : S1024.Idx → EReal := m ((c : Thread nD τ).loc main_arg1)
abbrev wA : S1024x2816.Idx → EReal := m ((c : Thread nD τ).loc main_arg2)

/-- The output array. -/
def outG : S1024x2816.Idx → EReal := fun y =>
  ∑ k : Fin 1024, norm (fun k => xA m c (ix2 (y 0) k)) (fun k => gA m c (ix1 k)) k * wA m c (ix2 k (y 1))

/-- The weights of the norm reach the call as a one-row matrix. -/
theorem g_row (k : Fin 1024) : V m c main_v0 (ix2 (0 : Fin 1) k) = gA m c (ix1 k) := by
  have e : V m c main_v0 = shapeCast S1x1024 (gA m c) shapeCasts_S1024_S1x1024 := by rfl
  rw [e]
  exact shapeCast_apply _ _ _ (ix1 k) (by rw [Shape.rowMajor_val_one, Shape.rowMajor_val_two]; show k.val = 0 * 1024 + k.val; omega)

/-- Where the blocks lie. -/
theorem at0 : ∀ t : Fin cfg0.N, win0_0.index t = ![t.val, 0] := (by decide +kernel : ∀ t : Fin grid0.N, win0_0.index t = ![t.val, 0])
theorem at1 : ∀ t : Fin cfg0.N, win0_1.index t = ![0, 0] := (by decide +kernel : ∀ t : Fin grid0.N, win0_1.index t = ![0, 0])
theorem at2 : ∀ t : Fin cfg0.N, win0_2.index t = ![0, 0] := (by decide +kernel : ∀ t : Fin grid0.N, win0_2.index t = ![0, 0])
theorem at3 : ∀ t : Fin cfg0.N, win0_3.index t = ![t.val, 0] := (by decide +kernel : ∀ t : Fin grid0.N, win0_3.index t = ![t.val, 0])

theorem row_lt (t : Fin cfg0.N) (i : Fin 512) : 512 * t.val + i.val < 1024 := by
  have : t.val < 2 := t.isLt
  omega

/-- The blocks at their places. -/
theorem x_blk (t : Fin cfg0.N) (i : Fin 512) (k : Fin 1024) : iblk m c 0 t (ix2 i k) = xA m c (ix2 (⟨512 * t.val + i.val, row_lt t i⟩ : Fin 1024) k) := by
  blk_simp [iblk]
  rw [V_main_arg0]
  refine congrArg (xA m c) ?_
  blk_ext [at0]
  show t.val * 512 + i.val = 512 * t.val + i.val; omega
theorem g_blk (t : Fin cfg0.N) (k : Fin 1024) : iblk m c 1 t (ix2 (0 : Fin 1) k) = gA m c (ix1 k) := by
  rw [← g_row]
  blk_simp [iblk]
  refine congrArg (V m c main_v0) ?_
  blk_ext [at1]
theorem w_blk (t : Fin cfg0.N) (k : Fin 1024) (j : Fin 2816) : iblk m c 2 t (ix2 k j) = wA m c (ix2 k j) := by
  blk_simp [iblk]
  rw [V_main_arg2]
  refine congrArg (wA m c) ?_
  blk_ext [at2]

theorem out_eq : (dats m 0 c).arrAt 3 cfg0.N = outG m c := by
  refine (dats m 0 c).arrAt_eq_of_covers 3 _ (by decide +kernel) fun t hf y => ?_
  blk_simp
  rw [after0_3]
  frame_out
  obtain ⟨i, j, rfl⟩ : ∃ (i : Fin 512) (j : Fin 2816), y = ix2 i j := ⟨y 0, y 1, funext fun b => by match b with | ⟨0, _⟩ => rfl | ⟨1, _⟩ => rfl⟩
  have e : ((View.whole main_v1).slice (win0_3.rect t)).emb (ix2 i j) = ix2 (⟨512 * t.val + i.val, row_lt t i⟩ : Fin 1024) j := by
    blk_ext [at3]
    show t.val * 512 + i.val = 512 * t.val + i.val; omega
  rw [e]
  refine (Cert.Kernel2Ideal.Proj.pay_apply _ _ _ i j).trans ?_
  simp only [x_blk, g_blk, w_blk]
  rfl

end Cert.Kernel6Ideal.Proj

end
-- ==== Proof.InProjSampleRef.lean ====
/- The reference's input projection of the samples, element by element, and its agreement with the kernel's. -/
module

public import proofs.«01_k».proof.Proof.Gen.Reference6Ideal.Read
public import proofs.«01_k».proof.Proof.InProjSample

@[expose] public section

noncomputable section

namespace Cert.Reference6Ideal.Proj

open Cert.Reference6Ideal Cert.Reference6Ideal.Gen Cert.Reference6Ideal.Read
open Idealize.ShloMosaic Idealize.ShloMosaic.ValueIdx
open Cert.Rms
open scoped BigOperators

variable (x : S1024x1024.Idx → EReal) (g : S1024.Idx → EReal) (w : S1024x2816.Idx → EReal)

/-- A row's norm. -/
theorem norm_eq (i : Fin 1024) (k : Fin 1024) :
    val_main_v12 (F := Ideal) x g (ix2 i k) = norm (fun k => x (ix2 i k)) (fun k => g (ix1 k)) k :=
  host_norm_apply x (val_main_v7 (F := Ideal) x) g _ _ _ i k (host_scale_apply x _ _ _ _ _ i)

/-- The two output arrays are one. -/
theorem same (m : (ℓ : Loc Cert.Kernel6Ideal.nD Cert.Kernel6Ideal.τ Cert.Kernel6Ideal.sig) → Buf (Elt Ideal) ℓ) (c : Dev Cert.Kernel6Ideal.nD) :
    val_main_v14 (F := Ideal) (Cert.Kernel6Ideal.Proj.xA m c) (Cert.Kernel6Ideal.Proj.gA m c) (Cert.Kernel6Ideal.Proj.wA m c) = Cert.Kernel6Ideal.Proj.outG m c := by
  funext y
  obtain ⟨i, j, rfl⟩ : ∃ (i : Fin 1024) (j : Fin 2816), y = ix2 i j := ⟨y 0, y 1, funext fun b => by match b with | ⟨0, _⟩ => rfl | ⟨1, _⟩ => rfl⟩
  refine (val_main_v14_apply _ _ _ (ix2 i j)).trans (Finset.sum_congr rfl fun k _ => ?_)
  rw [show lidx_main_v14 (ix2 i j) k = ix2 i k from funext fun a => by match a with | ⟨0, _⟩ => rfl | ⟨1, _⟩ => rfl,
    show ridx_main_v14 (ix2 i j) k = ix2 k j from funext fun a => by match a with | ⟨0, _⟩ => rfl | ⟨1, _⟩ => rfl, norm_eq]
  rfl

end Cert.Reference6Ideal.Proj

end
-- ==== Proof.OutProjSample.lean ====
/- The output projection of the samples: the blocks are computed as in the prompt's projection, over fewer rows. -/
module

public import proofs.«01_k».proof.Proof.Gen.Kernel7Ideal.Value
public import proofs.«01_k».proof.Proof.OutProj
public import Idealize.ShloMosaic.Lib.Pipeline.ValueKit.Geometry
public import Idealize.ShloMosaic.Lib.Pipeline.ValueKit.Acc

@[expose] public section

noncomputable section

namespace Cert.Kernel7Ideal.Proj

open Cert.Kernel7Ideal Cert.Kernel7Ideal.Gen
open Idealize.ShloMosaic Idealize.ShloMosaic.ValueIdx Idealize.ShloMosaic.TcCoe
open Cert.Rms Cert.Mixers
open scoped BigOperators

variable (m : (ℓ : Loc nD τ sig) → Buf (Elt Ideal) ℓ) (c : Dev nD)

/-- The arguments. -/
abbrev xA : S1024x1024.Idx → EReal := m ((c : Thread nD τ).loc main_arg0)
abbrev aA : S1024x256.Idx → EReal := m ((c : Thread nD τ).loc main_arg1)
abbrev bA : S1024x384.Idx → EReal := m ((c : Thread nD τ).loc main_arg2)
abbrev oA : S1024x384.Idx → EReal := m ((c : Thread nD τ).loc main_arg3)
abbrev zA : S1024x2816.Idx → EReal := m ((c : Thread nD τ).loc main_arg4)
abbrev wA : S1024x1024.Idx → EReal := m ((c : Thread nD τ).loc main_arg5)
abbrev gA : S1024.Idx → EReal := m ((c : Thread nD τ).loc main_arg6)

/-- The first output's row `i`: the gates are columns 2304 to 2687 of `z`. -/
def row (i : Fin 1024) : Fin 1024 → EReal :=
  mixed (fun k => xA m c (ix2 i k)) (fun k => aA m c (ix2 i k)) (fun k => bA m c (ix2 i k)) (fun k => oA m c (ix2 i k))
    (fun k => zA m c (ix2 i (⟨2304 + k.val, by omega⟩ : Fin 2816))) (fun k j => wA m c (ix2 k j))

/-- The output arrays. -/
def outX : S1024x1024.Idx → EReal := fun y => row m c (y 0) (y 1)
def outN : S1024x1024.Idx → EReal := fun y => norm (row m c (y 0)) (fun k => gA m c (ix1 k)) (y 1)

/-- The weights of the norm reach the call as a one-row matrix. -/
theorem g_row (k : Fin 1024) : V m c main_v0 (ix2 (0 : Fin 1) k) = gA m c (ix1 k) := by
  have e : V m c main_v0 = shapeCast S1x1024 (gA m c) shapeCasts_S1024_S1x1024 := by rfl
  rw [e]
  exact shapeCast_apply _ _ _ (ix1 k) (by rw [Shape.rowMajor_val_one, Shape.rowMajor_val_two]; show k.val = 0 * 1024 + k.val; omega)

/-- Where the blocks lie. -/
theorem at0 : ∀ t : Fin cfg0.N, win0_0.index t = ![t.val, 0] := (by decide +kernel : ∀ t : Fin grid0.N, win0_0.index t = ![t.val, 0])
theorem at1 : ∀ t : Fin cfg0.N, win0_1.index t = ![t.val, 0] := (by decide +kernel : ∀ t : Fin grid0.N, win0_1.index t = ![t.val, 0])
theorem at2 : ∀ t : Fin cfg0.N, win0_2.index t = ![t.val, 0] := (by decide +kernel : ∀ t : Fin grid0.N, win0_2.index t = ![t.val, 0])
theorem at3 : ∀ t : Fin cfg0.N, win0_3.index t = ![t.val, 0] := (by decide +kernel : ∀ t : Fin grid0.N, win0_3.index t = ![t.val, 0])
theorem at4 : ∀ t : Fin cfg0.N, win0_4.index t = ![t.val, 6] := (by decide +kernel : ∀ t : Fin grid0.N, win0_4.index t = ![t.val, 6])
theorem at5 : ∀ t : Fin cfg0.N, win0_5.index t = ![0, 0] := (by decide +kernel : ∀ t : Fin grid0.N, win0_5.index t = ![0, 0])
theorem at6 : ∀ t : Fin cfg0.N, win0_6.index t = ![0, 0] := (by decide +kernel : ∀ t : Fin grid0.N, win0_6.index t = ![0, 0])
theorem at7 : ∀ t : Fin cfg0.N, win0_7.index t = ![t.val, 0] := (by decide +kernel : ∀ t : Fin grid0.N, win0_7.index t = ![t.val, 0])
theorem at8 : ∀ t : Fin cfg0.N, win0_8.index t = ![t.val, 0] := (by decide +kernel : ∀ t : Fin grid0.N, win0_8.index t = ![t.val, 0])

theorem row_lt (t : Fin cfg0.N) (i : Fin 512) : 512 * t.val + i.val < 1024 := by
  have : t.val < 2 := t.isLt
  omega
/-- The row of the arrays that is row `i` of block `t`. -/
abbrev at_ (t : Fin cfg0.N) (i : Fin 512) : Fin 1024 := ⟨512 * t.val + i.val, row_lt t i⟩

/-- The blocks at their places. -/
theorem x_blk (t : Fin cfg0.N) (i : Fin 512) (k : Fin 1024) : iblk m c 0 t (ix2 i k) = xA m c (ix2 (at_ t i) k) := by
  blk_simp [iblk]
  rw [V_main_arg0]
  refine congrArg (xA m c) ?_
  blk_ext [at0]
  show t.val * 512 + i.val = 512 * t.val + i.val; omega
theorem a_blk (t : Fin cfg0.N) (i : Fin 512) (k : Fin 256) : iblk m c 1 t (ix2 i k) = aA m c (ix2 (at_ t i) k) := by
  blk_simp [iblk]
  rw [V_main_arg1]
  refine congrArg (aA m c) ?_
  blk_ext [at1]
  show t.val * 512 + i.val = 512 * t.val + i.val; omega
theorem b_blk (t : Fin cfg0.N) (i : Fin 512) (k : Fin 384) : iblk m c 2 t (ix2 i k) = bA m c (ix2 (at_ t i) k) := by
  blk_simp [iblk]
  rw [V_main_arg2]
  refine congrArg (bA m c) ?_
  blk_ext [at2]
  show t.val * 512 + i.val = 512 * t.val + i.val; omega
theorem o_blk (t : Fin cfg0.N) (i : Fin 512) (k : Fin 384) : iblk m c 3 t (ix2 i k) = oA m c (ix2 (at_ t i) k) := by
  blk_simp [iblk]
  rw [V_main_arg3]
  refine congrArg (oA m c) ?_
  blk_ext [at3]
  show t.val * 512 + i.val = 512 * t.val + i.val; omega
theorem z_blk (t : Fin cfg0.N) (i : Fin 512) (k : Fin 384) : X0_4 m c t (ix2 i k) = zA m c (ix2 (at_ t i) (⟨2304 + k.val, by omega⟩ : Fin 2816)) := by
  unfold X0_4 Pipeline.Window.fill
  rw [dif_pos (moved0_4 t _)]
  blk_simp [iblk]
  rw [V_main_arg4]
  refine congrArg (zA m c) ?_
  blk_ext [at4]
  · show t.val * 512 + i.val = 512 * t.val + i.val; omega
theorem w_blk (t : Fin cfg0.N) (k : Fin 1024) (j : Fin 1024) : iblk m c 5 t (ix2 k j) = wA m c (ix2 k j) := by
  blk_simp [iblk]
  rw [V_main_arg5]
  refine congrArg (wA m c) ?_
  blk_ext [at5]
theorem g_blk (t : Fin cfg0.N) (k : Fin 1024) : iblk m c 6 t (ix2 (0 : Fin 1) k) = gA m c (ix1 k) := by
  rw [← g_row]
  blk_simp [iblk]
  refine congrArg (V m c main_v0) ?_
  blk_ext [at6]

/-- The matrix's rows from `p` on, as the body loads them. -/
theorem w_ld (t : Fin cfg0.N) {n : ℕ} (p : ℕ) (inb : ∀ a, (![p, 0] : Fin 2 → ℕ) a + (![n, 1024] : Fin 2 → ℕ) a ≤ S1024x1024.size a) (k : Fin n) (j : Fin 1024)
    (h : p + k.val < 1024) :
    View.ld (Val := Elt Ideal) (S := S1024x1024) (e' := .bf16) (iblk m c 5 t) (Rect.unit (s := S1024x1024) ![p, 0] ![n, 1024] inb) (ix2 k j)
      = wA m c (ix2 (⟨p + k.val, h⟩ : Fin 1024) j) := by
  rw [← w_blk m c t]
  refine congrArg (iblk m c 5 t) (funext fun b => Fin.ext ?_)
  match b with
  | ⟨0, _⟩ => show p + 1 * k.val = p + k.val; omega
  | ⟨1, _⟩ => show 0 + 1 * j.val = j.val; omega

/-- The first output's block at point `t` over the arrays. -/
theorem row_blk (t : Fin cfg0.N) (i : Fin 512) (j : Fin 1024) :
    k0_pay2 (iblk m c 3 t) (X0_4 m c t) (iblk m c 1 t)
      (View.ld (iblk m c 5 t) (Rect.unit ![0, 0] ![256, 1024] inb_S1024x1024_S256x1024_0_0)) (iblk m c 2 t)
      (View.ld (iblk m c 5 t) (Rect.unit ![256, 0] ![384, 1024] inb_S1024x1024_S384x1024_256_0))
      (View.ld (iblk m c 5 t) (Rect.unit ![640, 0] ![384, 1024] inb_S1024x1024_S384x1024_640_0)) (iblk m c 0 t) (ix2 i j)
      = row m c (at_ t i) j := by
  refine (Cert.Kernel3Ideal.Proj.pay_x _ _ _ _ _ _ _ _ i j).trans ?_
  unfold row mixed
  refine congrArg₂ (· + ·) (x_blk m c t i j) (congrArg₂ (· + ·) (congrArg₂ (· + ·) ?_ ?_) ?_)
  · refine Finset.sum_congr rfl fun k _ => congrArg₂ (· * ·) (a_blk m c t i k) ((w_ld m c t 0 _ k j (by omega)).trans ?_)
    exact congrArg (wA m c) (congrArg (ix2 · j) (Fin.ext (by show 0 + k.val = k.val; omega)))
  · exact Finset.sum_congr rfl fun k _ => congrArg₂ (· * ·) (b_blk m c t i k) (w_ld m c t 256 _ k j (by omega))
  · exact Finset.sum_congr rfl fun k _ => congrArg₂ (· * ·) (congrArg₂ (· * ·) (o_blk m c t i k) (congrArg silu (z_blk m c t i k))) (w_ld m c t 640 _ k j (by omega))

/-- An index of a block from its coordinates. -/
theorem split (y : S512x1024.Idx) : ∃ (i : Fin 512) (j : Fin 1024), y = ix2 i j :=
  ⟨y 0, y 1, funext fun b => by match b with | ⟨0, _⟩ => rfl | ⟨1, _⟩ => rfl⟩

theorem outX_eq : (dats m 0 c).arrAt 7 cfg0.N = outX m c := by
  refine (dats m 0 c).arrAt_eq_of_covers 7 _ (by decide +kernel) fun t hf y => ?_
  blk_simp
  rw [after0_7]
  unfold outsAt0
  frame_out
  obtain ⟨i, j, rfl⟩ := split y
  have e : ((View.whole main_v1_0).slice (win0_7.rect t)).emb (ix2 i j) = ix2 (at_ t i) j := by
    blk_ext [at7]
    show t.val * 512 + i.val = 512 * t.val + i.val; omega
  rw [e]
  exact row_blk m c t i j

theorem outN_eq : (dats m 0 c).arrAt 8 cfg0.N = outN m c := by
  refine (dats m 0 c).arrAt_eq_of_covers 8 _ (by decide +kernel) fun t hf y => ?_
  blk_simp
  rw [after0_8]
  unfold outsAt0
  frame_out
  obtain ⟨i, j, rfl⟩ := split y
  have e : ((View.whole main_v1_1).slice (win0_8.rect t)).emb (ix2 i j) = ix2 (at_ t i) j := by
    blk_ext [at8]
    show t.val * 512 + i.val = 512 * t.val + i.val; omega
  rw [e]
  refine (Cert.Kernel3Ideal.Proj.pay_n _ _ _ _ _ _ _ _ _ i j).trans ?_
  exact congrArg₂ (fun r g => norm r g j) (funext fun k => row_blk m c t i k) (funext fun k => g_blk m c t k)

end Cert.Kernel7Ideal.Proj

end
-- ==== Proof.OutProjSampleRef.lean ====
/- The reference's output projection of the samples, element by element, and its agreement with the kernel's. -/
module

public import proofs.«01_k».proof.Proof.Gen.Reference7Ideal.Read
public import proofs.«01_k».proof.Proof.OutProjSample

@[expose] public section

noncomputable section

namespace Cert.Reference7Ideal.Proj

open Cert.Reference7Ideal Cert.Reference7Ideal.Gen Cert.Reference7Ideal.Read
open Idealize.ShloMosaic Idealize.ShloMosaic.ValueIdx
open Cert.Rms
open Cert.Mixers
open scoped BigOperators

variable (x0 : S1024x1024.Idx → EReal) (x1 : S1024x256.Idx → EReal) (x2 x3 : S1024x384.Idx → EReal) (x4 : S1024x2816.Idx → EReal)
  (x5 : S1024x1024.Idx → EReal) (x6 : S1024.Idx → EReal)

/-- A row of the first output. -/
theorem row_eq (i : Fin 1024) (j : Fin 1024) :
    val_main_v6 (F := Ideal) x0 x1 x2 x3 x4 x5 (ix2 i j) = mixed (fun k => x0 (ix2 i k)) (fun k => x1 (ix2 i k)) (fun k => x2 (ix2 i k))
      (fun k => x3 (ix2 i k)) (fun k => x4 (ix2 i (⟨2304 + k.val, by omega⟩ : Fin 2816))) (fun k j => x5 (ix2 k j)) j :=
  Cert.Mixers.host_mixed x0 x1 x2 x3 x4 _ _ _ _ _ i j

/-- The second output is the norm of the first. -/
theorem norm_eq (i : Fin 1024) (j : Fin 1024) :
    val_main_v19 (F := Ideal) x0 x1 x2 x3 x4 x5 x6 (ix2 i j) = norm (fun k => val_main_v6 (F := Ideal) x0 x1 x2 x3 x4 x5 (ix2 i k)) (fun k => x6 (ix1 k)) j :=
  host_norm_apply (val_main_v6 (F := Ideal) x0 x1 x2 x3 x4 x5) (val_main_v14 (F := Ideal) x0 x1 x2 x3 x4 x5) x6 _ _ _ i j (host_scale_apply _ _ _ _ _ _ i)

/-- An index from its coordinates. -/
theorem split (y : S1024x1024.Idx) : ∃ (i : Fin 1024) (j : Fin 1024), y = ix2 i j :=
  ⟨y 0, y 1, funext fun b => by match b with | ⟨0, _⟩ => rfl | ⟨1, _⟩ => rfl⟩

open Cert.Kernel7Ideal.Proj (xA aA bA oA zA wA gA outX outN)

variable (m : (ℓ : Loc Cert.Kernel7Ideal.nD Cert.Kernel7Ideal.τ Cert.Kernel7Ideal.sig) → Buf (Elt Ideal) ℓ) (c : Dev Cert.Kernel7Ideal.nD)

/-- The output arrays agree. -/
theorem same_x : val_main_v6 (F := Ideal) (xA m c) (aA m c) (bA m c) (oA m c) (zA m c) (wA m c) = outX m c := by
  funext y
  obtain ⟨i, j, rfl⟩ := split y
  exact row_eq (xA m c) (aA m c) (bA m c) (oA m c) (zA m c) (wA m c) i j
theorem same_n : val_main_v19 (F := Ideal) (xA m c) (aA m c) (bA m c) (oA m c) (zA m c) (wA m c) (gA m c) = outN m c := by
  funext y
  obtain ⟨i, j, rfl⟩ := split y
  refine (norm_eq (xA m c) (aA m c) (bA m c) (oA m c) (zA m c) (wA m c) (gA m c) i j).trans ?_
  exact congrArg (fun r => norm r _ j) (funext fun k => row_eq (xA m c) (aA m c) (bA m c) (oA m c) (zA m c) (wA m c) i k)

end Cert.Reference7Ideal.Proj

end
-- ==== Proof.lean ====
/- The proof of the claims about the attention call and the projections around it. -/
module

public import proofs.«01_k».proof.Defs
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_handed_over
public import proofs.«01_k».proof.Proof.Handed
public import proofs.«01_k».proof.Proof.Attention
public import proofs.«01_k».proof.Proof.Kernel.Launch
public import proofs.«01_k».proof.Proof.KernelIdeal.Launch
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.InProjRef
public import proofs.«01_k».proof.Proof.OutProjRef
public import proofs.«01_k».proof.Proof.PrepSampleRef
public import proofs.«01_k».proof.Proof.InProjSampleRef
public import proofs.«01_k».proof.Proof.OutProjSampleRef
public import Idealize.ShloMosaic.Adequacy
public import Idealize.ShloMosaic.Init
public import Idealize.ShloMosaic.Lib.Quiescent

@[expose] public section

noncomputable section

namespace Cert.Proof

open Idealize.ShloMosaic Idealize.SL.Sem

/-- The reference ends with its arguments unchanged; it has no semaphore. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The attention call computes the reference's attention: the kernel's entry arrays are the arguments, which the precondition
    makes real numbers and rows of ones. -/
theorem attention : Cert.algebraic_KernelIdeal_ReferenceIdeal_pre_handed_over (hKernelIdeal := Cert.KernelIdeal.Gen.facts)
    (hReferenceIdeal := Cert.ReferenceIdeal.Gen.facts) (hPre_handed_over := Cert.Pre_handed_over.Gen.facts) := fun m g m' g' hp ha => by
  have e0 := fun c => Cert.KernelIdeal.Attn.V_of m c Cert.KernelIdeal.main_arg0 (by decide) (by decide)
  have e1 := fun c => Cert.KernelIdeal.Attn.V_of m c Cert.KernelIdeal.main_arg1 (by decide) (by decide)
  have e2 := fun c => Cert.KernelIdeal.Attn.V_of m c Cert.KernelIdeal.main_arg2 (by decide) (by decide)
  have hp := fun c => Cert.Pre_handed_over.Attn.handed _ _ _ (hp c)
  have hq : ∀ c i, Cert.KernelIdeal.Attn.qA (Cert.KernelIdeal.Attn.V m) c i = ((Cert.KernelIdeal.Attn.qA (Cert.KernelIdeal.Attn.V m) c i).toReal : EReal) := fun c => by
    unfold Cert.KernelIdeal.Attn.qA; rw [e0]; exact (hp c).1
  have hk : ∀ c i, Cert.KernelIdeal.Attn.kA (Cert.KernelIdeal.Attn.V m) c i = ((Cert.KernelIdeal.Attn.kA (Cert.KernelIdeal.Attn.V m) c i).toReal : EReal) := fun c => by
    unfold Cert.KernelIdeal.Attn.kA; rw [e1]; exact (hp c).2.1
  have hv : ∀ c (h : Fin 6) (j : Fin 16384), Cert.KernelIdeal.Attn.vA (Cert.KernelIdeal.Attn.V m) c (ValueIdx.ix2 (Cert.KernelIdeal.Attn.vrow h Cert.KernelIdeal.Attn.r64) j) = 1 := fun c => by
    unfold Cert.KernelIdeal.Attn.vA; rw [e2]; exact (hp c).2.2
  refine ⟨fun c => Cert.KernelIdeal.Attn.outG (Cert.KernelIdeal.Attn.V m) c, (θ_run Cert.KernelIdeal.defs _ _).mono (fun r h c =>
    ⟨(h.1 c (3 : Fin 4)).trans (Cert.KernelIdeal.Attn.out_eq _ c (Cert.Attention.real_scores _ c (hq c) (hk c))),
      (h.1 c (0 : Fin 4)).trans (Cert.KernelIdeal.Attn.arg_kept m c 0 rfl (by decide) (by decide)),
      (h.1 c (1 : Fin 4)).trans (Cert.KernelIdeal.Attn.arg_kept m c 1 rfl (by decide) (by decide)),
      (h.1 c (2 : Fin 4)).trans (Cert.KernelIdeal.Attn.arg_kept m c 2 rfl (by decide) (by decide))⟩) (Cert.KernelIdeal.Attn.run_main m g),
    (θ_run Cert.ReferenceIdeal.defs _ _).mono (fun r h c => ⟨(h c).1.trans ?_, (h c).2⟩) (Cert.ReferenceIdeal.Value.run (F := Ideal) m' g')⟩
  refine (Cert.ReferenceIdeal.Read.val_main_v31_eq m' c).trans ?_
  refine Eq.trans ?_ (Cert.Attention.same _ c (hq c) (hk c) (hv c))
  unfold Cert.KernelIdeal.Attn.qA Cert.KernelIdeal.Attn.kA Cert.KernelIdeal.Attn.vA
  rw [e0, e1, e2, (ha c).1, (ha c).2.1, (ha c).2.2]

theorem frame_ref2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_ref3 : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem frame_ref4 : Cert.quiescent_Reference4Ideal (hReference4Ideal := Cert.Reference4Ideal.Gen.facts) := fun m ρ _ =>
  (θ_run Cert.Reference4Ideal.defs _ _).mono (fun r h => ⟨fun c => (h c).2.2.2, sem_eq_zero_of_no_sems (by decide) r.2⟩)
    (Cert.Reference4Ideal.Value.run (F := Ideal) m ρ)

theorem frame_ref6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

theorem frame_ref7 : Cert.quiescent_Reference7Ideal (hReference7Ideal := Cert.Reference7Ideal.Gen.facts) := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- The input projection computes the reference's. -/
theorem in_proj : Cert.algebraic_Kernel2Ideal_Reference2Ideal (hKernel2Ideal := Cert.Kernel2Ideal.Gen.facts)
    (hReference2Ideal := Cert.Reference2Ideal.Gen.facts) := fun m g m' g' _ ha => by
  refine ⟨fun c => Cert.Kernel2Ideal.Proj.outG m c,
    (θ_run Cert.Kernel2Ideal.defs _ _).mono (fun r h c => ⟨(h c).1.trans (Cert.Kernel2Ideal.Proj.out_eq m c), (h c).2⟩) (Cert.Kernel2Ideal.Value.run_blocks m g),
    (θ_run Cert.Reference2Ideal.defs _ _).mono (fun r h c => ⟨(h c).1.trans ?_, (h c).2⟩) (Cert.Reference2Ideal.Value.run (F := Ideal) m' g')⟩
  refine (Cert.Reference2Ideal.Read.val_main_v14_eq _ _ _).trans (Eq.trans ?_ (Cert.Reference2Ideal.Proj.same m c))
  rw [(ha c).1, (ha c).2.1, (ha c).2.2]

/-- The output projection, with the final norm, computes the reference's two results. -/
theorem out_proj : Cert.algebraic_Kernel3Ideal_Reference3Ideal (hKernel3Ideal := Cert.Kernel3Ideal.Gen.facts)
    (hReference3Ideal := Cert.Reference3Ideal.Gen.facts) := fun m g m' g' _ ha => by
  refine ⟨fun c => Cert.Kernel3Ideal.Proj.outX m c, fun c => Cert.Kernel3Ideal.Proj.outN m c,
    (θ_run Cert.Kernel3Ideal.defs _ _).mono (fun r h c => ⟨(h c).1.trans (Cert.Kernel3Ideal.Proj.outX_eq m c), (h c).2.1.trans (Cert.Kernel3Ideal.Proj.outN_eq m c), (h c).2.2⟩)
      (Cert.Kernel3Ideal.Value.run_blocks m g),
    (θ_run Cert.Reference3Ideal.defs _ _).mono (fun r h c => ⟨(h c).1.trans ?_, (h c).2.1.trans ?_, (h c).2.2⟩) (Cert.Reference3Ideal.Value.run (F := Ideal) m' g')⟩
  · refine (Cert.Reference3Ideal.Read.val_main_v6_eq _ _ _ _ _ _).trans (Eq.trans ?_ (Cert.Reference3Ideal.Proj.same_x m c))
    rw [(ha c).1, (ha c).2.1, (ha c).2.2.1, (ha c).2.2.2.1, (ha c).2.2.2.2.1, (ha c).2.2.2.2.2.1]
  · refine (Cert.Reference3Ideal.Read.val_main_v19_eq _ _ _ _ _ _ _).trans (Eq.trans ?_ (Cert.Reference3Ideal.Proj.same_n m c))
    rw [(ha c).1, (ha c).2.1, (ha c).2.2.1, (ha c).2.2.2.1, (ha c).2.2.2.2.1, (ha c).2.2.2.2.2.1, (ha c).2.2.2.2.2.2]

/-- The samples' queries and latents are the reference's. -/
theorem prep_sample : Cert.algebraic_Kernel4Ideal_Reference4Ideal (hKernel4Ideal := Cert.Kernel4Ideal.Gen.facts)
    (hReference4Ideal := Cert.Reference4Ideal.Gen.facts) := fun m g m' g' _ ha => by
  refine ⟨fun c => Cert.Kernel4Ideal.Prep.outC m c, fun c => Cert.Kernel4Ideal.Prep.outK m c, fun c => Cert.Kernel4Ideal.Prep.outQ m c,
    (θ_run Cert.Kernel4Ideal.defs _ _).mono (fun r h c => ⟨(h c).1.trans (Cert.Kernel4Ideal.Prep.outC_eq m c), (h c).2.1.trans (Cert.Kernel4Ideal.Prep.outK_eq m c),
      (h c).2.2.1.trans (Cert.Kernel4Ideal.Prep.outQ_eq m c), (h c).2.2.2⟩) (Cert.Kernel4Ideal.Value.run_blocks m g),
    (θ_run Cert.Reference4Ideal.defs _ _).mono (fun r h c => ⟨(h c).1.trans ?_, (h c).2.1.trans ?_, (h c).2.2.1.trans ?_, (h c).2.2.2⟩) (Cert.Reference4Ideal.Value.run (F := Ideal) m' g')⟩
  · refine (Cert.Reference4Ideal.Read.val_main_v70_eq _ _).trans (Eq.trans ?_ (Cert.Reference4Ideal.Prep.same_c m c))
    rw [(ha c).1, (ha c).2.2.1]
  · refine (Cert.Reference4Ideal.Read.val_main_v96_eq m' c).trans (Eq.trans ?_ (Cert.Reference4Ideal.Prep.same_k m c))
    rw [(ha c).1]
  · refine (Cert.Reference4Ideal.Read.val_main_v102_eq m' c).trans (Eq.trans ?_ (Cert.Reference4Ideal.Prep.same_q m c))
    rw [(ha c).1, (ha c).2.1, (ha c).2.2.2.1, (ha c).2.2.2.2]
/-- The input projection of the samples computes the reference's. -/
theorem in_proj_sample : Cert.algebraic_Kernel6Ideal_Reference6Ideal (hKernel6Ideal := Cert.Kernel6Ideal.Gen.facts)
    (hReference6Ideal := Cert.Reference6Ideal.Gen.facts) := fun m g m' g' _ ha => by
  refine ⟨fun c => Cert.Kernel6Ideal.Proj.outG m c,
    (θ_run Cert.Kernel6Ideal.defs _ _).mono (fun r h c => ⟨(h c).1.trans (Cert.Kernel6Ideal.Proj.out_eq m c), (h c).2⟩) (Cert.Kernel6Ideal.Value.run_blocks m g),
    (θ_run Cert.Reference6Ideal.defs _ _).mono (fun r h c => ⟨(h c).1.trans ?_, (h c).2⟩) (Cert.Reference6Ideal.Value.run (F := Ideal) m' g')⟩
  refine (Cert.Reference6Ideal.Read.val_main_v14_eq _ _ _).trans (Eq.trans ?_ (Cert.Reference6Ideal.Proj.same m c))
  rw [(ha c).1, (ha c).2.1, (ha c).2.2]

/-- The output projection of the samples, with the final norm, computes the reference's two results. -/
theorem out_proj_sample : Cert.algebraic_Kernel7Ideal_Reference7Ideal (hKernel7Ideal := Cert.Kernel7Ideal.Gen.facts)
    (hReference7Ideal := Cert.Reference7Ideal.Gen.facts) := fun m g m' g' _ ha => by
  refine ⟨fun c => Cert.Kernel7Ideal.Proj.outX m c, fun c => Cert.Kernel7Ideal.Proj.outN m c,
    (θ_run Cert.Kernel7Ideal.defs _ _).mono (fun r h c => ⟨(h c).1.trans (Cert.Kernel7Ideal.Proj.outX_eq m c), (h c).2.1.trans (Cert.Kernel7Ideal.Proj.outN_eq m c), (h c).2.2⟩)
      (Cert.Kernel7Ideal.Value.run_blocks m g),
    (θ_run Cert.Reference7Ideal.defs _ _).mono (fun r h c => ⟨(h c).1.trans ?_, (h c).2.1.trans ?_, (h c).2.2⟩) (Cert.Reference7Ideal.Value.run (F := Ideal) m' g')⟩
  · refine (Cert.Reference7Ideal.Read.val_main_v6_eq _ _ _ _ _ _).trans (Eq.trans ?_ (Cert.Reference7Ideal.Proj.same_x m c))
    rw [(ha c).1, (ha c).2.1, (ha c).2.2.1, (ha c).2.2.2.1, (ha c).2.2.2.2.1, (ha c).2.2.2.2.2.1]
  · refine (Cert.Reference7Ideal.Read.val_main_v19_eq _ _ _ _ _ _ _).trans (Eq.trans ?_ (Cert.Reference7Ideal.Proj.same_n m c))
    rw [(ha c).1, (ha c).2.1, (ha c).2.2.1, (ha c).2.2.2.1, (ha c).2.2.2.2.1, (ha c).2.2.2.2.2.1, (ha c).2.2.2.2.2.2]

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_handed_over.Gen.facts,
    fun m ρ _ => Cert.Kernel.Attn.frame m ρ, fun m ρ _ => Cert.KernelIdeal.Attn.frame m ρ, fun m ρ _ => Cert.KernelIdeal.Attn.frame m ρ,
    frame_ref, fun m ρ _ => frame_ref m ρ trivial,
    fun m ρ _ => Cert.Kernel2.Gen.frame m ρ, fun m ρ _ => Cert.Kernel2Ideal.Gen.frame m ρ, frame_ref2,
    fun m ρ _ => Cert.Kernel3.Gen.frame m ρ, fun m ρ _ => Cert.Kernel3Ideal.Gen.frame m ρ, frame_ref3,
    fun m ρ _ => Cert.Kernel4.Gen.frame m ρ, fun m ρ _ => Cert.Kernel4Ideal.Gen.frame m ρ, frame_ref4,
    fun m ρ _ => Cert.Kernel6.Gen.frame m ρ, fun m ρ _ => Cert.Kernel6Ideal.Gen.frame m ρ, frame_ref6,
    fun m ρ _ => Cert.Kernel7.Gen.frame m ρ, fun m ρ _ => Cert.Kernel7Ideal.Gen.frame m ρ, frame_ref7,
    trivial, attention, trivial, in_proj, trivial, out_proj, trivial, prep_sample, trivial, in_proj_sample, trivial, out_proj_sample⟩

end Cert.Proof

end
